-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Kernel2Ideal_tiles_in_order [hPre_tiles_in_order : Cert.Pre_tiles_in_order.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_order.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_order [hPre_tiles_in_order : Cert.Pre_tiles_in_order.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_order.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_tiles_in_order [hKernel2Ideal : Cert.Kernel2Ideal.Facts] [hPre_tiles_in_order : Cert.Pre_tiles_in_order.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_tiles_in_order m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tiles_in_order [hReference2Ideal : Cert.Reference2Ideal.Facts] [hPre_tiles_in_order : Cert.Pre_tiles_in_order.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_order m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_tiles_in_order [hKernel2Ideal : Cert.Kernel2Ideal.Facts] [hReference2Ideal : Cert.Reference2Ideal.Facts] [hPre_tiles_in_order : Cert.Pre_tiles_in_order.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_tiles_in_order m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_v96) = v2 c
          ∧ r.2.mem ((c.tc : Thread Cert.Reference3Ideal.nD Cert.Reference3Ideal.τ).loc Cert.Reference3Ideal.main_v97) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_queries_keys : Cert.Pre_finite_queries_keys.Facts) (hPre_experts_in_range : Cert.Pre_experts_in_range.Facts) (hPre_tiles_in_order : Cert.Pre_tiles_in_order.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Kernel2Ideal_pre_tiles_in_order (hKernel2Ideal := hKernel2Ideal) (hPre_tiles_in_order := hPre_tiles_in_order)
    ∧ quiescent_Reference2Ideal (hReference2Ideal := hReference2Ideal)
    ∧ quiescent_Reference2Ideal_pre_tiles_in_order (hReference2Ideal := hReference2Ideal) (hPre_tiles_in_order := hPre_tiles_in_order)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Kernel2_Kernel2Ideal
    ∧ algebraic_Kernel2Ideal_Reference2Ideal_pre_tiles_in_order (hKernel2Ideal := hKernel2Ideal) (hReference2Ideal := hReference2Ideal) (hPre_tiles_in_order := hPre_tiles_in_order)
    ∧ preserves_Kernel3_Kernel3Ideal
    ∧ algebraic_Kernel3Ideal_Reference3Ideal (hKernel3Ideal := hKernel3Ideal) (hReference3Ideal := hReference3Ideal)
-- ==== Pre_experts_in_range.lean ====
abbrev S80 : Shape := ⟨1, ![80]⟩
abbrev S327680x128 : Shape := ⟨2, ![327680, 128]⟩
abbrev S4x16x2048x512 : Shape := ⟨4, ![4, 16, 2048, 512]⟩
abbrev S4x16x512x2048 : Shape := ⟨4, ![4, 16, 512, 2048]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel

variable [Facts]

def fn {F : FTy → Type} [FloatOps F] (main_arg0 : IVec S80 32) (main_arg1 : IVec S80 32) (main_arg2 : FVec F S327680x128 .f32) (main_arg3 : FVec F S4x16x2048x512 .f32) (main_arg4 : FVec F S4x16x2048x512 .f32) (main_arg5 : FVec F S4x16x512x2048 .f32) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  main_v5
-- ==== Pre_finite_queries_keys.lean ====
abbrev S8192x1024 : Shape := ⟨2, ![8192, 1024]⟩
abbrev S8192x256 : Shape := ⟨2, ![8192, 256]⟩
abbrev S4x1x1024 : Shape := ⟨3, ![4, 1, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S8192x1024 .bf16) (main_arg1 : FVec F S8192x256 .bf16) (main_arg2 : FVec F S8192x256 .bf16) (main_arg3 : FVec F S4x1x1024 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x256 .f32 := (extf .f32 · bitsLt_bf16_f32) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  main_v10
-- ==== Pre_tiles_in_order.lean ====
abbrev S80 : Shape := ⟨1, ![80]⟩
abbrev S327680x128 : Shape := ⟨2, ![327680, 128]⟩
abbrev S4x16x2048x512 : Shape := ⟨4, ![4, 16, 2048, 512]⟩
abbrev S4x16x512x2048 : Shape := ⟨4, ![4, 16, 512, 2048]⟩
abbrev S_ : Shape := ⟨0, ![]⟩
abbrev S79 : Shape := ⟨1, ![79]⟩

class Facts : Prop where
  bcast_S_S80 : S_.BroadcastsInDim S80 (![] : Fin 0 → Fin S80.rank)
  reducesTo_S80_S_d0 : S80.ReducesTo [0] S_
  h_S_ : 0 < S_.numel
  slices_S80_S79_1 : S80.Slices ![1] S79
  slices_S80_S79_0 : S80.Slices ![0] S79
  bcast_S_S79 : S_.BroadcastsInDim S79 (![] : Fin 0 → Fin S79.rank)
  reducesTo_S79_S_d0 : S79.ReducesTo [0] S_

variable [Facts]

def fn_part1 {F : FTy → Type} [FloatOps F] (main_v9 : IVec S_ 1) (main_v16 : IVec S79 1) (main_v17 : IVec S79 32) : IVec S_ 1 :=
  let main_c_5 : IVec S_ 32 := constantI S_ 32 0#32
  let main_v18 : IVec S79 32 := broadcastInDim S79 ![] bcast_S_S79 main_c_5
  let main_v19 : IVec S79 1 := cmpi .sgt main_v17 main_v18
  let main_v20 : IVec S79 1 := ori main_v16 main_v19
  let main_c_6 : IVec S_ 1 := constantI S_ 1 1#1
  let main_v21 : IVec S_ 1 := (fun x v => Host.reduce IntOp.andi x v reducesTo_S79_S_d0 h_S_) main_v20 main_c_6
  let main_v22 : IVec S_ 1 := andi main_v9 main_v21
  main_v22

def fn {F : FTy → Type} [FloatOps F] (main_arg0 : IVec S80 32) (main_arg1 : IVec S80 32) (main_arg2 : FVec F S327680x128 .f32) (main_arg3 : FVec F S4x16x2048x512 .f32) (main_arg4 : FVec F S4x16x2048x512 .f32) (main_arg5 : FVec F S4x16x512x2048 .f32) : IVec S_ 1 :=
  let main_c : IVec S_ 32 := constantI S_ 32 0#32
  let main_v0 : IVec S80 32 := broadcastInDim S80 ![] bcast_S_S80 main_c
  let main_v1 : IVec S80 1 := cmpi .sge main_arg0 main_v0
  let main_c_0 : IVec S_ 32 := constantI S_ 32 16#32
  let main_v2 : IVec S80 32 := broadcastInDim S80 ![] bcast_S_S80 main_c_0
  let main_v3 : IVec S80 1 := cmpi .slt main_arg0 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 0#32
  let main_v6 : IVec S80 32 := broadcastInDim S80 ![] bcast_S_S80 main_c_2
  let main_v7 : IVec S80 1 := cmpi .sge main_arg1 main_v6
  let main_c_3 : IVec S_ 1 := constantI S_ 1 1#1
  let main_v8 : IVec S_ 1 := (fun x v => Host.reduce IntOp.andi x v reducesTo_S80_S_d0 h_S_) main_v7 main_c_3
  let main_v9 : IVec S_ 1 := andi main_v5 main_v8
  let main_v10 : IVec S79 32 := (extractStridedSlice S79 ![1] · slices_S80_S79_1) main_arg0
  let main_v11 : IVec S79 32 := (extractStridedSlice S79 ![0] · slices_S80_S79_0) main_arg0
  let main_v12 : IVec S79 1 := cmpi .ne main_v10 main_v11
  let main_v13 : IVec S79 32 := (extractStridedSlice S79 ![1] · slices_S80_S79_1) main_arg1
  let main_c_4 : IVec S_ 32 := constantI S_ 32 0#32
  let main_v14 : IVec S79 32 := broadcastInDim S79 ![] bcast_S_S79 main_c_4
  let main_v15 : IVec S79 1 := cmpi .eq main_v13 main_v14
  let main_v16 : IVec S79 1 := ori main_v12 main_v15
  let main_v17 : IVec S79 32 := (extractStridedSlice S79 ![0] · slices_S80_S79_0) main_arg1
  fn_part1 (F := F) main_v9 main_v16 main_v17
-- ==== Kernel.lean ====
abbrev S8192x1024 : Shape := ⟨2, ![8192, 1024]⟩
abbrev S8192x256 : Shape := ⟨2, ![8192, 256]⟩
abbrev S4x1x1024 : Shape := ⟨3, ![4, 1, 1024]⟩
abbrev S512x1024 : Shape := ⟨2, ![512, 1024]⟩
abbrev S4096x256 : Shape := ⟨2, ![4096, 256]⟩
abbrev S1x1x1024 : Shape := ⟨3, ![1, 1, 1024]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩
abbrev S1x1x128 : Shape := ⟨3, ![1, 1, 128]⟩
abbrev S1x128 : Shape := ⟨2, ![1, 128]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S4x1x1024, .f32⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1x1x1024, .f32⟩
  | .local _ .vmem, ⟨7, _⟩ => ⟨S512x1024, .bf16⟩
  | .local _ .vmem, ⟨8, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x1024 : Shape := ⟨2, ![8192, 1024]⟩
abbrev S8192x256 : Shape := ⟨2, ![8192, 256]⟩
abbrev S4x1x1024 : Shape := ⟨3, ![4, 1, 1024]⟩
abbrev S2x4096x2x4x128 : Shape := ⟨5, ![2, 4096, 2, 4, 128]⟩
abbrev S2x4096x2x128 : Shape := ⟨4, ![2, 4096, 2, 128]⟩
abbrev S2x2x4096x4096x4 : Shape := ⟨5, ![2, 2, 4096, 4096, 4]⟩
abbrev S2x2x4x4096x4096 : Shape := ⟨5, ![2, 2, 4, 4096, 4096]⟩
abbrev S_ : Shape := ⟨0, ![]⟩
abbrev S2x2x4x4096 : Shape := ⟨4, ![2, 2, 4, 4096]⟩
abbrev S2x2x4x4096x1 : Shape := ⟨5, ![2, 2, 4, 4096, 1]⟩
abbrev S2x2x128x4x4096 : Shape := ⟨5, ![2, 2, 128, 4, 4096]⟩
abbrev S8192 : Shape := ⟨1, ![8192]⟩
abbrev S8192x1 : Shape := ⟨2, ![8192, 1]⟩
abbrev S1x1x1024 : Shape := ⟨3, ![1, 1, 1024]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .bf16⟩
  | .hbm, ⟨3, _⟩ => ⟨S4x1x1024, .f32⟩
  | .hbm, ⟨4, _⟩ => ⟨S8192x1024, .f32⟩
  | .hbm, ⟨5, _⟩ => ⟨S2x4096x2x4x128, .f32⟩
  | .hbm, ⟨6, _⟩ => ⟨S8192x256, .f32⟩
  | .hbm, ⟨7, _⟩ => ⟨S2x4096x2x128, .f32⟩
  | .hbm, ⟨8, _⟩ => ⟨S8192x256, .f32⟩
  | .hbm, ⟨9, _⟩ => ⟨S2x4096x2x128, .f32⟩
  | .hbm, ⟨10, _⟩ => ⟨S2x2x4096x4096x4, .f32⟩
  | .hbm, ⟨11, _⟩ => ⟨S2x2x4x4096x4096, .f32⟩
  | .hbm, ⟨12, _⟩ => ⟨S_, .f32⟩
  | .hbm, ⟨13, _⟩ => ⟨S2x2x4x4096, .f32⟩
  | .hbm, ⟨14, _⟩ => ⟨S_, .f32⟩
  | .hbm, ⟨15, _⟩ => ⟨S2x2x4x4096, .f32⟩
  | .hbm, ⟨16, _⟩ => ⟨S2x2x4x4096, .f32⟩
  | .hbm, ⟨17, _⟩ => ⟨S2x2x4x4096x1, .f32⟩
  | .hbm, ⟨18, _⟩ => ⟨S2x2x4x4096x4096, .f32⟩
  | .hbm, ⟨19, _⟩ => ⟨S2x2x4x4096x4096, .f32⟩
  | .hbm, ⟨20, _⟩ => ⟨S2x2x4x4096x4096, .f32⟩
  | .hbm, ⟨21, _⟩ => ⟨S_, .f32⟩
  | .hbm, ⟨22, _⟩ => ⟨S2x2x4x4096, .f32⟩
  | .hbm, ⟨23, _⟩ => ⟨S2x2x4x4096x1, .f32⟩
  | .hbm, ⟨24, _⟩ => ⟨S2x2x4x4096x4096, .f32⟩
  | .hbm, ⟨25, _⟩ => ⟨S2x2x4x4096x4096, .f32⟩
  | .hbm, ⟨26, _⟩ => ⟨S2x2x128x4x4096, .f32⟩
  | .hbm, ⟨27, _⟩ => ⟨S2x4096x2x4x128, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S1x1x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel2.lean ====
abbrev S80 : Shape := ⟨1, ![80]⟩
abbrev S327680x128 : Shape := ⟨2, ![327680, 128]⟩
abbrev S4x16x2048x512 : Shape := ⟨4, ![4, 16, 2048, 512]⟩
abbrev S4x16x512x2048 : Shape := ⟨4, ![4, 16, 512, 2048]⟩
abbrev S4096x128 : Shape := ⟨2, ![4096, 128]⟩
abbrev S1x1x2048x512 : Shape := ⟨4, ![1, 1, 2048, 512]⟩
abbrev S1 : Shape := ⟨1, ![1]⟩
abbrev S1x1x512x2048 : Shape := ⟨4, ![1, 1, 512, 2048]⟩
abbrev S256x2048 : Shape := ⟨2, ![256, 2048]⟩
abbrev S2048x512 : Shape := ⟨2, ![2048, 512]⟩
abbrev S512x2048 : Shape := ⟨2, ![512, 2048]⟩
abbrev S256x128 : Shape := ⟨2, ![256, 128]⟩
abbrev S256x512 : Shape := ⟨2, ![256, 512]⟩
abbrev S512x512 : Shape := ⟨2, ![512, 512]⟩

abbrev nBuf : Space → Nat
  | .hbm => 5
  | .vmem => 14
  | .smem => 2
  | _ => 0

abbrev bufTy : (tb : Table) → Fin (tcTables nBuf tb) → BufTy
  | .hbm, ⟨0, _⟩ => ⟨S327680x128, .f32⟩
  | .hbm, ⟨1, _⟩ => ⟨S4x16x2048x512, .f32⟩
  | .hbm, ⟨2, _⟩ => ⟨S4x16x2048x512, .f32⟩
  | .hbm, ⟨3, _⟩ => ⟨S4x16x512x2048, .f32⟩
  | .hbm, ⟨4, _⟩ => ⟨S327680x128, .f32⟩
  | .local _ .vmem, ⟨0, _⟩ => ⟨S4096x128, .f32⟩
  | .local _ .vmem, ⟨1, _⟩ => ⟨S4096x128, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x512x2048, .f32⟩
  | .local _ .vmem, ⟨7, _⟩ => ⟨S1x1x512x2048, .f32⟩
  | .local _ .vmem, ⟨8, _⟩ => ⟨S4096x128, .f32⟩
  | .local _ .vmem, ⟨9, _⟩ => ⟨S4096x128, .f32⟩
  | .local _ .vmem, ⟨10, _⟩ => ⟨S256x2048, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .smem, ⟨0, _⟩ => ⟨S80, .i32⟩
  | .local _ .smem, ⟨1, _⟩ => ⟨S80, .i32⟩
  | _, _ => ⟨S327680x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v7 : Index := Scalar.indexCast arg0
  ![v7.toNat]
def k0_off3 (i : grid0.Coords) : Fin 1 → Nat :=
  let arg0 : BitVec 32 := BitVec.ofNat 32 (i 0).val
  let c1_i32 : BitVec 32 := 1#32
  let v9 : BitVec 32 := Scalar.subi arg0 c1_i32
  let c0_i32_3 : BitVec 32 := 0#32
  let v10 : BitVec 32 := Scalar.maxsi v9 c0_i32_3
  let v11 : Index := Scalar.indexCast v10
  ![v11.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond3 (v1 : BitVec 32) : BitVec 1 :=
  let c0_i32_5 : BitVec 32 := 0#32
  let v18 : BitVec 1 := Scalar.cmpi .sgt v1 c0_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S80 : Shape := ⟨1, ![80]⟩
abbrev S327680x128 : Shape := ⟨2, ![327680, 128]⟩
abbrev S4x16x2048x512 : Shape := ⟨4, ![4, 16, 2048, 512]⟩
abbrev S4x16x512x2048 : Shape := ⟨4, ![4, 16, 512, 2048]⟩
abbrev S20480x2048 : Shape := ⟨2, ![20480, 2048]⟩
abbrev S20480 : Shape := ⟨1, ![20480]⟩
abbrev S_ : Shape := ⟨0, ![]⟩
abbrev S20480x1 : Shape := ⟨2, ![20480, 1]⟩
abbrev S1x16 : Shape := ⟨2, ![1, 16]⟩
abbrev S20480x16 : Shape := ⟨2, ![20480, 16]⟩
abbrev S1x16x2048x512 : Shape := ⟨4, ![1, 16, 2048, 512]⟩
abbrev S16x2048x512 : Shape := ⟨3, ![16, 2048, 512]⟩
abbrev S16x512x20480 : Shape := ⟨3, ![16, 512, 20480]⟩
abbrev S16x20480x512 : Shape := ⟨3, ![16, 20480, 512]⟩
abbrev S16x20480 : Shape := ⟨2, ![16, 20480]⟩
abbrev S16x20480x1 : Shape := ⟨3, ![16, 20480, 1]⟩
abbrev S1x16x512x2048 : Shape := ⟨4, ![1, 16, 512, 2048]⟩
abbrev S16x512x2048 : Shape := ⟨3, ![16, 512, 2048]⟩

abbrev nBuf : Space → Nat
  | .hbm => 121
  | .vmem => 0
  | .smem => 0
  | _ => 0

abbrev bufTy : (tb : Table) → Fin (tcTables nBuf tb) → BufTy
  | .hbm, ⟨0, _⟩ => ⟨S80, .i32⟩
  | .hbm, ⟨1, _⟩ => ⟨S80, .i32⟩
  | .hbm, ⟨2, _⟩ => ⟨S327680x128, .f32⟩
  | .hbm, ⟨3, _⟩ => ⟨S4x16x2048x512, .f32⟩
  | .hbm, ⟨4, _⟩ => ⟨S4x16x2048x512, .f32⟩
  | .hbm, ⟨5, _⟩ => ⟨S4x16x512x2048, .f32⟩
  | .hbm, ⟨6, _⟩ => ⟨S20480x2048, .f32⟩
  | .hbm, ⟨7, _⟩ => ⟨S20480, .i32⟩
  | .hbm, ⟨8, _⟩ => ⟨S_, .i32⟩
  | .hbm, ⟨9, _⟩ => ⟨S_, .i32⟩
  | .hbm, ⟨10, _⟩ => ⟨S20480, .i32⟩
  | .hbm, ⟨11, _⟩ => ⟨S20480, .i32⟩
  | .hbm, ⟨12, _⟩ => ⟨S20480, .i32⟩
  | .hbm, ⟨13, _⟩ => ⟨S_, .i32⟩
  | .hbm, ⟨14, _⟩ => ⟨S20480, .i32⟩
  | .hbm, ⟨15, _⟩ => ⟨S20480, .i1⟩
  | .hbm, ⟨16, _⟩ => ⟨S20480, .i32⟩
  | .hbm, ⟨17, _⟩ => ⟨S20480, .i32⟩
  | .hbm, ⟨18, _⟩ => ⟨S_, .i32⟩
  | .hbm, ⟨19, _⟩ => ⟨S20480, .i32⟩
  | .hbm, ⟨20, _⟩ => ⟨S20480, .i1⟩
  | .hbm, ⟨21, _⟩ => ⟨S20480, .i1⟩
  | .hbm, ⟨22, _⟩ => ⟨S_, .i32⟩
  | .hbm, ⟨23, _⟩ => ⟨S20480, .i32⟩
  | .hbm, ⟨24, _⟩ => ⟨S20480, .i32⟩
  | .hbm, ⟨25, _⟩ => ⟨S20480, .i32⟩
  | .hbm, ⟨26, _⟩ => ⟨S_, .i32⟩
  | .hbm, ⟨27, _⟩ => ⟨S20480, .i32⟩
  | .hbm, ⟨28, _⟩ => ⟨S20480, .i1⟩
  | .hbm, ⟨29, _⟩ => ⟨S_, .i32⟩
  | .hbm, ⟨30, _⟩ => ⟨S20480, .i32⟩
  | .hbm, ⟨31, _⟩ => ⟨S20480, .i32⟩
  | .hbm, ⟨32, _⟩ => ⟨S20480, .i32⟩
  | .hbm, ⟨33, _⟩ => ⟨S20480x1, .i32⟩
  | .hbm, ⟨34, _⟩ => ⟨S20480, .i32⟩
  | .hbm, ⟨35, _⟩ => ⟨S20480x1, .i32⟩
  | .hbm, ⟨36, _⟩ => ⟨S1x16, .i32⟩
  | .hbm, ⟨37, _⟩ => ⟨S20480x16, .i32⟩
  | .hbm, ⟨38, _⟩ => ⟨S20480x16, .i32⟩
  | .hbm, ⟨39, _⟩ => ⟨S20480x16, .i1⟩
  | .hbm, ⟨40, _⟩ => ⟨S20480x16, .f32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S20480, .i32⟩
  | .hbm, ⟨48, _⟩ => ⟨S20480, .i32⟩
  | .hbm, ⟨49, _⟩ => ⟨S_, .i32⟩
  | .hbm, ⟨50, _⟩ => ⟨S20480, .i32⟩
  | .hbm, ⟨51, _⟩ => ⟨S20480, .i1⟩
  | .hbm, ⟨52, _⟩ => ⟨S_, .i32⟩
  | .hbm, ⟨53, _⟩ => ⟨S20480, .i32⟩
  | .hbm, ⟨54, _⟩ => ⟨S20480, .i1⟩
  | .hbm, ⟨55, _⟩ => ⟨S_, .i32⟩
  | .hbm, ⟨56, _⟩ => ⟨S_, .i1⟩
  | .hbm, ⟨57, _⟩ => ⟨S20480, .i1⟩
  | .hbm, ⟨58, _⟩ => ⟨S20480, .i1⟩
  | .hbm, ⟨59, _⟩ => ⟨S20480, .i1⟩
  | .hbm, ⟨60, _⟩ => ⟨S20480, .i32⟩
  | .hbm, ⟨61, _⟩ => ⟨S20480, .i32⟩
  | .hbm, ⟨62, _⟩ => ⟨S20480, .i32⟩
  | .hbm, ⟨63, _⟩ => ⟨S_, .i32⟩
  | .hbm, ⟨64, _⟩ => ⟨S_, .i32⟩
  | .hbm, ⟨65, _⟩ => ⟨S20480, .i32⟩
  | .hbm, ⟨66, _⟩ => ⟨S20480, .i32⟩
  | .hbm, ⟨67, _⟩ => ⟨S20480, .i32⟩
  | .hbm, ⟨68, _⟩ => ⟨S_, .i32⟩
  | .hbm, ⟨69, _⟩ => ⟨S20480, .i32⟩
  | .hbm, ⟨70, _⟩ => ⟨S20480, .i1⟩
  | .hbm, ⟨71, _⟩ => ⟨S20480, .i32⟩
  | .hbm, ⟨72, _⟩ => ⟨S20480, .i32⟩
  | .hbm, ⟨73, _⟩ => ⟨S_, .i32⟩
  | .hbm, ⟨74, _⟩ => ⟨S20480, .i32⟩
  | .hbm, ⟨75, _⟩ => ⟨S20480, .i1⟩
  | .hbm, ⟨76, _⟩ => ⟨S20480, .i1⟩
  | .hbm, ⟨77, _⟩ => ⟨S_, .i32⟩
  | .hbm, ⟨78, _⟩ => ⟨S20480, .i32⟩
  | .hbm, ⟨79, _⟩ => ⟨S20480, .i32⟩
  | .hbm, ⟨80, _⟩ => ⟨S20480, .i32⟩
  | .hbm, ⟨81, _⟩ => ⟨S_, .i32⟩
  | .hbm, ⟨82, _⟩ => ⟨S20480, .i32⟩
  | .hbm, ⟨83, _⟩ => ⟨S20480, .i1⟩
  | .hbm, ⟨84, _⟩ => ⟨S_, .i32⟩
  | .hbm, ⟨85, _⟩ => ⟨S20480, .i32⟩
  | .hbm, ⟨86, _⟩ => ⟨S20480, .i32⟩
  | .hbm, ⟨87, _⟩ => ⟨S20480, .i32⟩
  | .hbm, ⟨88, _⟩ => ⟨S20480x1, .i32⟩
  | .hbm, ⟨89, _⟩ => ⟨S20480, .i32⟩
  | .hbm, ⟨90, _⟩ => ⟨S20480, .i1⟩
  | .hbm, ⟨91, _⟩ => ⟨S20480x1, .i1⟩
  | .hbm, ⟨92, _⟩ => ⟨S20480x1, .f32⟩
  | .hbm, ⟨93, _⟩ => ⟨S20480x16, .f32⟩
  | .hbm, ⟨94, _⟩ => ⟨S20480x16, .f32⟩
  | .hbm, ⟨95, _⟩ => ⟨S1x16x2048x512, .f32⟩
  | .hbm, ⟨96, _⟩ => ⟨S16x2048x512, .f32⟩
  | .hbm, ⟨97, _⟩ => ⟨S16x512x20480, .f32⟩
  | .hbm, ⟨98, _⟩ => ⟨S16x20480x512, .f32⟩
  | .hbm, ⟨99, _⟩ => ⟨S16x20480x512, .f32⟩
  | .hbm, ⟨100, _⟩ => ⟨S16x20480x512, .f32⟩
  | .hbm, ⟨101, _⟩ => ⟨S_, .f32⟩
  | .hbm, ⟨102, _⟩ => ⟨S16x20480x512, .f32⟩
  | .hbm, ⟨103, _⟩ => ⟨S16x20480x512, .f32⟩
  | .hbm, ⟨104, _⟩ => ⟨S_, .f32⟩
  | .hbm, ⟨105, _⟩ => ⟨S16x20480x512, .f32⟩
  | .hbm, ⟨106, _⟩ => ⟨S16x20480x512, .f32⟩
  | .hbm, ⟨107, _⟩ => ⟨S16x20480x512, .f32⟩
  | .hbm, ⟨108, _⟩ => ⟨S1x16x2048x512, .f32⟩
  | .hbm, ⟨109, _⟩ => ⟨S16x2048x512, .f32⟩
  | .hbm, ⟨110, _⟩ => ⟨S16x512x20480, .f32⟩
  | .hbm, ⟨111, _⟩ => ⟨S16x20480x512, .f32⟩
  | .hbm, ⟨112, _⟩ => ⟨S16x20480x512, .f32⟩
  | .hbm, ⟨113, _⟩ => ⟨S16x20480, .f32⟩
  | .hbm, ⟨114, _⟩ => ⟨S16x20480x1, .f32⟩
  | .hbm, ⟨115, _⟩ => ⟨S16x20480x512, .f32⟩
  | .hbm, ⟨116, _⟩ => ⟨S16x20480x512, .f32⟩
  | .hbm, ⟨117, _⟩ => ⟨S1x16x512x2048, .f32⟩
  | .hbm, ⟨118, _⟩ => ⟨S16x512x2048, .f32⟩
  | .hbm, ⟨119, _⟩ => ⟨S20480x2048, .f32⟩
  | .hbm, ⟨120, _⟩ => ⟨S327680x128, .f32⟩
  | _, _ => ⟨S80, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v10 : Ref sig .tc := ⟨.hbm, 40, rfl⟩
abbrev main_c_2 : Ref sig .tc := ⟨.hbm, 41, rfl⟩
abbrev main_call2_v0 : Ref sig .tc := ⟨.hbm, 42, rfl⟩
abbrev main_call2_c : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_1 : Ref sig .tc := ⟨.hbm, 49, rfl⟩
abbrev main_call2_v5 : Ref sig .tc := ⟨.hbm, 50, rfl⟩
abbrev main_call2_v6 : Ref sig .tc := ⟨.hbm, 51, rfl⟩
abbrev main_call2_c_2 : Ref sig .tc := ⟨.hbm, 52, rfl⟩
abbrev main_call2_v7 : Ref sig .tc := ⟨.hbm, 53, rfl⟩
abbrev main_call2_v8 : Ref sig .tc := ⟨.hbm, 54, rfl⟩
abbrev main_call2_c_3 : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_v11 : Ref sig .tc := ⟨.hbm, 62, rfl⟩
abbrev main_c_3 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_call3_v5 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_c : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_0 : Ref sig .tc := ⟨.hbm, 77, rfl⟩
abbrev main_call3_v12 : Ref sig .tc := ⟨.hbm, 78, rfl⟩
abbrev main_call3_v13 : Ref sig .tc := ⟨.hbm, 79, rfl⟩
abbrev main_v12 : Ref sig .tc := ⟨.hbm, 80, rfl⟩
abbrev main_c_4 : Ref sig .tc := ⟨.hbm, 81, rfl⟩
abbrev main_v13 : Ref sig .tc := ⟨.hbm, 82, rfl⟩
abbrev main_v14 : Ref sig .tc := ⟨.hbm, 83, rfl⟩
abbrev main_c_5 : Ref sig .tc := ⟨.hbm, 84, rfl⟩
abbrev main_v15 : Ref sig .tc := ⟨.hbm, 85, rfl⟩
abbrev main_v16 : Ref sig .tc := ⟨.hbm, 86, rfl⟩
abbrev main_v17 : Ref sig .tc := ⟨.hbm, 87, rfl⟩
abbrev main_v18 : Ref sig .tc := ⟨.hbm, 88, rfl⟩
abbrev main_v19 : Ref sig .tc := ⟨.hbm, 89, rfl⟩
abbrev main_v20 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_v24 : Ref sig .tc := ⟨.hbm, 94, rfl⟩
abbrev main_v25 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v29 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩

abbrev nD : Nat := 1
abbrev τ : Topo := Topo.v7x

variable {F : FTy → Type} [FloatOps F]
-- ==== Kernel3.lean ====
abbrev S8192x2048 : Shape := ⟨2, ![8192, 2048]⟩
abbrev S4x2048x2560 : Shape := ⟨3, ![4, 2048, 2560]⟩
abbrev S4x1x128 : Shape := ⟨3, ![4, 1, 128]⟩
abbrev S4096x128 : Shape := ⟨2, ![4096, 128]⟩
abbrev S8192x1024 : Shape := ⟨2, ![8192, 1024]⟩
abbrev S8192x256 : Shape := ⟨2, ![8192, 256]⟩
abbrev S8x512x2048 : Shape := ⟨3, ![8, 512, 2048]⟩
abbrev S512x2048 : Shape := ⟨2, ![512, 2048]⟩
abbrev S1x2048x2560 : Shape := ⟨3, ![1, 2048, 2560]⟩
abbrev S1x1x128 : Shape := ⟨3, ![1, 1, 128]⟩
abbrev S512x128 : Shape := ⟨2, ![512, 128]⟩
abbrev S512x1024 : Shape := ⟨2, ![512, 1024]⟩
abbrev S512x256 : Shape := ⟨2, ![512, 256]⟩
abbrev S8x32x2048 : Shape := ⟨3, ![8, 32, 2048]⟩
abbrev S1x2048x256 : Shape := ⟨3, ![1, 2048, 256]⟩
abbrev S2048x256 : Shape := ⟨2, ![2048, 256]⟩
abbrev S1x128 : Shape := ⟨2, ![1, 128]⟩
abbrev S512 : Shape := ⟨1, ![512]⟩
abbrev S512x1 : Shape := ⟨2, ![512, 1]⟩
abbrev S32x128 : Shape := ⟨2, ![32, 128]⟩
abbrev S1x32x128 : Shape := ⟨3, ![1, 32, 128]⟩

abbrev nBuf : Space → Nat
  | .hbm => 10
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S4x2048x2560, .bf16⟩
  | .hbm, ⟨2, _⟩ => ⟨S4x1x128, .f32⟩
  | .hbm, ⟨3, _⟩ => ⟨S4x1x128, .f32⟩
  | .hbm, ⟨4, _⟩ => ⟨S4096x128, .f32⟩
  | .hbm, ⟨5, _⟩ => ⟨S4096x128, .f32⟩
  | .hbm, ⟨6, _⟩ => ⟨S8192x1024, .bf16⟩
  | .hbm, ⟨7, _⟩ => ⟨S8192x256, .bf16⟩
  | .hbm, ⟨8, _⟩ => ⟨S8192x256, .bf16⟩
  | .hbm, ⟨9, _⟩ => ⟨S8x512x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x2560, .bf16⟩
  | .local _ .vmem, ⟨3, _⟩ => ⟨S1x1x128, .f32⟩
  | .local _ .vmem, ⟨4, _⟩ => ⟨S1x1x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .bf16⟩
  | .local _ .vmem, ⟨10, _⟩ => ⟨S512x1024, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S8x32x2048, .bf16⟩
  | .local _ .vmem, ⟨16, _⟩ => ⟨S8x32x2048, .bf16⟩
  | .local _ .vmem, ⟨17, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8192x2048 : Shape := ⟨2, ![8192, 2048]⟩
abbrev S4x2048x2560 : Shape := ⟨3, ![4, 2048, 2560]⟩
abbrev S4x1x128 : Shape := ⟨3, ![4, 1, 128]⟩
abbrev S4096x128 : Shape := ⟨2, ![4096, 128]⟩
abbrev S1x2048x2560 : Shape := ⟨3, ![1, 2048, 2560]⟩
abbrev S2048x2560 : Shape := ⟨2, ![2048, 2560]⟩
abbrev S8192x2560 : Shape := ⟨2, ![8192, 2560]⟩
abbrev S8192x1024 : Shape := ⟨2, ![8192, 1024]⟩
abbrev S8192x256 : Shape := ⟨2, ![8192, 256]⟩
abbrev S2x4096x8x128 : Shape := ⟨4, ![2, 4096, 8, 128]⟩
abbrev S_ : Shape := ⟨0, ![]⟩
abbrev S2x4096x8 : Shape := ⟨3, ![2, 4096, 8]⟩
abbrev S2x4096x8x1 : Shape := ⟨4, ![2, 4096, 8, 1]⟩
abbrev S1x1x128 : Shape := ⟨3, ![1, 1, 128]⟩
abbrev S128 : Shape := ⟨1, ![128]⟩
abbrev S1x1x1x128 : Shape := ⟨4, ![1, 1, 1, 128]⟩
abbrev S2x4096x8x64 : Shape := ⟨4, ![2, 4096, 8, 64]⟩
abbrev S4096x1x128 : Shape := ⟨3, ![4096, 1, 128]⟩
abbrev S4096x1x64 : Shape := ⟨3, ![4096, 1, 64]⟩
abbrev S1x4096x1x64 : Shape := ⟨4, ![1, 4096, 1, 64]⟩
abbrev S2x4096x2x128 : Shape := ⟨4, ![2, 4096, 2, 128]⟩
abbrev S2x4096x2 : Shape := ⟨3, ![2, 4096, 2]⟩
abbrev S2x4096x2x1 : Shape := ⟨4, ![2, 4096, 2, 1]⟩
abbrev S2x4096x2x64 : Shape := ⟨4, ![2, 4096, 2, 64]⟩
abbrev S512x16x8x128 : Shape := ⟨4, ![512, 16, 8, 128]⟩
abbrev S8x512x16x128 : Shape := ⟨4, ![8, 512, 16, 128]⟩
abbrev S8x512x2048 : Shape := ⟨3, ![8, 512, 2048]⟩

abbrev nBuf : Space → Nat
  | .hbm => 111
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2560, .bf16⟩
  | .hbm, ⟨2, _⟩ => ⟨S4x1x128, .f32⟩
  | .hbm, ⟨3, _⟩ => ⟨S4x1x128, .f32⟩
  | .hbm, ⟨4, _⟩ => ⟨S4096x128, .f32⟩
  | .hbm, ⟨5, _⟩ => ⟨S4096x128, .f32⟩
  | .hbm, ⟨6, _⟩ => ⟨S8192x2048, .f32⟩
  | .hbm, ⟨7, _⟩ => ⟨S1x2048x2560, .bf16⟩
  | .hbm, ⟨8, _⟩ => ⟨S2048x2560, .bf16⟩
  | .hbm, ⟨9, _⟩ => ⟨S2048x2560, .f32⟩
  | .hbm, ⟨10, _⟩ => ⟨S8192x2560, .f32⟩
  | .hbm, ⟨11, _⟩ => ⟨S8192x1024, .f32⟩
  | .hbm, ⟨12, _⟩ => ⟨S8192x256, .f32⟩
  | .hbm, ⟨13, _⟩ => ⟨S8192x256, .f32⟩
  | .hbm, ⟨14, _⟩ => ⟨S8192x1024, .f32⟩
  | .hbm, ⟨15, _⟩ => ⟨S2x4096x8x128, .f32⟩
  | .hbm, ⟨16, _⟩ => ⟨S2x4096x8x128, .f32⟩
  | .hbm, ⟨17, _⟩ => ⟨S_, .f32⟩
  | .hbm, ⟨18, _⟩ => ⟨S2x4096x8, .f32⟩
  | .hbm, ⟨19, _⟩ => ⟨S2x4096x8x1, .f32⟩
  | .hbm, ⟨20, _⟩ => ⟨S_, .f32⟩
  | .hbm, ⟨21, _⟩ => ⟨S2x4096x8x1, .f32⟩
  | .hbm, ⟨22, _⟩ => ⟨S2x4096x8x1, .f32⟩
  | .hbm, ⟨23, _⟩ => ⟨S_, .f32⟩
  | .hbm, ⟨24, _⟩ => ⟨S2x4096x8x1, .f32⟩
  | .hbm, ⟨25, _⟩ => ⟨S2x4096x8x1, .f32⟩
  | .hbm, ⟨26, _⟩ => ⟨S2x4096x8x1, .f32⟩
  | .hbm, ⟨27, _⟩ => ⟨S2x4096x8x128, .f32⟩
  | .hbm, ⟨28, _⟩ => ⟨S2x4096x8x128, .f32⟩
  | .hbm, ⟨29, _⟩ => ⟨S1x1x128, .f32⟩
  | .hbm, ⟨30, _⟩ => ⟨S128, .f32⟩
  | .hbm, ⟨31, _⟩ => ⟨S1x1x1x128, .f32⟩
  | .hbm, ⟨32, _⟩ => ⟨S2x4096x8x128, .f32⟩
  | .hbm, ⟨33, _⟩ => ⟨S2x4096x8x128, .f32⟩
  | .hbm, ⟨34, _⟩ => ⟨S2x4096x8x64, .f32⟩
  | .hbm, ⟨35, _⟩ => ⟨S2x4096x8x64, .f32⟩
  | .hbm, ⟨36, _⟩ => ⟨S4096x1x128, .f32⟩
  | .hbm, ⟨37, _⟩ => ⟨S4096x1x128, .f32⟩
  | .hbm, ⟨38, _⟩ => ⟨S4096x1x64, .f32⟩
  | .hbm, ⟨39, _⟩ => ⟨S1x4096x1x64, .f32⟩
  | .hbm, ⟨40, _⟩ => ⟨S2x4096x8x64, .f32⟩
  | .hbm, ⟨41, _⟩ => ⟨S2x4096x8x64, .f32⟩
  | .hbm, ⟨42, _⟩ => ⟨S4096x1x64, .f32⟩
  | .hbm, ⟨43, _⟩ => ⟨S1x4096x1x64, .f32⟩
  | .hbm, ⟨44, _⟩ => ⟨S2x4096x8x64, .f32⟩
  | .hbm, ⟨45, _⟩ => ⟨S2x4096x8x64, .f32⟩
  | .hbm, ⟨46, _⟩ => ⟨S2x4096x8x64, .f32⟩
  | .hbm, ⟨47, _⟩ => ⟨S4096x1x64, .f32⟩
  | .hbm, ⟨48, _⟩ => ⟨S1x4096x1x64, .f32⟩
  | .hbm, ⟨49, _⟩ => ⟨S2x4096x8x64, .f32⟩
  | .hbm, ⟨50, _⟩ => ⟨S2x4096x8x64, .f32⟩
  | .hbm, ⟨51, _⟩ => ⟨S4096x1x64, .f32⟩
  | .hbm, ⟨52, _⟩ => ⟨S1x4096x1x64, .f32⟩
  | .hbm, ⟨53, _⟩ => ⟨S2x4096x8x64, .f32⟩
  | .hbm, ⟨54, _⟩ => ⟨S2x4096x8x64, .f32⟩
  | .hbm, ⟨55, _⟩ => ⟨S2x4096x8x64, .f32⟩
  | .hbm, ⟨56, _⟩ => ⟨S2x4096x8x128, .f32⟩
  | .hbm, ⟨57, _⟩ => ⟨S_, .f32⟩
  | .hbm, ⟨58, _⟩ => ⟨S2x4096x8x128, .f32⟩
  | .hbm, ⟨59, _⟩ => ⟨S2x4096x8x128, .f32⟩
  | .hbm, ⟨60, _⟩ => ⟨S2x4096x2x128, .f32⟩
  | .hbm, ⟨61, _⟩ => ⟨S2x4096x2x128, .f32⟩
  | .hbm, ⟨62, _⟩ => ⟨S_, .f32⟩
  | .hbm, ⟨63, _⟩ => ⟨S2x4096x2, .f32⟩
  | .hbm, ⟨64, _⟩ => ⟨S2x4096x2x1, .f32⟩
  | .hbm, ⟨65, _⟩ => ⟨S_, .f32⟩
  | .hbm, ⟨66, _⟩ => ⟨S2x4096x2x1, .f32⟩
  | .hbm, ⟨67, _⟩ => ⟨S2x4096x2x1, .f32⟩
  | .hbm, ⟨68, _⟩ => ⟨S_, .f32⟩
  | .hbm, ⟨69, _⟩ => ⟨S2x4096x2x1, .f32⟩
  | .hbm, ⟨70, _⟩ => ⟨S2x4096x2x1, .f32⟩
  | .hbm, ⟨71, _⟩ => ⟨S2x4096x2x1, .f32⟩
  | .hbm, ⟨72, _⟩ => ⟨S2x4096x2x128, .f32⟩
  | .hbm, ⟨73, _⟩ => ⟨S2x4096x2x128, .f32⟩
  | .hbm, ⟨74, _⟩ => ⟨S1x1x128, .f32⟩
  | .hbm, ⟨75, _⟩ => ⟨S128, .f32⟩
  | .hbm, ⟨76, _⟩ => ⟨S1x1x1x128, .f32⟩
  | .hbm, ⟨77, _⟩ => ⟨S2x4096x2x128, .f32⟩
  | .hbm, ⟨78, _⟩ => ⟨S2x4096x2x128, .f32⟩
  | .hbm, ⟨79, _⟩ => ⟨S2x4096x2x64, .f32⟩
  | .hbm, ⟨80, _⟩ => ⟨S2x4096x2x64, .f32⟩
  | .hbm, ⟨81, _⟩ => ⟨S4096x1x128, .f32⟩
  | .hbm, ⟨82, _⟩ => ⟨S4096x1x128, .f32⟩
  | .hbm, ⟨83, _⟩ => ⟨S4096x1x64, .f32⟩
  | .hbm, ⟨84, _⟩ => ⟨S1x4096x1x64, .f32⟩
  | .hbm, ⟨85, _⟩ => ⟨S2x4096x2x64, .f32⟩
  | .hbm, ⟨86, _⟩ => ⟨S2x4096x2x64, .f32⟩
  | .hbm, ⟨87, _⟩ => ⟨S4096x1x64, .f32⟩
  | .hbm, ⟨88, _⟩ => ⟨S1x4096x1x64, .f32⟩
  | .hbm, ⟨89, _⟩ => ⟨S2x4096x2x64, .f32⟩
  | .hbm, ⟨90, _⟩ => ⟨S2x4096x2x64, .f32⟩
  | .hbm, ⟨91, _⟩ => ⟨S2x4096x2x64, .f32⟩
  | .hbm, ⟨92, _⟩ => ⟨S4096x1x64, .f32⟩
  | .hbm, ⟨93, _⟩ => ⟨S1x4096x1x64, .f32⟩
  | .hbm, ⟨94, _⟩ => ⟨S2x4096x2x64, .f32⟩
  | .hbm, ⟨95, _⟩ => ⟨S2x4096x2x64, .f32⟩
  | .hbm, ⟨96, _⟩ => ⟨S4096x1x64, .f32⟩
  | .hbm, ⟨97, _⟩ => ⟨S1x4096x1x64, .f32⟩
  | .hbm, ⟨98, _⟩ => ⟨S2x4096x2x64, .f32⟩
  | .hbm, ⟨99, _⟩ => ⟨S2x4096x2x64, .f32⟩
  | .hbm, ⟨100, _⟩ => ⟨S2x4096x2x64, .f32⟩
  | .hbm, ⟨101, _⟩ => ⟨S2x4096x2x128, .f32⟩
  | .hbm, ⟨102, _⟩ => ⟨S512x16x8x128, .f32⟩
  | .hbm, ⟨103, _⟩ => ⟨S8x512x16x128, .f32⟩
  | .hbm, ⟨104, _⟩ => ⟨S8x512x2048, .f32⟩
  | .hbm, ⟨105, _⟩ => ⟨S8192x1024, .f32⟩
  | .hbm, ⟨106, _⟩ => ⟨S8192x1024, .bf16⟩
  | .hbm, ⟨107, _⟩ => ⟨S8192x256, .f32⟩
  | .hbm, ⟨108, _⟩ => ⟨S8192x256, .bf16⟩
  | .hbm, ⟨109, _⟩ => ⟨S8192x256, .bf16⟩
  | .hbm, ⟨110, _⟩ => ⟨S8x512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_2 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_cst_4 : Ref sig .tc := ⟨.hbm, 65, rfl⟩
abbrev main_v54 : Ref sig .tc := ⟨.hbm, 66, rfl⟩
abbrev main_v55 : Ref sig .tc := ⟨.hbm, 67, rfl⟩
abbrev main_cst_5 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩

abbrev nD : Nat := 1
abbrev τ : Topo := Topo.v7x

variable {F : FTy → Type} [FloatOps F]
-- ==== Proof.Inproj.Head.lean ====
module

public import proofs.«01_k».proof.Proof.Gen.Kernel3Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

/-! What one grid point of the input projection leaves in the blocks of queries, keys and values. -/

/-- A row of one head after its normalisation and gain: `z j / sqrt (mean of the squares + eps) * g j`. -/
def normed (z g : Fin 128 → EReal) (j : Fin 128) : EReal :=
  z j * Ideal.rsqrt (Ideal.div (∑ x, z x * z x) (Ideal.ofBits FTy.f32 1124073472#32) + Ideal.ofBits FTy.f32 897988541#32) * g j

/-- The rotary embedding of a head's row: each lane times its cosine and the lane 64 away times its sine. -/
def roped (z g c s : Fin 128 → EReal) (j : Fin 128) : EReal :=
  normed z g j * c j + normed z g ⟨(j.val + 128 - 64) % 128, by omega⟩ * s j

/-- The scale of the queries. -/
def qscale : EReal := Ideal.ofBits FTy.f32 1035273459#32

/-- Equal rows, gains, cosines, sines and lanes give an equal result. -/
theorem roped_congr {z z' g g' c c' s s' : Fin 128 → EReal} {j j' : Fin 128} (hz : ∀ l, z l = z' l) (hg : ∀ l, g l = g' l)
    (hc : ∀ l, c l = c' l) (hs : ∀ l, s l = s' l) (hj : (j : ℕ) = j') : roped z g c s j = roped z' g' c' s' j' := by
  obtain rfl : z = z' := funext hz
  obtain rfl : g = g' := funext hg
  obtain rfl : c = c' := funext hc
  obtain rfl : s = s' := funext hs
  obtain rfl : j = j' := Fin.ext hj
  rfl

section heads
variable (X : Vec Ideal S512x2048 .bf16) (C S : Vec Ideal S512x128 .f32) (W : Vec Ideal S1x2048x256 .bf16) (g : Vec Ideal S1x1x128 .f32)
  (r : Fin 512) (j : Fin 128)

/-- The projection of a block's row onto 128 neighbouring columns, of the 256 columns loaded. -/
def half (o : ℕ) (ho : o ≤ 128) (l : Fin 128) : EReal := ∑ d : Fin 2048, X (ix2 r d) * W (ix3 0 d ⟨o + l.val, by omega⟩)

/-- Query head 7's stored row. -/
theorem qhead7 : (k0_pay26 (F := Ideal) S (k0_pay24 (F := Ideal) X (k0_pay20 (F := Ideal) W) g) (k0_pay25 (F := Ideal) X C (k0_pay20 (F := Ideal) W) g)) (ix2 r j)
    = roped (half X W r 128 (by decide)) (fun l => g (ix3 0 0 l)) (fun l => C (ix2 r l)) (fun l => S (ix2 r l)) j * qscale := by
  unfold roped normed half qscale
  pointwise [k0_pay20, k0_pay21, k0_pay23, k0_pay24, k0_pay25, k0_pay26]

/-- Query head 6's stored row. -/
theorem qhead6 : (k0_pay22 (F := Ideal) X C S (k0_pay20 (F := Ideal) W) g) (ix2 r j)
    = roped (half X W r 0 (by decide)) (fun l => g (ix3 0 0 l)) (fun l => C (ix2 r l)) (fun l => S (ix2 r l)) j * qscale := by
  unfold roped normed half qscale
  pointwise [k0_pay20, k0_pay21, k0_pay22]

/-- Query head 5's stored row. -/
theorem qhead5 : (k0_pay19 (F := Ideal) C S (k0_pay14 (F := Ideal) X W) g) (ix2 r j)
    = roped (half X W r 128 (by decide)) (fun l => g (ix3 0 0 l)) (fun l => C (ix2 r l)) (fun l => S (ix2 r l)) j * qscale := by
  unfold roped normed half qscale
  pointwise [k0_pay14, k0_pay19]

/-- Query head 4's stored row. -/
theorem qhead4 : (k0_pay18 (F := Ideal) C S (k0_pay15 (F := Ideal) X W) (k0_pay16 (F := Ideal) g) (k0_pay17 (F := Ideal) X W)) (ix2 r j)
    = roped (half X W r 0 (by decide)) (fun l => g (ix3 0 0 l)) (fun l => C (ix2 r l)) (fun l => S (ix2 r l)) j * qscale := by
  unfold roped normed half qscale
  pointwise [k0_pay14, k0_pay15, k0_pay16, k0_pay17, k0_pay18]

/-- Query head 3's stored row. -/
theorem qhead3 : (k0_pay13 (F := Ideal) C S (k0_pay9 (F := Ideal) X W) g) (ix2 r j)
    = roped (half X W r 128 (by decide)) (fun l => g (ix3 0 0 l)) (fun l => C (ix2 r l)) (fun l => S (ix2 r l)) j * qscale := by
  unfold roped normed half qscale
  pointwise [k0_pay9, k0_pay13]

/-- Query head 2's stored row. -/
theorem qhead2 : (k0_pay12 (F := Ideal) (k0_pay10 (F := Ideal) X C S W g) (k0_pay11 (F := Ideal))) (ix2 r j)
    = roped (half X W r 0 (by decide)) (fun l => g (ix3 0 0 l)) (fun l => C (ix2 r l)) (fun l => S (ix2 r l)) j * qscale := by
  unfold roped normed half qscale
  pointwise [k0_pay9, k0_pay10, k0_pay11, k0_pay12]

/-- Query head 1's stored row. -/
theorem qhead1 : (k0_pay8 (F := Ideal) C S (k0_pay5 (F := Ideal) X W) (k0_pay6 (F := Ideal) g) (k0_pay7 (F := Ideal) X W)) (ix2 r j)
    = roped (half X W r 128 (by decide)) (fun l => g (ix3 0 0 l)) (fun l => C (ix2 r l)) (fun l => S (ix2 r l)) j * qscale := by
  unfold roped normed half qscale
  pointwise [k0_pay3, k0_pay5, k0_pay6, k0_pay7, k0_pay8]

/-- Query head 0's stored row. -/
theorem qhead0 : (k0_pay4 (F := Ideal) X C S W g) (ix2 r j)
    = roped (half X W r 0 (by decide)) (fun l => g (ix3 0 0 l)) (fun l => C (ix2 r l)) (fun l => S (ix2 r l)) j * qscale := by
  unfold roped normed half qscale
  pointwise [k0_pay3, k0_pay4]

/-- Key head 1's stored row. -/
theorem khead1 : (k0_pay33 (F := Ideal) C S (k0_pay29 (F := Ideal) X W) (k0_pay30 (F := Ideal) g) (k0_pay31 (F := Ideal) X W) (k0_pay32 (F := Ideal))) (ix2 r j)
    = roped (half X W r 128 (by decide)) (fun l => g (ix3 0 0 l)) (fun l => C (ix2 r l)) (fun l => S (ix2 r l)) j := by
  unfold roped normed half
  pointwise [k0_pay27, k0_pay29, k0_pay30, k0_pay31, k0_pay32, k0_pay33]

/-- Key head 0's stored row. -/
theorem khead0 : (k0_pay28 (F := Ideal) X C S W g) (ix2 r j)
    = roped (half X W r 0 (by decide)) (fun l => g (ix3 0 0 l)) (fun l => C (ix2 r l)) (fun l => S (ix2 r l)) j := by
  unfold roped normed half
  pointwise [k0_pay27, k0_pay28]

end heads
end Cert.Kernel3Ideal.Value
end
-- ==== Proof.Inproj.Block.lean ====
module

public import proofs.«01_k».proof.Proof.Inproj.Head
public import Idealize.ShloMosaic.Lib.WholeRead
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

/-! The blocks of queries, keys, values and state-space inputs that a grid point leaves, read off the arrays the point is given. -/

/-- A rectangle at the origin as large as its shape names every index itself. -/
theorem idx_full {s : Shape} (off : Fin s.rank → Nat) (h : ∀ a, off a = 0) (inb) (y : s.Idx) :
    (Rect.unit (s := s) off s.size inb).toLoadRect.idx y = y := by
  funext a; apply Fin.ext; show off a + 1 * (y a).val = (y a).val; rw [h a]; omega

/-- What a list of stored pieces leaves at an index one of them holds, when every piece agrees with `G`. -/
theorem pieces_agree {s : Shape} {e : EltTy} (G : s.Idx → Elt Ideal e) (L : List (View.Piece (Elt Ideal) s e))
    (h : ∀ p ∈ L, ∀ j, p.2 j = G (p.1.emb j)) (y : s.Idx) (hy : ∃ p ∈ L, y ∈ p.1.set) : View.canon L y = G y := by
  induction L with
  | nil => obtain ⟨p, hp, _⟩ := hy; exact absurd hp List.not_mem_nil
  | cons p L ih =>
    by_cases hm : y ∈ p.1.set
    · obtain ⟨x, hx⟩ := p.1.exists_idx_of_mem hm
      rw [← hx]
      exact (View.canon_cons_emb p.1 p.2 L x).trans (h p (List.mem_cons_self ..) x)
    · rw [View.canon_cons_of_not_mem p L hm]
      refine ih (fun q hq => h q (List.mem_cons_of_mem _ hq)) ?_
      obtain ⟨q, hq, hyq⟩ := hy
      rcases List.mem_cons.mp hq with rfl | hq
      · exact absurd hyq hm
      · exact ⟨q, hq, hyq⟩

/-- A load of a whole block reads the block. -/
theorem read_full {sp : Space} {s : Shape} {e : EltTy} (M : Memref sig .tc sp s e) (h : M.IsWhole) (x : Vec Ideal s e)
    (off : Fin s.rank → Nat) (h0 : ∀ a, off a = 0) (inb) (y : s.Idx) :
    View.readAt (Elt Ideal) M.view (Rect.unit (s := s) off s.size inb).toLoadRect (h.unread x) y = x y :=
  (h.readAt_unread x (Rect.unit (s := s) off s.size inb).toLoadRect y).trans (congrArg x (idx_full off h0 inb y))

/-- A load of 256 columns of the weights. -/
theorem read_cols (M : Memref sig .tc .vmem S1x2048x2560 .bf16) (h : M.IsWhole) (x : Vec Ideal S1x2048x2560 .bf16) (n : ℕ) (hn : n ≤ 2304)
    (inb) (d : Fin 2048) (l : Fin 256) :
    View.readAt (Elt Ideal) M.view (Rect.unit (s := S1x2048x2560) ![0, 0, n] S1x2048x256.size inb).toLoadRect (h.unread x) (ix3 0 d l)
      = x (ix3 0 d ⟨n + l.val, by omega⟩) :=
  (h.readAt_unread x _ _).trans (congrArg x (by idx_ext))

section blocks
variable (x0 : Vec Ideal S512x2048 .bf16) (x1 : Vec Ideal S1x2048x2560 .bf16) (x2 x3 : Vec Ideal S1x1x128 .f32) (x4 x5 : Vec Ideal S512x128 .f32)

/-- The projection of a block's row onto a column. -/
def prj (r : Fin 512) (e : Fin 2560) : EReal := ∑ d : Fin 2048, x0 (ix2 r d) * x1 (ix3 0 d e)

/-- The block of queries. -/
def Qb (y : S512x1024.Idx) : EReal :=
  roped (fun l => prj x0 x1 (y 0) ⟨(y 1).val / 128 * 128 + l.val, by have : (y 1).val < 1024 := (y 1).isLt; omega⟩) (fun l => x2 (ix3 0 0 l))
    (fun l => x4 (ix2 (y 0) l)) (fun l => x5 (ix2 (y 0) l)) ⟨(y 1).val % 128, by omega⟩ * qscale

/-- The block of keys. -/
def Kb (y : S512x256.Idx) : EReal :=
  roped (fun l => prj x0 x1 (y 0) ⟨1024 + (y 1).val / 128 * 128 + l.val, by have : (y 1).val < 256 := (y 1).isLt; omega⟩) (fun l => x3 (ix3 0 0 l))
    (fun l => x4 (ix2 (y 0) l)) (fun l => x5 (ix2 (y 0) l)) ⟨(y 1).val % 128, by omega⟩

/-- The block of values. -/
def Vb (y : S512x256.Idx) : EReal := prj x0 x1 (y 0) ⟨1280 + (y 1).val, by have : (y 1).val < 256 := (y 1).isLt; omega⟩

/-- The block of state-space inputs: 16 rows lie side by side, for each of 8 groups of 128 columns. -/
def Ub (y : S8x32x2048.Idx) : EReal :=
  prj x0 x1 ⟨16 * (y 1).val + (y 2).val / 128, by have : (y 1).val < 32 := (y 1).isLt; have : (y 2).val < 2048 := (y 2).isLt; omega⟩
    ⟨1536 + (y 0).val * 128 + (y 2).val % 128, by have : (y 0).val < 8 := (y 0).isLt; omega⟩

variable (X : Vec Ideal S512x2048 .bf16) (C S : Vec Ideal S512x128 .f32) (W : Vec Ideal S1x2048x256 .bf16) (g : Vec Ideal S1x1x128 .f32)

/-- Half of the 256 loaded columns, as columns of the whole weights. -/
theorem half_eq (n o : ℕ) (ho : o ≤ 128) (hn : n ≤ 2304) (hX : ∀ y, X y = x0 y)
    (hW : ∀ d l, W (ix3 0 d l) = x1 (ix3 0 d ⟨n + l.val, by omega⟩)) (r : Fin 512) (l : Fin 128) (e : Fin 2560) (he : n + (o + l.val) = e.val) :
    half X W r o ho l = prj x0 x1 r e := by
  unfold half prj
  refine Finset.sum_congr rfl fun d _ => ?_
  rw [hX, hW]
  exact congrArg (fun e => x0 (ix2 r d) * x1 (ix3 0 d e)) (Fin.ext he)

/-- A stored query head is the queries' block there. -/
theorem q_piece (h n o : ℕ) (ho : o ≤ 128) (hn : n ≤ 2304) (hh : h < 8) (hno : n + o = h * 128) (inb) (hX : ∀ y, X y = x0 y)
    (hW : ∀ d l, W (ix3 0 d l) = x1 (ix3 0 d ⟨n + l.val, by omega⟩)) (hg : ∀ y, g y = x2 y) (hC : ∀ y, C y = x4 y) (hS : ∀ y, S y = x5 y)
    (pay : Vec Ideal S512x128 .bf16)
    (hp : ∀ r j, pay (ix2 r j) = roped (half X W r o ho) (fun l => g (ix3 0 0 l)) (fun l => C (ix2 r l)) (fun l => S (ix2 r l)) j * qscale)
    (j : S512x128.Idx) : pay j = Qb x0 x1 x2 x4 x5 ((Rect.unit (s := S512x1024) ![0, h * 128] S512x128.size inb).emb j) := by
  obtain ⟨a, b, rfl⟩ : ∃ a b, j = ix2 a b := ⟨j 0, j 1, by idx_ext⟩
  rw [hp]
  have e0 : (Rect.unit (s := S512x1024) ![0, h * 128] S512x128.size inb).emb (ix2 a b) 0 = a := Fin.ext (by show 0 + 1 * a.val = a.val; omega)
  have e1 : ((Rect.unit (s := S512x1024) ![0, h * 128] S512x128.size inb).emb (ix2 a b) 1).val = h * 128 + b.val := by
    show h * 128 + 1 * b.val = _; omega
  unfold Qb
  refine congrArg (· * qscale) (roped_congr (fun l => ?_) (fun l => hg _) (fun l => ?_) (fun l => ?_) ?_)
  · rw [e0]
    refine half_eq x0 x1 X W n o ho hn hX hW a l _ ?_
    show _ = (_ : ℕ) / 128 * 128 + l.val
    rw [e1]; omega
  · rw [e0]; exact hC _
  · rw [e0]; exact hS _
  · show b.val = (_ : ℕ) % 128
    rw [e1]; omega

/-- A stored key head is the keys' block there. -/
theorem k_piece (h o : ℕ) (ho : o ≤ 128) (hh : h < 2) (hno : o = h * 128) (inb) (hX : ∀ y, X y = x0 y)
    (hW : ∀ d l, W (ix3 0 d l) = x1 (ix3 0 d ⟨1024 + l.val, by omega⟩)) (hg : ∀ y, g y = x3 y) (hC : ∀ y, C y = x4 y) (hS : ∀ y, S y = x5 y)
    (pay : Vec Ideal S512x128 .bf16)
    (hp : ∀ r j, pay (ix2 r j) = roped (half X W r o ho) (fun l => g (ix3 0 0 l)) (fun l => C (ix2 r l)) (fun l => S (ix2 r l)) j)
    (j : S512x128.Idx) : pay j = Kb x0 x1 x3 x4 x5 ((Rect.unit (s := S512x256) ![0, h * 128] S512x128.size inb).emb j) := by
  obtain ⟨a, b, rfl⟩ : ∃ a b, j = ix2 a b := ⟨j 0, j 1, by idx_ext⟩
  rw [hp]
  have e0 : (Rect.unit (s := S512x256) ![0, h * 128] S512x128.size inb).emb (ix2 a b) 0 = a := Fin.ext (by show 0 + 1 * a.val = a.val; omega)
  have e1 : ((Rect.unit (s := S512x256) ![0, h * 128] S512x128.size inb).emb (ix2 a b) 1).val = h * 128 + b.val := by
    show h * 128 + 1 * b.val = _; omega
  unfold Kb
  refine roped_congr (fun l => ?_) (fun l => hg _) (fun l => ?_) (fun l => ?_) ?_
  · rw [e0]
    refine half_eq x0 x1 X W 1024 o ho (by decide) hX hW a l _ ?_
    show _ = 1024 + (_ : ℕ) / 128 * 128 + l.val
    rw [e1]; omega
  · rw [e0]; exact hC _
  · rw [e0]; exact hS _
  · show b.val = (_ : ℕ) % 128
    rw [e1]; omega

/-- A load of every 16th row of what was stored last into the scratch block. -/
theorem u_read (M : Memref sig .tc .vmem S512x128 .f32) (w : Vec Ideal S512x128 .f32) (L : List (View.Piece (Elt Ideal) S512x128 .f32)) (inb0)
    (k : ℕ) (hk : k < 16) (inb) (a : Fin 32) (l : Fin 128) :
    M.view.readCov (⟨Rect.unit (s := S512x128) ![0, 0] S512x128.size inb0, w⟩ :: L)
      { off := ![k, 0], size := S32x128.size, stride := ![16, 1], inb := inb } (ix2 a l) = w (ix2 ⟨16 * a.val + k, by omega⟩ l) := by
  rw [View.readCov_eq_canon']
  refine (congrFun (View.canon_cons_unit_lit' inb0 w L (by decide)) _).trans (congrArg w ?_)
  idx_ext

/-- A stored group of rows is the state-space inputs' block there. -/
theorem u_piece (b k n o : ℕ) (hb : b < 8) (hk : k < 16) (ho : o ≤ 128) (hn : n ≤ 2304) (hno : n + o = 1536 + b * 128) (inb) (hX : ∀ y, X y = x0 y)
    (hW : ∀ d l, W (ix3 0 d l) = x1 (ix3 0 d ⟨n + l.val, by omega⟩)) (w : Vec Ideal S512x128 .f32) (hw : ∀ r l, w (ix2 r l) = half X W r o ho l)
    (v : Vec Ideal S32x128 .f32) (hv : ∀ a l, v (ix2 a l) = w (ix2 ⟨16 * a.val + k, by omega⟩ l))
    (pay : Vec Ideal S1x32x128 .bf16) (hp : ∀ a l, pay (ix3 0 a l) = v (ix2 a l)) (j : S1x32x128.Idx) :
    pay j = Ub x0 x1 ((Rect.unit (s := S8x32x2048) ![b, 0, k * 128] S1x32x128.size inb).emb j) := by
  obtain ⟨a, l, rfl⟩ : ∃ a l, j = ix3 0 a l := ⟨j 1, j 2, by idx_ext⟩
  rw [hp, hv, hw]
  have e0 : ((Rect.unit (s := S8x32x2048) ![b, 0, k * 128] S1x32x128.size inb).emb (ix3 0 a l) 0).val = b := by show b + 1 * 0 = b; omega
  have e1 : ((Rect.unit (s := S8x32x2048) ![b, 0, k * 128] S1x32x128.size inb).emb (ix3 0 a l) 1).val = a.val := by show 0 + 1 * a.val = a.val; omega
  have e2 : ((Rect.unit (s := S8x32x2048) ![b, 0, k * 128] S1x32x128.size inb).emb (ix3 0 a l) 2).val = k * 128 + l.val := by
    show k * 128 + 1 * l.val = _; omega
  unfold Ub
  refine (half_eq x0 x1 X W n o ho hn hX hW _ l ⟨1536 + b * 128 + l.val, by omega⟩ (by show _ = 1536 + b * 128 + l.val; omega)).trans ?_
  have : l.val < 128 := l.isLt
  exact congrArg₂ (prj x0 x1) (Fin.ext (by show 16 * a.val + k = 16 * (_ : ℕ) + (_ : ℕ) / 128; rw [e1, e2]; omega))
    (Fin.ext (by show 1536 + b * 128 + l.val = 1536 + (_ : ℕ) * 128 + (_ : ℕ) % 128; rw [e0, e2]; omega))

/-- The stored values are the values' block. -/
theorem v_piece (inb) (hX : ∀ y, X y = x0 y) (hW : ∀ d l, W (ix3 0 d l) = x1 (ix3 0 d ⟨1280 + l.val, by omega⟩)) (pay : Vec Ideal S512x256 .bf16)
    (hp : ∀ r l, pay (ix2 r l) = ∑ d : Fin 2048, X (ix2 r d) * W (ix3 0 d l)) (j : S512x256.Idx) :
    pay j = Vb x0 x1 ((Rect.unit (s := S512x256) ![0, 0] S512x256.size inb).emb j) := by
  rw [show (Rect.unit (s := S512x256) ![0, 0] S512x256.size inb).emb j = j from idx_full _ (by decide) inb j]
  obtain ⟨a, b, rfl⟩ : ∃ a b, j = ix2 a b := ⟨j 0, j 1, by idx_ext⟩
  rw [hp]
  unfold Vb prj
  refine Finset.sum_congr rfl fun d _ => ?_
  rw [hX, hW]
  rfl
end blocks

section scratch
variable (X : Vec Ideal S512x2048 .bf16) (W : Vec Ideal S1x2048x256 .bf16) (r : Fin 512) (l : Fin 128)

/-- What is stored into the scratch block for group 0. -/
theorem scratch0 : (k0_pay36 (F := Ideal) X W) (ix2 r l) = half X W r 0 (by decide) l := by
  unfold half
  pointwise [k0_pay35, k0_pay36]

/-- What is stored into the scratch block for group 1. -/
theorem scratch1 : (k0_pay55 (F := Ideal) (k0_pay35 (F := Ideal) X W)) (ix2 r l) = half X W r 128 (by decide) l := by
  unfold half
  pointwise [k0_pay35, k0_pay55]

/-- What is stored into the scratch block for group 2. -/
theorem scratch2 : (k0_pay74 (F := Ideal) X W) (ix2 r l) = half X W r 0 (by decide) l := by
  unfold half
  pointwise [k0_pay73, k0_pay74]

/-- What is stored into the scratch block for group 3. -/
theorem scratch3 : (k0_pay92 (F := Ideal) (k0_pay73 (F := Ideal) X W)) (ix2 r l) = half X W r 128 (by decide) l := by
  unfold half
  pointwise [k0_pay73, k0_pay92]

/-- What is stored into the scratch block for group 4. -/
theorem scratch4 : (k0_pay112 (F := Ideal) X W) (ix2 r l) = half X W r 0 (by decide) l := by
  unfold half
  pointwise [k0_pay111, k0_pay112]

/-- What is stored into the scratch block for group 5. -/
theorem scratch5 : (k0_pay131 (F := Ideal) (k0_pay111 (F := Ideal) X W)) (ix2 r l) = half X W r 128 (by decide) l := by
  unfold half
  pointwise [k0_pay111, k0_pay131]

/-- What is stored into the scratch block for group 6. -/
theorem scratch6 : (k0_pay150 (F := Ideal) X W) (ix2 r l) = half X W r 0 (by decide) l := by
  unfold half
  pointwise [k0_pay149, k0_pay150]

/-- What is stored into the scratch block for group 7. -/
theorem scratch7 : (k0_pay168 (F := Ideal) (k0_pay149 (F := Ideal) X W)) (ix2 r l) = half X W r 128 (by decide) l := by
  unfold half
  pointwise [k0_pay149, k0_pay168]

/-- The stored values. -/
theorem values (e : Fin 256) : k0_pay34 (F := Ideal) X W (ix2 r e) = ∑ d, X (ix2 r d) * W (ix3 0 d e) := by
  pointwise [k0_pay34]

end scratch

section points
variable (c : Dev nD) (i : grid0.Coords) (arg1 : Memref sig .tc .vmem S512x2048 .bf16) (harg1 : arg1.IsWhole) (arg2 : Memref sig .tc .vmem S1x2048x2560 .bf16) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S8x32x2048 .bf16) (harg10 : arg10.IsWhole) (arg11 : Memref sig .tc .vmem S512x128 .f32) (harg11 : arg11.IsWhole)
    (x0 : Vec Ideal S512x2048 .bf16) (x1 : Vec Ideal S1x2048x2560 .bf16) (x2 : Vec Ideal S1x1x128 .f32) (x3 : Vec Ideal S1x1x128 .f32) (x4 : Vec Ideal S512x128 .f32) (x5 : Vec Ideal S512x128 .f32)

/-- What a grid point leaves in the block of queries. -/
theorem point6 (y) : out0_A_6 c i arg1 harg1 arg2 harg2 arg3 harg3 arg4 harg4 arg5 harg5 arg6 harg6 arg7 harg7 arg8 harg8 arg9 harg9 arg10 harg10 arg11 harg11 x0 x1 x2 x3 x4 x5 y = Qb x0 x1 x2 x4 x5 y := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 x0 x1 x2 x3 x4 x5)]
  refine pieces_agree (Qb x0 x1 x2 x4 x5) (kernelRun0_A c i arg1 harg1 arg2 harg2 arg3 harg3 arg4 harg4 arg5 harg5 arg6 harg6 arg7 harg7 arg8 harg8 arg9 harg9 arg10 harg10 arg11 harg11 x0 x1 x2 x3 x4 x5).1 ?_ y (cover0_A_6 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine List.forall_mem_cons.2 ⟨q_piece x0 x1 x2 x4 x5 _ _ _ _ _ 7 768 128 (by decide) (by decide) (by decide) rfl inb_S512x1024_S512x128_0_896 (read_full arg1 harg1 x0 ![0, 0] (by decide) _) (read_cols arg2 harg2 x1 768 (by decide) _) (read_full arg3 harg3 x2 ![0, 0, 0] (by decide) _) (read_full arg5 harg5 x4 ![0, 0] (by decide) _) (read_full arg6 harg6 x5 ![0, 0] (by decide) _) _ (qhead7 _ _ _ _ _), ?_⟩
  refine List.forall_mem_cons.2 ⟨q_piece x0 x1 x2 x4 x5 _ _ _ _ _ 6 768 0 (by decide) (by decide) (by decide) rfl inb_S512x1024_S512x128_0_768 (read_full arg1 harg1 x0 ![0, 0] (by decide) _) (read_cols arg2 harg2 x1 768 (by decide) _) (read_full arg3 harg3 x2 ![0, 0, 0] (by decide) _) (read_full arg5 harg5 x4 ![0, 0] (by decide) _) (read_full arg6 harg6 x5 ![0, 0] (by decide) _) _ (qhead6 _ _ _ _ _), ?_⟩
  refine List.forall_mem_cons.2 ⟨q_piece x0 x1 x2 x4 x5 _ _ _ _ _ 5 512 128 (by decide) (by decide) (by decide) rfl inb_S512x1024_S512x128_0_640 (read_full arg1 harg1 x0 ![0, 0] (by decide) _) (read_cols arg2 harg2 x1 512 (by decide) _) (read_full arg3 harg3 x2 ![0, 0, 0] (by decide) _) (read_full arg5 harg5 x4 ![0, 0] (by decide) _) (read_full arg6 harg6 x5 ![0, 0] (by decide) _) _ (qhead5 _ _ _ _ _), ?_⟩
  refine List.forall_mem_cons.2 ⟨q_piece x0 x1 x2 x4 x5 _ _ _ _ _ 4 512 0 (by decide) (by decide) (by decide) rfl inb_S512x1024_S512x128_0_512 (read_full arg1 harg1 x0 ![0, 0] (by decide) _) (read_cols arg2 harg2 x1 512 (by decide) _) (read_full arg3 harg3 x2 ![0, 0, 0] (by decide) _) (read_full arg5 harg5 x4 ![0, 0] (by decide) _) (read_full arg6 harg6 x5 ![0, 0] (by decide) _) _ (qhead4 _ _ _ _ _), ?_⟩
  refine List.forall_mem_cons.2 ⟨q_piece x0 x1 x2 x4 x5 _ _ _ _ _ 3 256 128 (by decide) (by decide) (by decide) rfl inb_S512x1024_S512x128_0_384 (read_full arg1 harg1 x0 ![0, 0] (by decide) _) (read_cols arg2 harg2 x1 256 (by decide) _) (read_full arg3 harg3 x2 ![0, 0, 0] (by decide) _) (read_full arg5 harg5 x4 ![0, 0] (by decide) _) (read_full arg6 harg6 x5 ![0, 0] (by decide) _) _ (qhead3 _ _ _ _ _), ?_⟩
  refine List.forall_mem_cons.2 ⟨q_piece x0 x1 x2 x4 x5 _ _ _ _ _ 2 256 0 (by decide) (by decide) (by decide) rfl inb_S512x1024_S512x128_0_256 (read_full arg1 harg1 x0 ![0, 0] (by decide) _) (read_cols arg2 harg2 x1 256 (by decide) _) (read_full arg3 harg3 x2 ![0, 0, 0] (by decide) _) (read_full arg5 harg5 x4 ![0, 0] (by decide) _) (read_full arg6 harg6 x5 ![0, 0] (by decide) _) _ (qhead2 _ _ _ _ _), ?_⟩
  refine List.forall_mem_cons.2 ⟨q_piece x0 x1 x2 x4 x5 _ _ _ _ _ 1 0 128 (by decide) (by decide) (by decide) rfl inb_S512x1024_S512x128_0_128 (read_full arg1 harg1 x0 ![0, 0] (by decide) _) (read_cols arg2 harg2 x1 0 (by decide) _) (read_full arg3 harg3 x2 ![0, 0, 0] (by decide) _) (read_full arg5 harg5 x4 ![0, 0] (by decide) _) (read_full arg6 harg6 x5 ![0, 0] (by decide) _) _ (qhead1 _ _ _ _ _), ?_⟩
  refine List.forall_mem_cons.2 ⟨q_piece x0 x1 x2 x4 x5 _ _ _ _ _ 0 0 0 (by decide) (by decide) (by decide) rfl inb_S512x1024_S512x128_0_0 (read_full arg1 harg1 x0 ![0, 0] (by decide) _) (read_cols arg2 harg2 x1 0 (by decide) _) (read_full arg3 harg3 x2 ![0, 0, 0] (by decide) _) (read_full arg5 harg5 x4 ![0, 0] (by decide) _) (read_full arg6 harg6 x5 ![0, 0] (by decide) _) _ (qhead0 _ _ _ _ _), ?_⟩
  exact List.forall_mem_nil _

/-- What a grid point leaves in the block of keys. -/
theorem point7 (y) : out0_A_7 c i arg1 harg1 arg2 harg2 arg3 harg3 arg4 harg4 arg5 harg5 arg6 harg6 arg7 harg7 arg8 harg8 arg9 harg9 arg10 harg10 arg11 harg11 x0 x1 x2 x3 x4 x5 y = Kb x0 x1 x3 x4 x5 y := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 x0 x1 x2 x3 x4 x5)]
  refine pieces_agree (Kb x0 x1 x3 x4 x5) (kernelRun0_A c i arg1 harg1 arg2 harg2 arg3 harg3 arg4 harg4 arg5 harg5 arg6 harg6 arg7 harg7 arg8 harg8 arg9 harg9 arg10 harg10 arg11 harg11 x0 x1 x2 x3 x4 x5).2.1 ?_ y (cover0_A_7 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine List.forall_mem_cons.2 ⟨k_piece x0 x1 x3 x4 x5 _ _ _ _ _ 1 128 (by decide) (by decide) rfl inb_S512x256_S512x128_0_128 (read_full arg1 harg1 x0 ![0, 0] (by decide) _) (read_cols arg2 harg2 x1 1024 (by decide) _) (read_full arg4 harg4 x3 ![0, 0, 0] (by decide) _) (read_full arg5 harg5 x4 ![0, 0] (by decide) _) (read_full arg6 harg6 x5 ![0, 0] (by decide) _) _ (khead1 _ _ _ _ _), ?_⟩
  refine List.forall_mem_cons.2 ⟨k_piece x0 x1 x3 x4 x5 _ _ _ _ _ 0 0 (by decide) (by decide) rfl inb_S512x256_S512x128_0_0 (read_full arg1 harg1 x0 ![0, 0] (by decide) _) (read_cols arg2 harg2 x1 1024 (by decide) _) (read_full arg4 harg4 x3 ![0, 0, 0] (by decide) _) (read_full arg5 harg5 x4 ![0, 0] (by decide) _) (read_full arg6 harg6 x5 ![0, 0] (by decide) _) _ (khead0 _ _ _ _ _), ?_⟩
  exact List.forall_mem_nil _

/-- What a grid point leaves in the block of values. -/
theorem point8 (y) : out0_A_8 c i arg1 harg1 arg2 harg2 arg3 harg3 arg4 harg4 arg5 harg5 arg6 harg6 arg7 harg7 arg8 harg8 arg9 harg9 arg10 harg10 arg11 harg11 x0 x1 x2 x3 x4 x5 y = Vb x0 x1 y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5)]
  refine pieces_agree (Vb x0 x1) (kernelRun0_A c i arg1 harg1 arg2 harg2 arg3 harg3 arg4 harg4 arg5 harg5 arg6 harg6 arg7 harg7 arg8 harg8 arg9 harg9 arg10 harg10 arg11 harg11 x0 x1 x2 x3 x4 x5).2.2.1 ?_ y (cover0_A_8 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine List.forall_mem_cons.2 ⟨v_piece x0 x1 _ _ inb_S512x256_S512x256_0_0 (read_full arg1 harg1 x0 ![0, 0] (by decide) _) (read_cols arg2 harg2 x1 1280 (by decide) _) _ (values _ _), ?_⟩
  exact List.forall_mem_nil _

end points
end Cert.Kernel3Ideal.Value
end
-- ==== Proof.Inproj.Scan.lean ====
module

public import proofs.«01_k».proof.Proof.Inproj.Block
public import Idealize.ShloMosaic.Lib.WholeRead
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

section points
variable (c : Dev nD) (i : grid0.Coords) (arg1 : Memref sig .tc .vmem S512x2048 .bf16) (harg1 : arg1.IsWhole) (arg2 : Memref sig .tc .vmem S1x2048x2560 .bf16) (harg2 : arg2.IsWhole) (arg3 : Memref sig .tc .vmem S1x1x128 .f32) (harg3 : arg3.IsWhole) (arg4 : Memref sig .tc .vmem S1x1x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x1024 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S8x32x2048 .bf16) (harg10 : arg10.IsWhole) (arg11 : Memref sig .tc .vmem S512x128 .f32) (harg11 : arg11.IsWhole)
    (x0 : Vec Ideal S512x2048 .bf16) (x1 : Vec Ideal S1x2048x2560 .bf16) (x2 : Vec Ideal S1x1x128 .f32) (x3 : Vec Ideal S1x1x128 .f32) (x4 : Vec Ideal S512x128 .f32) (x5 : Vec Ideal S512x128 .f32)
/-- What a grid point leaves in the block of state-space inputs. -/
theorem point9 (y) : out0_A_9 c i arg1 harg1 arg2 harg2 arg3 harg3 arg4 harg4 arg5 harg5 arg6 harg6 arg7 harg7 arg8 harg8 arg9 harg9 arg10 harg10 arg11 harg11 x0 x1 x2 x3 x4 x5 y = Ub x0 x1 y := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5)]
  refine pieces_agree (Ub x0 x1) (kernelRun0_A c i arg1 harg1 arg2 harg2 arg3 harg3 arg4 harg4 arg5 harg5 arg6 harg6 arg7 harg7 arg8 harg8 arg9 harg9 arg10 harg10 arg11 harg11 x0 x1 x2 x3 x4 x5).2.2.2.1 ?_ y (cover0_A_9 c i arg1 harg1 arg2 harg2 arg3 harg3 arg4 harg4 arg5 harg5 arg6 harg6 arg7 harg7 arg8 harg8 arg9 harg9 arg10 harg10 arg11 harg11 x0 x1 x2 x3 x4 x5 y)
  unfold kernelRun0_A
  dsimp only
  refine List.forall_mem_cons.2 ⟨u_piece x0 x1 _ _ 7 15 2304 128 (by decide) (by decide) (by decide) (by decide) rfl inb_S8x32x2048_S1x32x128_7_0_1920 (read_full arg1 harg1 x0 ![0, 0] (by decide) _) (read_cols arg2 harg2 x1 2304 (by decide) _) _ (scratch7 _ _) (kernelRun0_A.sl.v928 c arg1 harg1 arg2 harg2 arg11 x0 x1) (u_read _ _ _ _ 15 (by decide) _) _ (fun a l => by pointwise [k0_pay2]), ?_⟩
  refine List.forall_mem_cons.2 ⟨u_piece x0 x1 _ _ 7 14 2304 128 (by decide) (by decide) (by decide) (by decide) rfl inb_S8x32x2048_S1x32x128_7_0_1792 (read_full arg1 harg1 x0 ![0, 0] (by decide) _) (read_cols arg2 harg2 x1 2304 (by decide) _) _ (scratch7 _ _) (kernelRun0_A.sl.v923 c arg1 harg1 arg2 harg2 arg11 x0 x1) (u_read _ _ _ _ 14 (by decide) _) _ (fun a l => by pointwise [k0_pay1]), ?_⟩
  refine List.forall_mem_cons.2 ⟨u_piece x0 x1 _ _ 7 13 2304 128 (by decide) (by decide) (by decide) (by decide) rfl inb_S8x32x2048_S1x32x128_7_0_1664 (read_full arg1 harg1 x0 ![0, 0] (by decide) _) (read_cols arg2 harg2 x1 2304 (by decide) _) _ (scratch7 _ _) (kernelRun0_A.sl.v918 c arg1 harg1 arg2 harg2 arg11 x0 x1) (u_read _ _ _ _ 13 (by decide) _) _ (fun a l => by pointwise [kernelRun0_A.sl.r_35, k0_pay183]), ?_⟩
  refine List.forall_mem_cons.2 ⟨u_piece x0 x1 _ _ 7 12 2304 128 (by decide) (by decide) (by decide) (by decide) rfl inb_S8x32x2048_S1x32x128_7_0_1536 (read_full arg1 harg1 x0 ![0, 0] (by decide) _) (read_cols arg2 harg2 x1 2304 (by decide) _) _ (scratch7 _ _) (kernelRun0_A.sl.v913 c arg1 harg1 arg2 harg2 arg11 x0 x1) (u_read _ _ _ _ 12 (by decide) _) _ (fun a l => by pointwise [k0_pay182]), ?_⟩
  refine List.forall_mem_cons.2 ⟨u_piece x0 x1 _ _ 7 11 2304 128 (by decide) (by decide) (by decide) (by decide) rfl inb_S8x32x2048_S1x32x128_7_0_1408 (read_full arg1 harg1 x0 ![0, 0] (by decide) _) (read_cols arg2 harg2 x1 2304 (by decide) _) _ (scratch7 _ _) (kernelRun0_A.sl.v908 c arg1 harg1 arg2 harg2 arg11 x0 x1) (u_read _ _ _ _ 11 (by decide) _) _ (fun a l => by pointwise [k0_pay181]), ?_⟩
  refine List.forall_mem_cons.2 ⟨u_piece x0 x1 _ _ 7 10 2304 128 (by decide) (by decide) (by decide) (by decide) rfl inb_S8x32x2048_S1x32x128_7_0_1280 (read_full arg1 harg1 x0 ![0, 0] (by decide) _) (read_cols arg2 harg2 x1 2304 (by decide) _) _ (scratch7 _ _) (kernelRun0_A.sl.v903 c arg1 harg1 arg2 harg2 arg11 x0 x1) (u_read _ _ _ _ 10 (by decide) _) _ (fun a l => by pointwise [k0_pay180]), ?_⟩
  refine List.forall_mem_cons.2 ⟨u_piece x0 x1 _ _ 7 9 2304 128 (by decide) (by decide) (by decide) (by decide) rfl inb_S8x32x2048_S1x32x128_7_0_1152 (read_full arg1 harg1 x0 ![0, 0] (by decide) _) (read_cols arg2 harg2 x1 2304 (by decide) _) _ (scratch7 _ _) (kernelRun0_A.sl.v898 c arg1 harg1 arg2 harg2 arg11 x0 x1) (u_read _ _ _ _ 9 (by decide) _) _ (fun a l => by pointwise [k0_pay179]), ?_⟩
  refine List.forall_mem_cons.2 ⟨u_piece x0 x1 _ _ 7 8 2304 128 (by decide) (by decide) (by decide) (by decide) rfl inb_S8x32x2048_S1x32x128_7_0_1024 (read_full arg1 harg1 x0 ![0, 0] (by decide) _) (read_cols arg2 harg2 x1 2304 (by decide) _) _ (scratch7 _ _) (kernelRun0_A.sl.v893 c arg1 harg1 arg2 harg2 arg11 x0 x1) (u_read _ _ _ _ 8 (by decide) _) _ (fun a l => by pointwise [kernelRun0_A.sl.r_34, k0_pay177, k0_pay178]), ?_⟩
  refine List.forall_mem_cons.2 ⟨u_piece x0 x1 _ _ 7 7 2304 128 (by decide) (by decide) (by decide) (by decide) rfl inb_S8x32x2048_S1x32x128_7_0_896 (read_full arg1 harg1 x0 ![0, 0] (by decide) _) (read_cols arg2 harg2 x1 2304 (by decide) _) _ (scratch7 _ _) (kernelRun0_A.sl.v888 c arg1 harg1 arg2 harg2 arg11 x0 x1) (u_read _ _ _ _ 7 (by decide) _) _ (fun a l => by pointwise [k0_pay176]), ?_⟩
  refine List.forall_mem_cons.2 ⟨u_piece x0 x1 _ _ 7 6 2304 128 (by decide) (by decide) (by decide) (by decide) rfl inb_S8x32x2048_S1x32x128_7_0_768 (read_full arg1 harg1 x0 ![0, 0] (by decide) _) (read_cols arg2 harg2 x1 2304 (by decide) _) _ (scratch7 _ _) (kernelRun0_A.sl.v883 c arg1 harg1 arg2 harg2 arg11 x0 x1) (u_read _ _ _ _ 6 (by decide) _) _ (fun a l => by pointwise [k0_pay175]), ?_⟩
  refine List.forall_mem_cons.2 ⟨u_piece x0 x1 _ _ 7 5 2304 128 (by decide) (by decide) (by decide) (by decide) rfl inb_S8x32x2048_S1x32x128_7_0_640 (read_full arg1 harg1 x0 ![0, 0] (by decide) _) (read_cols arg2 harg2 x1 2304 (by decide) _) _ (scratch7 _ _) (kernelRun0_A.sl.v878 c arg1 harg1 arg2 harg2 arg11 x0 x1) (u_read _ _ _ _ 5 (by decide) _) _ (fun a l => by pointwise [k0_pay174]), ?_⟩
  refine List.forall_mem_cons.2 ⟨u_piece x0 x1 _ _ 7 4 2304 128 (by decide) (by decide) (by decide) (by decide) rfl inb_S8x32x2048_S1x32x128_7_0_512 (read_full arg1 harg1 x0 ![0, 0] (by decide) _) (read_cols arg2 harg2 x1 2304 (by decide) _) _ (scratch7 _ _) (kernelRun0_A.sl.v873 c arg1 harg1 arg2 harg2 arg11 x0 x1) (u_read _ _ _ _ 4 (by decide) _) _ (fun a l => by pointwise [k0_pay173]), ?_⟩
  refine List.forall_mem_cons.2 ⟨u_piece x0 x1 _ _ 7 3 2304 128 (by decide) (by decide) (by decide) (by decide) rfl inb_S8x32x2048_S1x32x128_7_0_384 (read_full arg1 harg1 x0 ![0, 0] (by decide) _) (read_cols arg2 harg2 x1 2304 (by decide) _) _ (scratch7 _ _) (kernelRun0_A.sl.v868 c arg1 harg1 arg2 harg2 arg11 x0 x1) (u_read _ _ _ _ 3 (by decide) _) _ (fun a l => by pointwise [k0_pay172]), ?_⟩
  refine List.forall_mem_cons.2 ⟨u_piece x0 x1 _ _ 7 2 2304 128 (by decide) (by decide) (by decide) (by decide) rfl inb_S8x32x2048_S1x32x128_7_0_256 (read_full arg1 harg1 x0 ![0, 0] (by decide) _) (read_cols arg2 harg2 x1 2304 (by decide) _) _ (scratch7 _ _) (kernelRun0_A.sl.v863 c arg1 harg1 arg2 harg2 arg11 x0 x1) (u_read _ _ _ _ 2 (by decide) _) _ (fun a l => by pointwise [k0_pay171]), ?_⟩
  refine List.forall_mem_cons.2 ⟨u_piece x0 x1 _ _ 7 1 2304 128 (by decide) (by decide) (by decide) (by decide) rfl inb_S8x32x2048_S1x32x128_7_0_128 (read_full arg1 harg1 x0 ![0, 0] (by decide) _) (read_cols arg2 harg2 x1 2304 (by decide) _) _ (scratch7 _ _) (kernelRun0_A.sl.v858 c arg1 harg1 arg2 harg2 arg11 x0 x1) (u_read _ _ _ _ 1 (by decide) _) _ (fun a l => by pointwise [k0_pay170]), ?_⟩
  refine List.forall_mem_cons.2 ⟨u_piece x0 x1 _ _ 7 0 2304 128 (by decide) (by decide) (by decide) (by decide) rfl inb_S8x32x2048_S1x32x128_7_0_0 (read_full arg1 harg1 x0 ![0, 0] (by decide) _) (read_cols arg2 harg2 x1 2304 (by decide) _) _ (scratch7 _ _) (kernelRun0_A.sl.v853 c arg1 harg1 arg2 harg2 arg11 x0 x1) (u_read _ _ _ _ 0 (by decide) _) _ (fun a l => by pointwise [k0_pay169]), ?_⟩
  refine List.forall_mem_cons.2 ⟨u_piece x0 x1 _ _ 6 15 2304 0 (by decide) (by decide) (by decide) (by decide) rfl inb_S8x32x2048_S1x32x128_6_0_1920 (read_full arg1 harg1 x0 ![0, 0] (by decide) _) (read_cols arg2 harg2 x1 2304 (by decide) _) _ (scratch6 _ _) (kernelRun0_A.sl.v844 c arg1 harg1 arg2 harg2 arg11 x0 x1) (u_read _ _ _ _ 15 (by decide) _) _ (fun a l => by pointwise [k0_pay167]), ?_⟩
  refine List.forall_mem_cons.2 ⟨u_piece x0 x1 _ _ 6 14 2304 0 (by decide) (by decide) (by decide) (by decide) rfl inb_S8x32x2048_S1x32x128_6_0_1792 (read_full arg1 harg1 x0 ![0, 0] (by decide) _) (read_cols arg2 harg2 x1 2304 (by decide) _) _ (scratch6 _ _) (kernelRun0_A.sl.v839 c arg1 harg1 arg2 harg2 arg11 x0 x1) (u_read _ _ _ _ 14 (by decide) _) _ (fun a l => by pointwise [k0_pay166]), ?_⟩
  refine List.forall_mem_cons.2 ⟨u_piece x0 x1 _ _ 6 13 2304 0 (by decide) (by decide) (by decide) (by decide) rfl inb_S8x32x2048_S1x32x128_6_0_1664 (read_full arg1 harg1 x0 ![0, 0] (by decide) _) (read_cols arg2 harg2 x1 2304 (by decide) _) _ (scratch6 _ _) (kernelRun0_A.sl.v834 c arg1 harg1 arg2 harg2 arg11 x0 x1) (u_read _ _ _ _ 13 (by decide) _) _ (fun a l => by pointwise [k0_pay165]), ?_⟩
  refine List.forall_mem_cons.2 ⟨u_piece x0 x1 _ _ 6 12 2304 0 (by decide) (by decide) (by decide) (by decide) rfl inb_S8x32x2048_S1x32x128_6_0_1536 (read_full arg1 harg1 x0 ![0, 0] (by decide) _) (read_cols arg2 harg2 x1 2304 (by decide) _) _ (scratch6 _ _) (kernelRun0_A.sl.v829 c arg1 harg1 arg2 harg2 arg11 x0 x1) (u_read _ _ _ _ 12 (by decide) _) _ (fun a l => by pointwise [k0_pay164]), ?_⟩
  refine List.forall_mem_cons.2 ⟨u_piece x0 x1 _ _ 6 11 2304 0 (by decide) (by decide) (by decide) (by decide) rfl inb_S8x32x2048_S1x32x128_6_0_1408 (read_full arg1 harg1 x0 ![0, 0] (by decide) _) (read_cols arg2 harg2 x1 2304 (by decide) _) _ (scratch6 _ _) (kernelRun0_A.sl.v824 c arg1 harg1 arg2 harg2 arg11 x0 x1) (u_read _ _ _ _ 11 (by decide) _) _ (fun a l => by pointwise [k0_pay163]), ?_⟩
  refine List.forall_mem_cons.2 ⟨u_piece x0 x1 _ _ 6 10 2304 0 (by decide) (by decide) (by decide) (by decide) rfl inb_S8x32x2048_S1x32x128_6_0_1280 (read_full arg1 harg1 x0 ![0, 0] (by decide) _) (read_cols arg2 harg2 x1 2304 (by decide) _) _ (scratch6 _ _) (kernelRun0_A.sl.v819 c arg1 harg1 arg2 harg2 arg11 x0 x1) (u_read _ _ _ _ 10 (by decide) _) _ (fun a l => by pointwise [k0_pay162]), ?_⟩
  refine List.forall_mem_cons.2 ⟨u_piece x0 x1 _ _ 6 9 2304 0 (by decide) (by decide) (by decide) (by decide) rfl inb_S8x32x2048_S1x32x128_6_0_1152 (read_full arg1 harg1 x0 ![0, 0] (by decide) _) (read_cols arg2 harg2 x1 2304 (by decide) _) _ (scratch6 _ _) (kernelRun0_A.sl.v814 c arg1 harg1 arg2 harg2 arg11 x0 x1) (u_read _ _ _ _ 9 (by decide) _) _ (fun a l => by pointwise [k0_pay161]), ?_⟩
  refine List.forall_mem_cons.2 ⟨u_piece x0 x1 _ _ 6 8 2304 0 (by decide) (by decide) (by decide) (by decide) rfl inb_S8x32x2048_S1x32x128_6_0_1024 (read_full arg1 harg1 x0 ![0, 0] (by decide) _) (read_cols arg2 harg2 x1 2304 (by decide) _) _ (scratch6 _ _) (kernelRun0_A.sl.v809 c arg1 harg1 arg2 harg2 arg11 x0 x1) (u_read _ _ _ _ 8 (by decide) _) _ (fun a l => by pointwise [kernelRun0_A.sl.r_33, k0_pay159, k0_pay160]), ?_⟩
  refine List.forall_mem_cons.2 ⟨u_piece x0 x1 _ _ 6 7 2304 0 (by decide) (by decide) (by decide) (by decide) rfl inb_S8x32x2048_S1x32x128_6_0_896 (read_full arg1 harg1 x0 ![0, 0] (by decide) _) (read_cols arg2 harg2 x1 2304 (by decide) _) _ (scratch6 _ _) (kernelRun0_A.sl.v804 c arg1 harg1 arg2 harg2 arg11 x0 x1) (u_read _ _ _ _ 7 (by decide) _) _ (fun a l => by pointwise [k0_pay158]), ?_⟩
  refine List.forall_mem_cons.2 ⟨u_piece x0 x1 _ _ 6 6 2304 0 (by decide) (by decide) (by decide) (by decide) rfl inb_S8x32x2048_S1x32x128_6_0_768 (read_full arg1 harg1 x0 ![0, 0] (by decide) _) (read_cols arg2 harg2 x1 2304 (by decide) _) _ (scratch6 _ _) (kernelRun0_A.sl.v799 c arg1 harg1 arg2 harg2 arg11 x0 x1) (u_read _ _ _ _ 6 (by decide) _) _ (fun a l => by pointwise [k0_pay157]), ?_⟩
  refine List.forall_mem_cons.2 ⟨u_piece x0 x1 _ _ 6 5 2304 0 (by decide) (by decide) (by decide) (by decide) rfl inb_S8x32x2048_S1x32x128_6_0_640 (read_full arg1 harg1 x0 ![0, 0] (by decide) _) (read_cols arg2 harg2 x1 2304 (by decide) _) _ (scratch6 _ _) (kernelRun0_A.sl.v794 c arg1 harg1 arg2 harg2 arg11 x0 x1) (u_read _ _ _ _ 5 (by decide) _) _ (fun a l => by pointwise [k0_pay156]), ?_⟩
  refine List.forall_mem_cons.2 ⟨u_piece x0 x1 _ _ 6 4 2304 0 (by decide) (by decide) (by decide) (by decide) rfl inb_S8x32x2048_S1x32x128_6_0_512 (read_full arg1 harg1 x0 ![0, 0] (by decide) _) (read_cols arg2 harg2 x1 2304 (by decide) _) _ (scratch6 _ _) (kernelRun0_A.sl.v789 c arg1 harg1 arg2 harg2 arg11 x0 x1) (u_read _ _ _ _ 4 (by decide) _) _ (fun a l => by pointwise [k0_pay155]), ?_⟩
  refine List.forall_mem_cons.2 ⟨u_piece x0 x1 _ _ 6 3 2304 0 (by decide) (by decide) (by decide) (by decide) rfl inb_S8x32x2048_S1x32x128_6_0_384 (read_full arg1 harg1 x0 ![0, 0] (by decide) _) (read_cols arg2 harg2 x1 2304 (by decide) _) _ (scratch6 _ _) (kernelRun0_A.sl.v784 c arg1 harg1 arg2 harg2 arg11 x0 x1) (u_read _ _ _ _ 3 (by decide) _) _ (fun a l => by pointwise [k0_pay154]), ?_⟩
  refine List.forall_mem_cons.2 ⟨u_piece x0 x1 _ _ 6 2 2304 0 (by decide) (by decide) (by decide) (by decide) rfl inb_S8x32x2048_S1x32x128_6_0_256 (read_full arg1 harg1 x0 ![0, 0] (by decide) _) (read_cols arg2 harg2 x1 2304 (by decide) _) _ (scratch6 _ _) (kernelRun0_A.sl.v779 c arg1 harg1 arg2 harg2 arg11 x0 x1) (u_read _ _ _ _ 2 (by decide) _) _ (fun a l => by pointwise [k0_pay153]), ?_⟩
  refine List.forall_mem_cons.2 ⟨u_piece x0 x1 _ _ 6 1 2304 0 (by decide) (by decide) (by decide) (by decide) rfl inb_S8x32x2048_S1x32x128_6_0_128 (read_full arg1 harg1 x0 ![0, 0] (by decide) _) (read_cols arg2 harg2 x1 2304 (by decide) _) _ (scratch6 _ _) (kernelRun0_A.sl.v774 c arg1 harg1 arg2 harg2 arg11 x0 x1) (u_read _ _ _ _ 1 (by decide) _) _ (fun a l => by pointwise [k0_pay152]), ?_⟩
  refine List.forall_mem_cons.2 ⟨u_piece x0 x1 _ _ 6 0 2304 0 (by decide) (by decide) (by decide) (by decide) rfl inb_S8x32x2048_S1x32x128_6_0_0 (read_full arg1 harg1 x0 ![0, 0] (by decide) _) (read_cols arg2 harg2 x1 2304 (by decide) _) _ (scratch6 _ _) (kernelRun0_A.sl.v769 c arg1 harg1 arg2 harg2 arg11 x0 x1) (u_read _ _ _ _ 0 (by decide) _) _ (fun a l => by pointwise [k0_pay151]), ?_⟩
  refine List.forall_mem_cons.2 ⟨u_piece x0 x1 _ _ 5 15 2048 128 (by decide) (by decide) (by decide) (by decide) rfl inb_S8x32x2048_S1x32x128_5_0_1920 (read_full arg1 harg1 x0 ![0, 0] (by decide) _) (read_cols arg2 harg2 x1 2048 (by decide) _) _ (scratch5 _ _) (kernelRun0_A.sl.v757 c arg1 harg1 arg2 harg2 arg11 x0 x1) (u_read _ _ _ _ 15 (by decide) _) _ (fun a l => by pointwise [k0_pay148]), ?_⟩
  refine List.forall_mem_cons.2 ⟨u_piece x0 x1 _ _ 5 14 2048 128 (by decide) (by decide) (by decide) (by decide) rfl inb_S8x32x2048_S1x32x128_5_0_1792 (read_full arg1 harg1 x0 ![0, 0] (by decide) _) (read_cols arg2 harg2 x1 2048 (by decide) _) _ (scratch5 _ _) (kernelRun0_A.sl.v752 c arg1 harg1 arg2 harg2 arg11 x0 x1) (u_read _ _ _ _ 14 (by decide) _) _ (fun a l => by pointwise [k0_pay147]), ?_⟩
  refine List.forall_mem_cons.2 ⟨u_piece x0 x1 _ _ 5 13 2048 128 (by decide) (by decide) (by decide) (by decide) rfl inb_S8x32x2048_S1x32x128_5_0_1664 (read_full arg1 harg1 x0 ![0, 0] (by decide) _) (read_cols arg2 harg2 x1 2048 (by decide) _) _ (scratch5 _ _) (kernelRun0_A.sl.v747 c arg1 harg1 arg2 harg2 arg11 x0 x1) (u_read _ _ _ _ 13 (by decide) _) _ (fun a l => by pointwise [k0_pay146]), ?_⟩
  refine List.forall_mem_cons.2 ⟨u_piece x0 x1 _ _ 5 12 2048 128 (by decide) (by decide) (by decide) (by decide) rfl inb_S8x32x2048_S1x32x128_5_0_1536 (read_full arg1 harg1 x0 ![0, 0] (by decide) _) (read_cols arg2 harg2 x1 2048 (by decide) _) _ (scratch5 _ _) (kernelRun0_A.sl.v742 c arg1 harg1 arg2 harg2 arg11 x0 x1) (u_read _ _ _ _ 12 (by decide) _) _ (fun a l => by pointwise [k0_pay145]), ?_⟩
  refine List.forall_mem_cons.2 ⟨u_piece x0 x1 _ _ 5 11 2048 128 (by decide) (by decide) (by decide) (by decide) rfl inb_S8x32x2048_S1x32x128_5_0_1408 (read_full arg1 harg1 x0 ![0, 0] (by decide) _) (read_cols arg2 harg2 x1 2048 (by decide) _) _ (scratch5 _ _) (kernelRun0_A.sl.v737 c arg1 harg1 arg2 harg2 arg11 x0 x1) (u_read _ _ _ _ 11 (by decide) _) _ (fun a l => by pointwise [k0_pay144]), ?_⟩
  refine List.forall_mem_cons.2 ⟨u_piece x0 x1 _ _ 5 10 2048 128 (by decide) (by decide) (by decide) (by decide) rfl inb_S8x32x2048_S1x32x128_5_0_1280 (read_full arg1 harg1 x0 ![0, 0] (by decide) _) (read_cols arg2 harg2 x1 2048 (by decide) _) _ (scratch5 _ _) (kernelRun0_A.sl.v732 c arg1 harg1 arg2 harg2 arg11 x0 x1) (u_read _ _ _ _ 10 (by decide) _) _ (fun a l => by pointwise [k0_pay143]), ?_⟩
  refine List.forall_mem_cons.2 ⟨u_piece x0 x1 _ _ 5 9 2048 128 (by decide) (by decide) (by decide) (by decide) rfl inb_S8x32x2048_S1x32x128_5_0_1152 (read_full arg1 harg1 x0 ![0, 0] (by decide) _) (read_cols arg2 harg2 x1 2048 (by decide) _) _ (scratch5 _ _) (kernelRun0_A.sl.v727 c arg1 harg1 arg2 harg2 arg11 x0 x1) (u_read _ _ _ _ 9 (by decide) _) _ (fun a l => by pointwise [kernelRun0_A.sl.r_31, k0_pay141, k0_pay142]), ?_⟩
  refine List.forall_mem_cons.2 ⟨u_piece x0 x1 _ _ 5 8 2048 128 (by decide) (by decide) (by decide) (by decide) rfl inb_S8x32x2048_S1x32x128_5_0_1024 (read_full arg1 harg1 x0 ![0, 0] (by decide) _) (read_cols arg2 harg2 x1 2048 (by decide) _) _ (scratch5 _ _) (kernelRun0_A.sl.v722 c arg1 harg1 arg2 harg2 arg11 x0 x1) (u_read _ _ _ _ 8 (by decide) _) _ (fun a l => by pointwise [k0_pay140]), ?_⟩
  refine List.forall_mem_cons.2 ⟨u_piece x0 x1 _ _ 5 7 2048 128 (by decide) (by decide) (by decide) (by decide) rfl inb_S8x32x2048_S1x32x128_5_0_896 (read_full arg1 harg1 x0 ![0, 0] (by decide) _) (read_cols arg2 harg2 x1 2048 (by decide) _) _ (scratch5 _ _) (kernelRun0_A.sl.v717 c arg1 harg1 arg2 harg2 arg11 x0 x1) (u_read _ _ _ _ 7 (by decide) _) _ (fun a l => by pointwise [k0_pay139]), ?_⟩
  refine List.forall_mem_cons.2 ⟨u_piece x0 x1 _ _ 5 6 2048 128 (by decide) (by decide) (by decide) (by decide) rfl inb_S8x32x2048_S1x32x128_5_0_768 (read_full arg1 harg1 x0 ![0, 0] (by decide) _) (read_cols arg2 harg2 x1 2048 (by decide) _) _ (scratch5 _ _) (kernelRun0_A.sl.v712 c arg1 harg1 arg2 harg2 arg11 x0 x1) (u_read _ _ _ _ 6 (by decide) _) _ (fun a l => by pointwise [k0_pay138]), ?_⟩
  refine List.forall_mem_cons.2 ⟨u_piece x0 x1 _ _ 5 5 2048 128 (by decide) (by decide) (by decide) (by decide) rfl inb_S8x32x2048_S1x32x128_5_0_640 (read_full arg1 harg1 x0 ![0, 0] (by decide) _) (read_cols arg2 harg2 x1 2048 (by decide) _) _ (scratch5 _ _) (kernelRun0_A.sl.v707 c arg1 harg1 arg2 harg2 arg11 x0 x1) (u_read _ _ _ _ 5 (by decide) _) _ (fun a l => by pointwise [k0_pay137]), ?_⟩
  refine List.forall_mem_cons.2 ⟨u_piece x0 x1 _ _ 5 4 2048 128 (by decide) (by decide) (by decide) (by decide) rfl inb_S8x32x2048_S1x32x128_5_0_512 (read_full arg1 harg1 x0 ![0, 0] (by decide) _) (read_cols arg2 harg2 x1 2048 (by decide) _) _ (scratch5 _ _) (kernelRun0_A.sl.v702 c arg1 harg1 arg2 harg2 arg11 x0 x1) (u_read _ _ _ _ 4 (by decide) _) _ (fun a l => by pointwise [k0_pay136]), ?_⟩
  refine List.forall_mem_cons.2 ⟨u_piece x0 x1 _ _ 5 3 2048 128 (by decide) (by decide) (by decide) (by decide) rfl inb_S8x32x2048_S1x32x128_5_0_384 (read_full arg1 harg1 x0 ![0, 0] (by decide) _) (read_cols arg2 harg2 x1 2048 (by decide) _) _ (scratch5 _ _) (kernelRun0_A.sl.v697 c arg1 harg1 arg2 harg2 arg11 x0 x1) (u_read _ _ _ _ 3 (by decide) _) _ (fun a l => by pointwise [k0_pay135]), ?_⟩
  refine List.forall_mem_cons.2 ⟨u_piece x0 x1 _ _ 5 2 2048 128 (by decide) (by decide) (by decide) (by decide) rfl inb_S8x32x2048_S1x32x128_5_0_256 (read_full arg1 harg1 x0 ![0, 0] (by decide) _) (read_cols arg2 harg2 x1 2048 (by decide) _) _ (scratch5 _ _) (kernelRun0_A.sl.v692 c arg1 harg1 arg2 harg2 arg11 x0 x1) (u_read _ _ _ _ 2 (by decide) _) _ (fun a l => by pointwise [k0_pay134]), ?_⟩
  refine List.forall_mem_cons.2 ⟨u_piece x0 x1 _ _ 5 1 2048 128 (by decide) (by decide) (by decide) (by decide) rfl inb_S8x32x2048_S1x32x128_5_0_128 (read_full arg1 harg1 x0 ![0, 0] (by decide) _) (read_cols arg2 harg2 x1 2048 (by decide) _) _ (scratch5 _ _) (kernelRun0_A.sl.v687 c arg1 harg1 arg2 harg2 arg11 x0 x1) (u_read _ _ _ _ 1 (by decide) _) _ (fun a l => by pointwise [k0_pay133]), ?_⟩
  refine List.forall_mem_cons.2 ⟨u_piece x0 x1 _ _ 5 0 2048 128 (by decide) (by decide) (by decide) (by decide) rfl inb_S8x32x2048_S1x32x128_5_0_0 (read_full arg1 harg1 x0 ![0, 0] (by decide) _) (read_cols arg2 harg2 x1 2048 (by decide) _) _ (scratch5 _ _) (kernelRun0_A.sl.v682 c arg1 harg1 arg2 harg2 arg11 x0 x1) (u_read _ _ _ _ 0 (by decide) _) _ (fun a l => by pointwise [k0_pay132]), ?_⟩
  refine List.forall_mem_cons.2 ⟨u_piece x0 x1 _ _ 4 15 2048 0 (by decide) (by decide) (by decide) (by decide) rfl inb_S8x32x2048_S1x32x128_4_0_1920 (read_full arg1 harg1 x0 ![0, 0] (by decide) _) (read_cols arg2 harg2 x1 2048 (by decide) _) _ (scratch4 _ _) (kernelRun0_A.sl.v673 c arg1 harg1 arg2 harg2 arg11 x0 x1) (u_read _ _ _ _ 15 (by decide) _) _ (fun a l => by pointwise [kernelRun0_A.sl.r_30, k0_pay129, k0_pay130]), ?_⟩
  refine List.forall_mem_cons.2 ⟨u_piece x0 x1 _ _ 4 14 2048 0 (by decide) (by decide) (by decide) (by decide) rfl inb_S8x32x2048_S1x32x128_4_0_1792 (read_full arg1 harg1 x0 ![0, 0] (by decide) _) (read_cols arg2 harg2 x1 2048 (by decide) _) _ (scratch4 _ _) (kernelRun0_A.sl.v668 c arg1 harg1 arg2 harg2 arg11 x0 x1) (u_read _ _ _ _ 14 (by decide) _) _ (fun a l => by pointwise [k0_pay128]), ?_⟩
  refine List.forall_mem_cons.2 ⟨u_piece x0 x1 _ _ 4 13 2048 0 (by decide) (by decide) (by decide) (by decide) rfl inb_S8x32x2048_S1x32x128_4_0_1664 (read_full arg1 harg1 x0 ![0, 0] (by decide) _) (read_cols arg2 harg2 x1 2048 (by decide) _) _ (scratch4 _ _) (kernelRun0_A.sl.v663 c arg1 harg1 arg2 harg2 arg11 x0 x1) (u_read _ _ _ _ 13 (by decide) _) _ (fun a l => by pointwise [k0_pay127]), ?_⟩
  refine List.forall_mem_cons.2 ⟨u_piece x0 x1 _ _ 4 12 2048 0 (by decide) (by decide) (by decide) (by decide) rfl inb_S8x32x2048_S1x32x128_4_0_1536 (read_full arg1 harg1 x0 ![0, 0] (by decide) _) (read_cols arg2 harg2 x1 2048 (by decide) _) _ (scratch4 _ _) (kernelRun0_A.sl.v658 c arg1 harg1 arg2 harg2 arg11 x0 x1) (u_read _ _ _ _ 12 (by decide) _) _ (fun a l => by pointwise [k0_pay126]), ?_⟩
  refine List.forall_mem_cons.2 ⟨u_piece x0 x1 _ _ 4 11 2048 0 (by decide) (by decide) (by decide) (by decide) rfl inb_S8x32x2048_S1x32x128_4_0_1408 (read_full arg1 harg1 x0 ![0, 0] (by decide) _) (read_cols arg2 harg2 x1 2048 (by decide) _) _ (scratch4 _ _) (kernelRun0_A.sl.v653 c arg1 harg1 arg2 harg2 arg11 x0 x1) (u_read _ _ _ _ 11 (by decide) _) _ (fun a l => by pointwise [k0_pay125]), ?_⟩
  refine List.forall_mem_cons.2 ⟨u_piece x0 x1 _ _ 4 10 2048 0 (by decide) (by decide) (by decide) (by decide) rfl inb_S8x32x2048_S1x32x128_4_0_1280 (read_full arg1 harg1 x0 ![0, 0] (by decide) _) (read_cols arg2 harg2 x1 2048 (by decide) _) _ (scratch4 _ _) (kernelRun0_A.sl.v648 c arg1 harg1 arg2 harg2 arg11 x0 x1) (u_read _ _ _ _ 10 (by decide) _) _ (fun a l => by pointwise [k0_pay124]), ?_⟩
  refine List.forall_mem_cons.2 ⟨u_piece x0 x1 _ _ 4 9 2048 0 (by decide) (by decide) (by decide) (by decide) rfl inb_S8x32x2048_S1x32x128_4_0_1152 (read_full arg1 harg1 x0 ![0, 0] (by decide) _) (read_cols arg2 harg2 x1 2048 (by decide) _) _ (scratch4 _ _) (kernelRun0_A.sl.v643 c arg1 harg1 arg2 harg2 arg11 x0 x1) (u_read _ _ _ _ 9 (by decide) _) _ (fun a l => by pointwise [kernelRun0_A.sl.r_29, k0_pay123]), ?_⟩
  refine List.forall_mem_cons.2 ⟨u_piece x0 x1 _ _ 4 8 2048 0 (by decide) (by decide) (by decide) (by decide) rfl inb_S8x32x2048_S1x32x128_4_0_1024 (read_full arg1 harg1 x0 ![0, 0] (by decide) _) (read_cols arg2 harg2 x1 2048 (by decide) _) _ (scratch4 _ _) (kernelRun0_A.sl.v638 c arg1 harg1 arg2 harg2 arg11 x0 x1) (u_read _ _ _ _ 8 (by decide) _) _ (fun a l => by pointwise [k0_pay122]), ?_⟩
  refine List.forall_mem_cons.2 ⟨u_piece x0 x1 _ _ 4 7 2048 0 (by decide) (by decide) (by decide) (by decide) rfl inb_S8x32x2048_S1x32x128_4_0_896 (read_full arg1 harg1 x0 ![0, 0] (by decide) _) (read_cols arg2 harg2 x1 2048 (by decide) _) _ (scratch4 _ _) (kernelRun0_A.sl.v633 c arg1 harg1 arg2 harg2 arg11 x0 x1) (u_read _ _ _ _ 7 (by decide) _) _ (fun a l => by pointwise [k0_pay121]), ?_⟩
  refine List.forall_mem_cons.2 ⟨u_piece x0 x1 _ _ 4 6 2048 0 (by decide) (by decide) (by decide) (by decide) rfl inb_S8x32x2048_S1x32x128_4_0_768 (read_full arg1 harg1 x0 ![0, 0] (by decide) _) (read_cols arg2 harg2 x1 2048 (by decide) _) _ (scratch4 _ _) (kernelRun0_A.sl.v628 c arg1 harg1 arg2 harg2 arg11 x0 x1) (u_read _ _ _ _ 6 (by decide) _) _ (fun a l => by pointwise [k0_pay120]), ?_⟩
  refine List.forall_mem_cons.2 ⟨u_piece x0 x1 _ _ 4 5 2048 0 (by decide) (by decide) (by decide) (by decide) rfl inb_S8x32x2048_S1x32x128_4_0_640 (read_full arg1 harg1 x0 ![0, 0] (by decide) _) (read_cols arg2 harg2 x1 2048 (by decide) _) _ (scratch4 _ _) (kernelRun0_A.sl.v623 c arg1 harg1 arg2 harg2 arg11 x0 x1) (u_read _ _ _ _ 5 (by decide) _) _ (fun a l => by pointwise [k0_pay119]), ?_⟩
  refine List.forall_mem_cons.2 ⟨u_piece x0 x1 _ _ 4 4 2048 0 (by decide) (by decide) (by decide) (by decide) rfl inb_S8x32x2048_S1x32x128_4_0_512 (read_full arg1 harg1 x0 ![0, 0] (by decide) _) (read_cols arg2 harg2 x1 2048 (by decide) _) _ (scratch4 _ _) (kernelRun0_A.sl.v618 c arg1 harg1 arg2 harg2 arg11 x0 x1) (u_read _ _ _ _ 4 (by decide) _) _ (fun a l => by pointwise [kernelRun0_A.sl.r_28, k0_pay117, k0_pay118]), ?_⟩
  refine List.forall_mem_cons.2 ⟨u_piece x0 x1 _ _ 4 3 2048 0 (by decide) (by decide) (by decide) (by decide) rfl inb_S8x32x2048_S1x32x128_4_0_384 (read_full arg1 harg1 x0 ![0, 0] (by decide) _) (read_cols arg2 harg2 x1 2048 (by decide) _) _ (scratch4 _ _) (kernelRun0_A.sl.v613 c arg1 harg1 arg2 harg2 arg11 x0 x1) (u_read _ _ _ _ 3 (by decide) _) _ (fun a l => by pointwise [k0_pay116]), ?_⟩
  refine List.forall_mem_cons.2 ⟨u_piece x0 x1 _ _ 4 2 2048 0 (by decide) (by decide) (by decide) (by decide) rfl inb_S8x32x2048_S1x32x128_4_0_256 (read_full arg1 harg1 x0 ![0, 0] (by decide) _) (read_cols arg2 harg2 x1 2048 (by decide) _) _ (scratch4 _ _) (kernelRun0_A.sl.v608 c arg1 harg1 arg2 harg2 arg11 x0 x1) (u_read _ _ _ _ 2 (by decide) _) _ (fun a l => by pointwise [k0_pay115]), ?_⟩
  refine List.forall_mem_cons.2 ⟨u_piece x0 x1 _ _ 4 1 2048 0 (by decide) (by decide) (by decide) (by decide) rfl inb_S8x32x2048_S1x32x128_4_0_128 (read_full arg1 harg1 x0 ![0, 0] (by decide) _) (read_cols arg2 harg2 x1 2048 (by decide) _) _ (scratch4 _ _) (kernelRun0_A.sl.v603 c arg1 harg1 arg2 harg2 arg11 x0 x1) (u_read _ _ _ _ 1 (by decide) _) _ (fun a l => by pointwise [k0_pay114]), ?_⟩
  refine List.forall_mem_cons.2 ⟨u_piece x0 x1 _ _ 4 0 2048 0 (by decide) (by decide) (by decide) (by decide) rfl inb_S8x32x2048_S1x32x128_4_0_0 (read_full arg1 harg1 x0 ![0, 0] (by decide) _) (read_cols arg2 harg2 x1 2048 (by decide) _) _ (scratch4 _ _) (kernelRun0_A.sl.v598 c arg1 harg1 arg2 harg2 arg11 x0 x1) (u_read _ _ _ _ 0 (by decide) _) _ (fun a l => by pointwise [k0_pay113]), ?_⟩
  refine List.forall_mem_cons.2 ⟨u_piece x0 x1 _ _ 3 15 1792 128 (by decide) (by decide) (by decide) (by decide) rfl inb_S8x32x2048_S1x32x128_3_0_1920 (read_full arg1 harg1 x0 ![0, 0] (by decide) _) (read_cols arg2 harg2 x1 1792 (by decide) _) _ (scratch3 _ _) (kernelRun0_A.sl.v586 c arg1 harg1 arg2 harg2 arg11 x0 x1) (u_read _ _ _ _ 15 (by decide) _) _ (fun a l => by pointwise [k0_pay110]), ?_⟩
  refine List.forall_mem_cons.2 ⟨u_piece x0 x1 _ _ 3 14 1792 128 (by decide) (by decide) (by decide) (by decide) rfl inb_S8x32x2048_S1x32x128_3_0_1792 (read_full arg1 harg1 x0 ![0, 0] (by decide) _) (read_cols arg2 harg2 x1 1792 (by decide) _) _ (scratch3 _ _) (kernelRun0_A.sl.v581 c arg1 harg1 arg2 harg2 arg11 x0 x1) (u_read _ _ _ _ 14 (by decide) _) _ (fun a l => by pointwise [k0_pay109]), ?_⟩
  refine List.forall_mem_cons.2 ⟨u_piece x0 x1 _ _ 3 13 1792 128 (by decide) (by decide) (by decide) (by decide) rfl inb_S8x32x2048_S1x32x128_3_0_1664 (read_full arg1 harg1 x0 ![0, 0] (by decide) _) (read_cols arg2 harg2 x1 1792 (by decide) _) _ (scratch3 _ _) (kernelRun0_A.sl.v576 c arg1 harg1 arg2 harg2 arg11 x0 x1) (u_read _ _ _ _ 13 (by decide) _) _ (fun a l => by pointwise [k0_pay108]), ?_⟩
  refine List.forall_mem_cons.2 ⟨u_piece x0 x1 _ _ 3 12 1792 128 (by decide) (by decide) (by decide) (by decide) rfl inb_S8x32x2048_S1x32x128_3_0_1536 (read_full arg1 harg1 x0 ![0, 0] (by decide) _) (read_cols arg2 harg2 x1 1792 (by decide) _) _ (scratch3 _ _) (kernelRun0_A.sl.v571 c arg1 harg1 arg2 harg2 arg11 x0 x1) (u_read _ _ _ _ 12 (by decide) _) _ (fun a l => by pointwise [k0_pay107]), ?_⟩
  refine List.forall_mem_cons.2 ⟨u_piece x0 x1 _ _ 3 11 1792 128 (by decide) (by decide) (by decide) (by decide) rfl inb_S8x32x2048_S1x32x128_3_0_1408 (read_full arg1 harg1 x0 ![0, 0] (by decide) _) (read_cols arg2 harg2 x1 1792 (by decide) _) _ (scratch3 _ _) (kernelRun0_A.sl.v566 c arg1 harg1 arg2 harg2 arg11 x0 x1) (u_read _ _ _ _ 11 (by decide) _) _ (fun a l => by pointwise [k0_pay106]), ?_⟩
  refine List.forall_mem_cons.2 ⟨u_piece x0 x1 _ _ 3 10 1792 128 (by decide) (by decide) (by decide) (by decide) rfl inb_S8x32x2048_S1x32x128_3_0_1280 (read_full arg1 harg1 x0 ![0, 0] (by decide) _) (read_cols arg2 harg2 x1 1792 (by decide) _) _ (scratch3 _ _) (kernelRun0_A.sl.v561 c arg1 harg1 arg2 harg2 arg11 x0 x1) (u_read _ _ _ _ 10 (by decide) _) _ (fun a l => by pointwise [kernelRun0_A.sl.r_26, k0_pay104, k0_pay105]), ?_⟩
  refine List.forall_mem_cons.2 ⟨u_piece x0 x1 _ _ 3 9 1792 128 (by decide) (by decide) (by decide) (by decide) rfl inb_S8x32x2048_S1x32x128_3_0_1152 (read_full arg1 harg1 x0 ![0, 0] (by decide) _) (read_cols arg2 harg2 x1 1792 (by decide) _) _ (scratch3 _ _) (kernelRun0_A.sl.v556 c arg1 harg1 arg2 harg2 arg11 x0 x1) (u_read _ _ _ _ 9 (by decide) _) _ (fun a l => by pointwise [k0_pay103]), ?_⟩
  refine List.forall_mem_cons.2 ⟨u_piece x0 x1 _ _ 3 8 1792 128 (by decide) (by decide) (by decide) (by decide) rfl inb_S8x32x2048_S1x32x128_3_0_1024 (read_full arg1 harg1 x0 ![0, 0] (by decide) _) (read_cols arg2 harg2 x1 1792 (by decide) _) _ (scratch3 _ _) (kernelRun0_A.sl.v551 c arg1 harg1 arg2 harg2 arg11 x0 x1) (u_read _ _ _ _ 8 (by decide) _) _ (fun a l => by pointwise [k0_pay102]), ?_⟩
  refine List.forall_mem_cons.2 ⟨u_piece x0 x1 _ _ 3 7 1792 128 (by decide) (by decide) (by decide) (by decide) rfl inb_S8x32x2048_S1x32x128_3_0_896 (read_full arg1 harg1 x0 ![0, 0] (by decide) _) (read_cols arg2 harg2 x1 1792 (by decide) _) _ (scratch3 _ _) (kernelRun0_A.sl.v546 c arg1 harg1 arg2 harg2 arg11 x0 x1) (u_read _ _ _ _ 7 (by decide) _) _ (fun a l => by pointwise [k0_pay101]), ?_⟩
  refine List.forall_mem_cons.2 ⟨u_piece x0 x1 _ _ 3 6 1792 128 (by decide) (by decide) (by decide) (by decide) rfl inb_S8x32x2048_S1x32x128_3_0_768 (read_full arg1 harg1 x0 ![0, 0] (by decide) _) (read_cols arg2 harg2 x1 1792 (by decide) _) _ (scratch3 _ _) (kernelRun0_A.sl.v541 c arg1 harg1 arg2 harg2 arg11 x0 x1) (u_read _ _ _ _ 6 (by decide) _) _ (fun a l => by pointwise [k0_pay100]), ?_⟩
  refine List.forall_mem_cons.2 ⟨u_piece x0 x1 _ _ 3 5 1792 128 (by decide) (by decide) (by decide) (by decide) rfl inb_S8x32x2048_S1x32x128_3_0_640 (read_full arg1 harg1 x0 ![0, 0] (by decide) _) (read_cols arg2 harg2 x1 1792 (by decide) _) _ (scratch3 _ _) (kernelRun0_A.sl.v536 c arg1 harg1 arg2 harg2 arg11 x0 x1) (u_read _ _ _ _ 5 (by decide) _) _ (fun a l => by pointwise [kernelRun0_A.sl.r_25, k0_pay98, k0_pay99]), ?_⟩
  refine List.forall_mem_cons.2 ⟨u_piece x0 x1 _ _ 3 4 1792 128 (by decide) (by decide) (by decide) (by decide) rfl inb_S8x32x2048_S1x32x128_3_0_512 (read_full arg1 harg1 x0 ![0, 0] (by decide) _) (read_cols arg2 harg2 x1 1792 (by decide) _) _ (scratch3 _ _) (kernelRun0_A.sl.v531 c arg1 harg1 arg2 harg2 arg11 x0 x1) (u_read _ _ _ _ 4 (by decide) _) _ (fun a l => by pointwise [k0_pay97]), ?_⟩
  refine List.forall_mem_cons.2 ⟨u_piece x0 x1 _ _ 3 3 1792 128 (by decide) (by decide) (by decide) (by decide) rfl inb_S8x32x2048_S1x32x128_3_0_384 (read_full arg1 harg1 x0 ![0, 0] (by decide) _) (read_cols arg2 harg2 x1 1792 (by decide) _) _ (scratch3 _ _) (kernelRun0_A.sl.v526 c arg1 harg1 arg2 harg2 arg11 x0 x1) (u_read _ _ _ _ 3 (by decide) _) _ (fun a l => by pointwise [k0_pay96]), ?_⟩
  refine List.forall_mem_cons.2 ⟨u_piece x0 x1 _ _ 3 2 1792 128 (by decide) (by decide) (by decide) (by decide) rfl inb_S8x32x2048_S1x32x128_3_0_256 (read_full arg1 harg1 x0 ![0, 0] (by decide) _) (read_cols arg2 harg2 x1 1792 (by decide) _) _ (scratch3 _ _) (kernelRun0_A.sl.v521 c arg1 harg1 arg2 harg2 arg11 x0 x1) (u_read _ _ _ _ 2 (by decide) _) _ (fun a l => by pointwise [k0_pay95]), ?_⟩
  refine List.forall_mem_cons.2 ⟨u_piece x0 x1 _ _ 3 1 1792 128 (by decide) (by decide) (by decide) (by decide) rfl inb_S8x32x2048_S1x32x128_3_0_128 (read_full arg1 harg1 x0 ![0, 0] (by decide) _) (read_cols arg2 harg2 x1 1792 (by decide) _) _ (scratch3 _ _) (kernelRun0_A.sl.v516 c arg1 harg1 arg2 harg2 arg11 x0 x1) (u_read _ _ _ _ 1 (by decide) _) _ (fun a l => by pointwise [k0_pay94]), ?_⟩
  refine List.forall_mem_cons.2 ⟨u_piece x0 x1 _ _ 3 0 1792 128 (by decide) (by decide) (by decide) (by decide) rfl inb_S8x32x2048_S1x32x128_3_0_0 (read_full arg1 harg1 x0 ![0, 0] (by decide) _) (read_cols arg2 harg2 x1 1792 (by decide) _) _ (scratch3 _ _) (kernelRun0_A.sl.v511 c arg1 harg1 arg2 harg2 arg11 x0 x1) (u_read _ _ _ _ 0 (by decide) _) _ (fun a l => by pointwise [k0_pay93]), ?_⟩
  refine List.forall_mem_cons.2 ⟨u_piece x0 x1 _ _ 2 15 1792 0 (by decide) (by decide) (by decide) (by decide) rfl inb_S8x32x2048_S1x32x128_2_0_1920 (read_full arg1 harg1 x0 ![0, 0] (by decide) _) (read_cols arg2 harg2 x1 1792 (by decide) _) _ (scratch2 _ _) (kernelRun0_A.sl.v502 c arg1 harg1 arg2 harg2 arg11 x0 x1) (u_read _ _ _ _ 15 (by decide) _) _ (fun a l => by pointwise [k0_pay91]), ?_⟩
  refine List.forall_mem_cons.2 ⟨u_piece x0 x1 _ _ 2 14 1792 0 (by decide) (by decide) (by decide) (by decide) rfl inb_S8x32x2048_S1x32x128_2_0_1792 (read_full arg1 harg1 x0 ![0, 0] (by decide) _) (read_cols arg2 harg2 x1 1792 (by decide) _) _ (scratch2 _ _) (kernelRun0_A.sl.v497 c arg1 harg1 arg2 harg2 arg11 x0 x1) (u_read _ _ _ _ 14 (by decide) _) _ (fun a l => by pointwise [k0_pay90]), ?_⟩
  refine List.forall_mem_cons.2 ⟨u_piece x0 x1 _ _ 2 13 1792 0 (by decide) (by decide) (by decide) (by decide) rfl inb_S8x32x2048_S1x32x128_2_0_1664 (read_full arg1 harg1 x0 ![0, 0] (by decide) _) (read_cols arg2 harg2 x1 1792 (by decide) _) _ (scratch2 _ _) (kernelRun0_A.sl.v492 c arg1 harg1 arg2 harg2 arg11 x0 x1) (u_read _ _ _ _ 13 (by decide) _) _ (fun a l => by pointwise [k0_pay89]), ?_⟩
  refine List.forall_mem_cons.2 ⟨u_piece x0 x1 _ _ 2 12 1792 0 (by decide) (by decide) (by decide) (by decide) rfl inb_S8x32x2048_S1x32x128_2_0_1536 (read_full arg1 harg1 x0 ![0, 0] (by decide) _) (read_cols arg2 harg2 x1 1792 (by decide) _) _ (scratch2 _ _) (kernelRun0_A.sl.v487 c arg1 harg1 arg2 harg2 arg11 x0 x1) (u_read _ _ _ _ 12 (by decide) _) _ (fun a l => by pointwise [k0_pay88]), ?_⟩
  refine List.forall_mem_cons.2 ⟨u_piece x0 x1 _ _ 2 11 1792 0 (by decide) (by decide) (by decide) (by decide) rfl inb_S8x32x2048_S1x32x128_2_0_1408 (read_full arg1 harg1 x0 ![0, 0] (by decide) _) (read_cols arg2 harg2 x1 1792 (by decide) _) _ (scratch2 _ _) (kernelRun0_A.sl.v482 c arg1 harg1 arg2 harg2 arg11 x0 x1) (u_read _ _ _ _ 11 (by decide) _) _ (fun a l => by pointwise [k0_pay87]), ?_⟩
  refine List.forall_mem_cons.2 ⟨u_piece x0 x1 _ _ 2 10 1792 0 (by decide) (by decide) (by decide) (by decide) rfl inb_S8x32x2048_S1x32x128_2_0_1280 (read_full arg1 harg1 x0 ![0, 0] (by decide) _) (read_cols arg2 harg2 x1 1792 (by decide) _) _ (scratch2 _ _) (kernelRun0_A.sl.v477 c arg1 harg1 arg2 harg2 arg11 x0 x1) (u_read _ _ _ _ 10 (by decide) _) _ (fun a l => by pointwise [k0_pay86]), ?_⟩
  refine List.forall_mem_cons.2 ⟨u_piece x0 x1 _ _ 2 9 1792 0 (by decide) (by decide) (by decide) (by decide) rfl inb_S8x32x2048_S1x32x128_2_0_1152 (read_full arg1 harg1 x0 ![0, 0] (by decide) _) (read_cols arg2 harg2 x1 1792 (by decide) _) _ (scratch2 _ _) (kernelRun0_A.sl.v472 c arg1 harg1 arg2 harg2 arg11 x0 x1) (u_read _ _ _ _ 9 (by decide) _) _ (fun a l => by pointwise [k0_pay85]), ?_⟩
  refine List.forall_mem_cons.2 ⟨u_piece x0 x1 _ _ 2 8 1792 0 (by decide) (by decide) (by decide) (by decide) rfl inb_S8x32x2048_S1x32x128_2_0_1024 (read_full arg1 harg1 x0 ![0, 0] (by decide) _) (read_cols arg2 harg2 x1 1792 (by decide) _) _ (scratch2 _ _) (kernelRun0_A.sl.v467 c arg1 harg1 arg2 harg2 arg11 x0 x1) (u_read _ _ _ _ 8 (by decide) _) _ (fun a l => by pointwise [k0_pay84]), ?_⟩
  refine List.forall_mem_cons.2 ⟨u_piece x0 x1 _ _ 2 7 1792 0 (by decide) (by decide) (by decide) (by decide) rfl inb_S8x32x2048_S1x32x128_2_0_896 (read_full arg1 harg1 x0 ![0, 0] (by decide) _) (read_cols arg2 harg2 x1 1792 (by decide) _) _ (scratch2 _ _) (kernelRun0_A.sl.v462 c arg1 harg1 arg2 harg2 arg11 x0 x1) (u_read _ _ _ _ 7 (by decide) _) _ (fun a l => by pointwise [k0_pay83]), ?_⟩
  refine List.forall_mem_cons.2 ⟨u_piece x0 x1 _ _ 2 6 1792 0 (by decide) (by decide) (by decide) (by decide) rfl inb_S8x32x2048_S1x32x128_2_0_768 (read_full arg1 harg1 x0 ![0, 0] (by decide) _) (read_cols arg2 harg2 x1 1792 (by decide) _) _ (scratch2 _ _) (kernelRun0_A.sl.v457 c arg1 harg1 arg2 harg2 arg11 x0 x1) (u_read _ _ _ _ 6 (by decide) _) _ (fun a l => by pointwise [k0_pay82]), ?_⟩
  refine List.forall_mem_cons.2 ⟨u_piece x0 x1 _ _ 2 5 1792 0 (by decide) (by decide) (by decide) (by decide) rfl inb_S8x32x2048_S1x32x128_2_0_640 (read_full arg1 harg1 x0 ![0, 0] (by decide) _) (read_cols arg2 harg2 x1 1792 (by decide) _) _ (scratch2 _ _) (kernelRun0_A.sl.v452 c arg1 harg1 arg2 harg2 arg11 x0 x1) (u_read _ _ _ _ 5 (by decide) _) _ (fun a l => by pointwise [kernelRun0_A.sl.r_23, k0_pay80, k0_pay81]), ?_⟩
  refine List.forall_mem_cons.2 ⟨u_piece x0 x1 _ _ 2 4 1792 0 (by decide) (by decide) (by decide) (by decide) rfl inb_S8x32x2048_S1x32x128_2_0_512 (read_full arg1 harg1 x0 ![0, 0] (by decide) _) (read_cols arg2 harg2 x1 1792 (by decide) _) _ (scratch2 _ _) (kernelRun0_A.sl.v447 c arg1 harg1 arg2 harg2 arg11 x0 x1) (u_read _ _ _ _ 4 (by decide) _) _ (fun a l => by pointwise [k0_pay79]), ?_⟩
  refine List.forall_mem_cons.2 ⟨u_piece x0 x1 _ _ 2 3 1792 0 (by decide) (by decide) (by decide) (by decide) rfl inb_S8x32x2048_S1x32x128_2_0_384 (read_full arg1 harg1 x0 ![0, 0] (by decide) _) (read_cols arg2 harg2 x1 1792 (by decide) _) _ (scratch2 _ _) (kernelRun0_A.sl.v442 c arg1 harg1 arg2 harg2 arg11 x0 x1) (u_read _ _ _ _ 3 (by decide) _) _ (fun a l => by pointwise [k0_pay78]), ?_⟩
  refine List.forall_mem_cons.2 ⟨u_piece x0 x1 _ _ 2 2 1792 0 (by decide) (by decide) (by decide) (by decide) rfl inb_S8x32x2048_S1x32x128_2_0_256 (read_full arg1 harg1 x0 ![0, 0] (by decide) _) (read_cols arg2 harg2 x1 1792 (by decide) _) _ (scratch2 _ _) (kernelRun0_A.sl.v437 c arg1 harg1 arg2 harg2 arg11 x0 x1) (u_read _ _ _ _ 2 (by decide) _) _ (fun a l => by pointwise [k0_pay77]), ?_⟩
  refine List.forall_mem_cons.2 ⟨u_piece x0 x1 _ _ 2 1 1792 0 (by decide) (by decide) (by decide) (by decide) rfl inb_S8x32x2048_S1x32x128_2_0_128 (read_full arg1 harg1 x0 ![0, 0] (by decide) _) (read_cols arg2 harg2 x1 1792 (by decide) _) _ (scratch2 _ _) (kernelRun0_A.sl.v432 c arg1 harg1 arg2 harg2 arg11 x0 x1) (u_read _ _ _ _ 1 (by decide) _) _ (fun a l => by pointwise [k0_pay76]), ?_⟩
  refine List.forall_mem_cons.2 ⟨u_piece x0 x1 _ _ 2 0 1792 0 (by decide) (by decide) (by decide) (by decide) rfl inb_S8x32x2048_S1x32x128_2_0_0 (read_full arg1 harg1 x0 ![0, 0] (by decide) _) (read_cols arg2 harg2 x1 1792 (by decide) _) _ (scratch2 _ _) (kernelRun0_A.sl.v427 c arg1 harg1 arg2 harg2 arg11 x0 x1) (u_read _ _ _ _ 0 (by decide) _) _ (fun a l => by pointwise [k0_pay75]), ?_⟩
  refine List.forall_mem_cons.2 ⟨u_piece x0 x1 _ _ 1 15 1536 128 (by decide) (by decide) (by decide) (by decide) rfl inb_S8x32x2048_S1x32x128_1_0_1920 (read_full arg1 harg1 x0 ![0, 0] (by decide) _) (read_cols arg2 harg2 x1 1536 (by decide) _) _ (scratch1 _ _) (kernelRun0_A.sl.v415 c arg1 harg1 arg2 harg2 arg11 x0 x1) (u_read _ _ _ _ 15 (by decide) _) _ (fun a l => by pointwise [k0_pay72]), ?_⟩
  refine List.forall_mem_cons.2 ⟨u_piece x0 x1 _ _ 1 14 1536 128 (by decide) (by decide) (by decide) (by decide) rfl inb_S8x32x2048_S1x32x128_1_0_1792 (read_full arg1 harg1 x0 ![0, 0] (by decide) _) (read_cols arg2 harg2 x1 1536 (by decide) _) _ (scratch1 _ _) (kernelRun0_A.sl.v410 c arg1 harg1 arg2 harg2 arg11 x0 x1) (u_read _ _ _ _ 14 (by decide) _) _ (fun a l => by pointwise [k0_pay71]), ?_⟩
  refine List.forall_mem_cons.2 ⟨u_piece x0 x1 _ _ 1 13 1536 128 (by decide) (by decide) (by decide) (by decide) rfl inb_S8x32x2048_S1x32x128_1_0_1664 (read_full arg1 harg1 x0 ![0, 0] (by decide) _) (read_cols arg2 harg2 x1 1536 (by decide) _) _ (scratch1 _ _) (kernelRun0_A.sl.v405 c arg1 harg1 arg2 harg2 arg11 x0 x1) (u_read _ _ _ _ 13 (by decide) _) _ (fun a l => by pointwise [k0_pay70]), ?_⟩
  refine List.forall_mem_cons.2 ⟨u_piece x0 x1 _ _ 1 12 1536 128 (by decide) (by decide) (by decide) (by decide) rfl inb_S8x32x2048_S1x32x128_1_0_1536 (read_full arg1 harg1 x0 ![0, 0] (by decide) _) (read_cols arg2 harg2 x1 1536 (by decide) _) _ (scratch1 _ _) (kernelRun0_A.sl.v400 c arg1 harg1 arg2 harg2 arg11 x0 x1) (u_read _ _ _ _ 12 (by decide) _) _ (fun a l => by pointwise [k0_pay69]), ?_⟩
  refine List.forall_mem_cons.2 ⟨u_piece x0 x1 _ _ 1 11 1536 128 (by decide) (by decide) (by decide) (by decide) rfl inb_S8x32x2048_S1x32x128_1_0_1408 (read_full arg1 harg1 x0 ![0, 0] (by decide) _) (read_cols arg2 harg2 x1 1536 (by decide) _) _ (scratch1 _ _) (kernelRun0_A.sl.v395 c arg1 harg1 arg2 harg2 arg11 x0 x1) (u_read _ _ _ _ 11 (by decide) _) _ (fun a l => by pointwise [k0_pay68]), ?_⟩
  refine List.forall_mem_cons.2 ⟨u_piece x0 x1 _ _ 1 10 1536 128 (by decide) (by decide) (by decide) (by decide) rfl inb_S8x32x2048_S1x32x128_1_0_1280 (read_full arg1 harg1 x0 ![0, 0] (by decide) _) (read_cols arg2 harg2 x1 1536 (by decide) _) _ (scratch1 _ _) (kernelRun0_A.sl.v390 c arg1 harg1 arg2 harg2 arg11 x0 x1) (u_read _ _ _ _ 10 (by decide) _) _ (fun a l => by pointwise [k0_pay67]), ?_⟩
  refine List.forall_mem_cons.2 ⟨u_piece x0 x1 _ _ 1 9 1536 128 (by decide) (by decide) (by decide) (by decide) rfl inb_S8x32x2048_S1x32x128_1_0_1152 (read_full arg1 harg1 x0 ![0, 0] (by decide) _) (read_cols arg2 harg2 x1 1536 (by decide) _) _ (scratch1 _ _) (kernelRun0_A.sl.v385 c arg1 harg1 arg2 harg2 arg11 x0 x1) (u_read _ _ _ _ 9 (by decide) _) _ (fun a l => by pointwise [k0_pay66]), ?_⟩
  refine List.forall_mem_cons.2 ⟨u_piece x0 x1 _ _ 1 8 1536 128 (by decide) (by decide) (by decide) (by decide) rfl inb_S8x32x2048_S1x32x128_1_0_1024 (read_full arg1 harg1 x0 ![0, 0] (by decide) _) (read_cols arg2 harg2 x1 1536 (by decide) _) _ (scratch1 _ _) (kernelRun0_A.sl.v380 c arg1 harg1 arg2 harg2 arg11 x0 x1) (u_read _ _ _ _ 8 (by decide) _) _ (fun a l => by pointwise [k0_pay65]), ?_⟩
  refine List.forall_mem_cons.2 ⟨u_piece x0 x1 _ _ 1 7 1536 128 (by decide) (by decide) (by decide) (by decide) rfl inb_S8x32x2048_S1x32x128_1_0_896 (read_full arg1 harg1 x0 ![0, 0] (by decide) _) (read_cols arg2 harg2 x1 1536 (by decide) _) _ (scratch1 _ _) (kernelRun0_A.sl.v375 c arg1 harg1 arg2 harg2 arg11 x0 x1) (u_read _ _ _ _ 7 (by decide) _) _ (fun a l => by pointwise [k0_pay64]), ?_⟩
  refine List.forall_mem_cons.2 ⟨u_piece x0 x1 _ _ 1 6 1536 128 (by decide) (by decide) (by decide) (by decide) rfl inb_S8x32x2048_S1x32x128_1_0_768 (read_full arg1 harg1 x0 ![0, 0] (by decide) _) (read_cols arg2 harg2 x1 1536 (by decide) _) _ (scratch1 _ _) (kernelRun0_A.sl.v370 c arg1 harg1 arg2 harg2 arg11 x0 x1) (u_read _ _ _ _ 6 (by decide) _) _ (fun a l => by pointwise [kernelRun0_A.sl.r_21, k0_pay62, k0_pay63]), ?_⟩
  refine List.forall_mem_cons.2 ⟨u_piece x0 x1 _ _ 1 5 1536 128 (by decide) (by decide) (by decide) (by decide) rfl inb_S8x32x2048_S1x32x128_1_0_640 (read_full arg1 harg1 x0 ![0, 0] (by decide) _) (read_cols arg2 harg2 x1 1536 (by decide) _) _ (scratch1 _ _) (kernelRun0_A.sl.v365 c arg1 harg1 arg2 harg2 arg11 x0 x1) (u_read _ _ _ _ 5 (by decide) _) _ (fun a l => by pointwise [k0_pay61]), ?_⟩
  refine List.forall_mem_cons.2 ⟨u_piece x0 x1 _ _ 1 4 1536 128 (by decide) (by decide) (by decide) (by decide) rfl inb_S8x32x2048_S1x32x128_1_0_512 (read_full arg1 harg1 x0 ![0, 0] (by decide) _) (read_cols arg2 harg2 x1 1536 (by decide) _) _ (scratch1 _ _) (kernelRun0_A.sl.v360 c arg1 harg1 arg2 harg2 arg11 x0 x1) (u_read _ _ _ _ 4 (by decide) _) _ (fun a l => by pointwise [k0_pay60]), ?_⟩
  refine List.forall_mem_cons.2 ⟨u_piece x0 x1 _ _ 1 3 1536 128 (by decide) (by decide) (by decide) (by decide) rfl inb_S8x32x2048_S1x32x128_1_0_384 (read_full arg1 harg1 x0 ![0, 0] (by decide) _) (read_cols arg2 harg2 x1 1536 (by decide) _) _ (scratch1 _ _) (kernelRun0_A.sl.v355 c arg1 harg1 arg2 harg2 arg11 x0 x1) (u_read _ _ _ _ 3 (by decide) _) _ (fun a l => by pointwise [k0_pay59]), ?_⟩
  refine List.forall_mem_cons.2 ⟨u_piece x0 x1 _ _ 1 2 1536 128 (by decide) (by decide) (by decide) (by decide) rfl inb_S8x32x2048_S1x32x128_1_0_256 (read_full arg1 harg1 x0 ![0, 0] (by decide) _) (read_cols arg2 harg2 x1 1536 (by decide) _) _ (scratch1 _ _) (kernelRun0_A.sl.v350 c arg1 harg1 arg2 harg2 arg11 x0 x1) (u_read _ _ _ _ 2 (by decide) _) _ (fun a l => by pointwise [k0_pay58]), ?_⟩
  refine List.forall_mem_cons.2 ⟨u_piece x0 x1 _ _ 1 1 1536 128 (by decide) (by decide) (by decide) (by decide) rfl inb_S8x32x2048_S1x32x128_1_0_128 (read_full arg1 harg1 x0 ![0, 0] (by decide) _) (read_cols arg2 harg2 x1 1536 (by decide) _) _ (scratch1 _ _) (kernelRun0_A.sl.v345 c arg1 harg1 arg2 harg2 arg11 x0 x1) (u_read _ _ _ _ 1 (by decide) _) _ (fun a l => by pointwise [k0_pay57]), ?_⟩
  refine List.forall_mem_cons.2 ⟨u_piece x0 x1 _ _ 1 0 1536 128 (by decide) (by decide) (by decide) (by decide) rfl inb_S8x32x2048_S1x32x128_1_0_0 (read_full arg1 harg1 x0 ![0, 0] (by decide) _) (read_cols arg2 harg2 x1 1536 (by decide) _) _ (scratch1 _ _) (kernelRun0_A.sl.v340 c arg1 harg1 arg2 harg2 arg11 x0 x1) (u_read _ _ _ _ 0 (by decide) _) _ (fun a l => by pointwise [k0_pay56]), ?_⟩
  refine List.forall_mem_cons.2 ⟨u_piece x0 x1 _ _ 0 15 1536 0 (by decide) (by decide) (by decide) (by decide) rfl inb_S8x32x2048_S1x32x128_0_0_1920 (read_full arg1 harg1 x0 ![0, 0] (by decide) _) (read_cols arg2 harg2 x1 1536 (by decide) _) _ (scratch0 _ _) (kernelRun0_A.sl.v331 c arg1 harg1 arg2 harg2 arg11 x0 x1) (u_read _ _ _ _ 15 (by decide) _) _ (fun a l => by pointwise [k0_pay54]), ?_⟩
  refine List.forall_mem_cons.2 ⟨u_piece x0 x1 _ _ 0 14 1536 0 (by decide) (by decide) (by decide) (by decide) rfl inb_S8x32x2048_S1x32x128_0_0_1792 (read_full arg1 harg1 x0 ![0, 0] (by decide) _) (read_cols arg2 harg2 x1 1536 (by decide) _) _ (scratch0 _ _) (kernelRun0_A.sl.v326 c arg1 harg1 arg2 harg2 arg11 x0 x1) (u_read _ _ _ _ 14 (by decide) _) _ (fun a l => by pointwise [k0_pay53]), ?_⟩
  refine List.forall_mem_cons.2 ⟨u_piece x0 x1 _ _ 0 13 1536 0 (by decide) (by decide) (by decide) (by decide) rfl inb_S8x32x2048_S1x32x128_0_0_1664 (read_full arg1 harg1 x0 ![0, 0] (by decide) _) (read_cols arg2 harg2 x1 1536 (by decide) _) _ (scratch0 _ _) (kernelRun0_A.sl.v321 c arg1 harg1 arg2 harg2 arg11 x0 x1) (u_read _ _ _ _ 13 (by decide) _) _ (fun a l => by pointwise [k0_pay52]), ?_⟩
  refine List.forall_mem_cons.2 ⟨u_piece x0 x1 _ _ 0 12 1536 0 (by decide) (by decide) (by decide) (by decide) rfl inb_S8x32x2048_S1x32x128_0_0_1536 (read_full arg1 harg1 x0 ![0, 0] (by decide) _) (read_cols arg2 harg2 x1 1536 (by decide) _) _ (scratch0 _ _) (kernelRun0_A.sl.v c arg1 harg1 arg2 harg2 arg11 x0 x1) (u_read _ _ _ _ 12 (by decide) _) _ (fun a l => by pointwise [k0_pay51]), ?_⟩
  refine List.forall_mem_cons.2 ⟨u_piece x0 x1 _ _ 0 11 1536 0 (by decide) (by decide) (by decide) (by decide) rfl inb_S8x32x2048_S1x32x128_0_0_1408 (read_full arg1 harg1 x0 ![0, 0] (by decide) _) (read_cols arg2 harg2 x1 1536 (by decide) _) _ (scratch0 _ _) (kernelRun0_A.sl.v311 c arg1 harg1 arg2 harg2 arg11 x0 x1) (u_read _ _ _ _ 11 (by decide) _) _ (fun a l => by pointwise [k0_pay50]), ?_⟩
  refine List.forall_mem_cons.2 ⟨u_piece x0 x1 _ _ 0 10 1536 0 (by decide) (by decide) (by decide) (by decide) rfl inb_S8x32x2048_S1x32x128_0_0_1280 (read_full arg1 harg1 x0 ![0, 0] (by decide) _) (read_cols arg2 harg2 x1 1536 (by decide) _) _ (scratch0 _ _) (kernelRun0_A.sl.v306 c arg1 harg1 arg2 harg2 arg11 x0 x1) (u_read _ _ _ _ 10 (by decide) _) _ (fun a l => by pointwise [k0_pay49]), ?_⟩
  refine List.forall_mem_cons.2 ⟨u_piece x0 x1 _ _ 0 9 1536 0 (by decide) (by decide) (by decide) (by decide) rfl inb_S8x32x2048_S1x32x128_0_0_1152 (read_full arg1 harg1 x0 ![0, 0] (by decide) _) (read_cols arg2 harg2 x1 1536 (by decide) _) _ (scratch0 _ _) (kernelRun0_A.sl.v301 c arg1 harg1 arg2 harg2 arg11 x0 x1) (u_read _ _ _ _ 9 (by decide) _) _ (fun a l => by pointwise [k0_pay48]), ?_⟩
  refine List.forall_mem_cons.2 ⟨u_piece x0 x1 _ _ 0 8 1536 0 (by decide) (by decide) (by decide) (by decide) rfl inb_S8x32x2048_S1x32x128_0_0_1024 (read_full arg1 harg1 x0 ![0, 0] (by decide) _) (read_cols arg2 harg2 x1 1536 (by decide) _) _ (scratch0 _ _) (kernelRun0_A.sl.v296 c arg1 harg1 arg2 harg2 arg11 x0 x1) (u_read _ _ _ _ 8 (by decide) _) _ (fun a l => by pointwise [k0_pay47]), ?_⟩
  refine List.forall_mem_cons.2 ⟨u_piece x0 x1 _ _ 0 7 1536 0 (by decide) (by decide) (by decide) (by decide) rfl inb_S8x32x2048_S1x32x128_0_0_896 (read_full arg1 harg1 x0 ![0, 0] (by decide) _) (read_cols arg2 harg2 x1 1536 (by decide) _) _ (scratch0 _ _) (kernelRun0_A.sl.v291 c arg1 harg1 arg2 harg2 arg11 x0 x1) (u_read _ _ _ _ 7 (by decide) _) _ (fun a l => by pointwise [k0_pay46]), ?_⟩
  refine List.forall_mem_cons.2 ⟨u_piece x0 x1 _ _ 0 6 1536 0 (by decide) (by decide) (by decide) (by decide) rfl inb_S8x32x2048_S1x32x128_0_0_768 (read_full arg1 harg1 x0 ![0, 0] (by decide) _) (read_cols arg2 harg2 x1 1536 (by decide) _) _ (scratch0 _ _) (kernelRun0_A.sl.v286 c arg1 harg1 arg2 harg2 arg11 x0 x1) (u_read _ _ _ _ 6 (by decide) _) _ (fun a l => by pointwise [kernelRun0_A.sl.r_20, k0_pay44, k0_pay45]), ?_⟩
  refine List.forall_mem_cons.2 ⟨u_piece x0 x1 _ _ 0 5 1536 0 (by decide) (by decide) (by decide) (by decide) rfl inb_S8x32x2048_S1x32x128_0_0_640 (read_full arg1 harg1 x0 ![0, 0] (by decide) _) (read_cols arg2 harg2 x1 1536 (by decide) _) _ (scratch0 _ _) (kernelRun0_A.sl.v281 c arg1 harg1 arg2 harg2 arg11 x0 x1) (u_read _ _ _ _ 5 (by decide) _) _ (fun a l => by pointwise [k0_pay43]), ?_⟩
  refine List.forall_mem_cons.2 ⟨u_piece x0 x1 _ _ 0 4 1536 0 (by decide) (by decide) (by decide) (by decide) rfl inb_S8x32x2048_S1x32x128_0_0_512 (read_full arg1 harg1 x0 ![0, 0] (by decide) _) (read_cols arg2 harg2 x1 1536 (by decide) _) _ (scratch0 _ _) (kernelRun0_A.sl.v276 c arg1 harg1 arg2 harg2 arg11 x0 x1) (u_read _ _ _ _ 4 (by decide) _) _ (fun a l => by pointwise [k0_pay42]), ?_⟩
  refine List.forall_mem_cons.2 ⟨u_piece x0 x1 _ _ 0 3 1536 0 (by decide) (by decide) (by decide) (by decide) rfl inb_S8x32x2048_S1x32x128_0_0_384 (read_full arg1 harg1 x0 ![0, 0] (by decide) _) (read_cols arg2 harg2 x1 1536 (by decide) _) _ (scratch0 _ _) (kernelRun0_A.sl.v271 c arg1 harg1 arg2 harg2 arg11 x0 x1) (u_read _ _ _ _ 3 (by decide) _) _ (fun a l => by pointwise [k0_pay41]), ?_⟩
  refine List.forall_mem_cons.2 ⟨u_piece x0 x1 _ _ 0 2 1536 0 (by decide) (by decide) (by decide) (by decide) rfl inb_S8x32x2048_S1x32x128_0_0_256 (read_full arg1 harg1 x0 ![0, 0] (by decide) _) (read_cols arg2 harg2 x1 1536 (by decide) _) _ (scratch0 _ _) (kernelRun0_A.sl.v266 c arg1 harg1 arg2 harg2 arg11 x0 x1) (u_read _ _ _ _ 2 (by decide) _) _ (fun a l => by pointwise [k0_pay40]), ?_⟩
  refine List.forall_mem_cons.2 ⟨u_piece x0 x1 _ _ 0 1 1536 0 (by decide) (by decide) (by decide) (by decide) rfl inb_S8x32x2048_S1x32x128_0_0_128 (read_full arg1 harg1 x0 ![0, 0] (by decide) _) (read_cols arg2 harg2 x1 1536 (by decide) _) _ (scratch0 _ _) (kernelRun0_A.sl.v261 c arg1 harg1 arg2 harg2 arg11 x0 x1) (u_read _ _ _ _ 1 (by decide) _) _ (fun a l => by pointwise [kernelRun0_A.sl.r_19, k0_pay38, k0_pay39]), ?_⟩
  refine List.forall_mem_cons.2 ⟨u_piece x0 x1 _ _ 0 0 1536 0 (by decide) (by decide) (by decide) (by decide) rfl inb_S8x32x2048_S1x32x128_0_0_0 (read_full arg1 harg1 x0 ![0, 0] (by decide) _) (read_cols arg2 harg2 x1 1536 (by decide) _) _ (scratch0 _ _) (kernelRun0_A.sl.v256 c arg1 harg1 arg2 harg2 arg11 x0 x1) (u_read _ _ _ _ 0 (by decide) _) _ (fun a l => by pointwise [k0_pay37]), ?_⟩
  exact List.forall_mem_nil _

end points
end Cert.Kernel3Ideal.Value
end
-- ==== Proof.Inproj.Value.lean ====
module

public import proofs.«01_k».proof.Proof.Inproj.Scan
public import proofs.«01_k».proof.Proof.Gen.Kernel3Ideal.Value

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

/-! The four arrays the input projection leaves. -/

variable (m : (ℓ : Loc nD τ sig) → Buf (Elt Ideal) ℓ) (ρ : Dev nD → PrngReg)

/-- The block every window names at a grid point. -/
theorem idx : ∀ t : Fin cfg0.N, win0_0.index t = ![t.val, 0] ∧ win0_1.index t = ![0, 0, 0] ∧ win0_2.index t = ![0, 0, 0]
    ∧ win0_3.index t = ![0, 0, 0] ∧ win0_4.index t = ![t.val % 8, 0] ∧ win0_5.index t = ![t.val % 8, 0] ∧ win0_6.index t = ![t.val, 0]
    ∧ win0_7.index t = ![t.val, 0] ∧ win0_8.index t = ![t.val, 0] ∧ win0_9.index t = ![0, t.val, 0] :=
  (by decide +kernel : ∀ t : Fin grid0.N, _)

section arrays
variable (X : Vec Ideal S8192x2048 .bf16) (W : Vec Ideal S4x2048x2560 .bf16) (g : Vec Ideal S4x1x128 .f32) (C S : Vec Ideal S4096x128 .f32)

/-- A row of the input through a column of the first layer's weights. -/
def proj (r : Fin 8192) (e : Fin 2560) : EReal := ∑ d : Fin 2048, X (ix2 r d) * W (ix3 0 d e)

/-- The queries. -/
def Qa (y : S8192x1024.Idx) : EReal :=
  roped (fun l => proj X W (y 0) ⟨(y 1).val / 128 * 128 + l.val, by have : (y 1).val < 1024 := (y 1).isLt; omega⟩) (fun l => g (ix3 0 0 l))
    (fun l => C (ix2 ⟨(y 0).val % 4096, by omega⟩ l)) (fun l => S (ix2 ⟨(y 0).val % 4096, by omega⟩ l)) ⟨(y 1).val % 128, by omega⟩ * qscale

/-- The keys. -/
def Ka (y : S8192x256.Idx) : EReal :=
  roped (fun l => proj X W (y 0) ⟨1024 + (y 1).val / 128 * 128 + l.val, by have : (y 1).val < 256 := (y 1).isLt; omega⟩) (fun l => g (ix3 0 0 l))
    (fun l => C (ix2 ⟨(y 0).val % 4096, by omega⟩ l)) (fun l => S (ix2 ⟨(y 0).val % 4096, by omega⟩ l)) ⟨(y 1).val % 128, by omega⟩

/-- The values. -/
def Va (y : S8192x256.Idx) : EReal := proj X W (y 0) ⟨1280 + (y 1).val, by have : (y 1).val < 256 := (y 1).isLt; omega⟩

/-- The state-space inputs. -/
def Ua (y : S8x512x2048.Idx) : EReal :=
  proj X W ⟨16 * (y 1).val + (y 2).val / 128, by have : (y 1).val < 512 := (y 1).isLt; have : (y 2).val < 2048 := (y 2).isLt; omega⟩
    ⟨1536 + (y 0).val * 128 + (y 2).val % 128, by have : (y 0).val < 8 := (y 0).isLt; omega⟩

/-- A block's projection is the array's, where the block's row is the array's row. -/
theorem prj_eq (x : Vec Ideal S512x2048 .bf16) (w : Vec Ideal S1x2048x2560 .bf16) (r : Fin 512) (e : Fin 2560) (r' : Fin 8192) (e' : Fin 2560)
    (hx : ∀ d, x (ix2 r d) = X (ix2 r' d)) (hw : ∀ d e, w (ix3 0 d e) = W (ix3 0 d e)) (he : e.val = e'.val) :
    prj x w r e = proj X W r' e' := by
  obtain rfl : e = e' := Fin.ext he
  unfold prj proj
  exact Finset.sum_congr rfl fun d _ => by rw [hx, hw]
end arrays

/-- The queries' array after the kernel's run. -/
theorem final6 (c : Dev nD) :
    (dats m 0 c).arrAt 6 cfg0.N = Qa (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) := by
  refine (dats m 0 c).arrAt_eq_of_covers 6 _ (by decide +kernel) fun t _ y => ?_
  have y0 : (y 0).val < 512 := (y 0).isLt
  have y1 : (y 1).val < 1024 := (y 1).isLt
  have ht : t.val < 16 := lt_of_lt_of_eq t.isLt N_0
  blk_simp
  rw [after0_6]
  unfold outsAt0
  dsimp only
  rw [point6]
  unfold Qb Qa
  refine congrArg (· * qscale) (roped_congr (fun l => prj_eq _ _ _ _ _ _ _ _ (fun d => ?_) (fun d e => ?_) ?_) (fun l => ?_) (fun l => ?_) (fun l => ?_) ?_)
  all_goals blk_point [iblk, V, idx t]

/-- The keys' array after the kernel's run. -/
theorem final7 (c : Dev nD) :
    (dats m 0 c).arrAt 7 cfg0.N = Ka (m ((c.tc : Thread nD τ).loc main_arg0)) (m ((c.tc : Thread nD τ).loc main_arg1))
      (m ((c.tc : Thread nD τ).loc main_arg3)) (m ((c.tc : Thread nD τ).loc main_arg4)) (m ((c.tc : Thread nD τ).loc main_arg5)) := by
  refine (dats m 0 c).arrAt_eq_of_covers 7 _ (by decide +kernel) fun t _ y => ?_
  have y0 : (y 0).val < 512 := (y 0).isLt
  have y1 : (y 1).val < 256 := (y 1).isLt
  have ht : t.val < 16 := lt_of_lt_of_eq t.isLt N_0
  blk_simp
  rw [after0_7]
  unfold outsAt0
  dsimp only
  rw [point7]
  unfold Kb Ka
  refine roped_congr (fun l => prj_eq _ _ _ _ _ _ _ _ (fun d => ?_) (fun d e => ?_) ?_) (fun l => ?_) (fun l => ?_) (fun l => ?_) ?_
  all_goals blk_point [iblk, V, idx t]

/-- The values' array after the kernel's run. -/
theorem final8 (c : Dev nD) :
    (dats m 0 c).arrAt 8 cfg0.N = Va (m ((c.tc : Thread nD τ).loc main_arg0)) (m ((c.tc : Thread nD τ).loc main_arg1)) := by
  refine (dats m 0 c).arrAt_eq_of_covers 8 _ (by decide +kernel) fun t _ y => ?_
  have y0 : (y 0).val < 512 := (y 0).isLt
  have y1 : (y 1).val < 256 := (y 1).isLt
  have ht : t.val < 16 := lt_of_lt_of_eq t.isLt N_0
  blk_simp
  rw [after0_8]
  unfold outsAt0
  dsimp only
  rw [point8]
  unfold Vb Va
  refine prj_eq _ _ _ _ _ _ _ _ (fun d => ?_) (fun d e => ?_) ?_
  all_goals blk_point [iblk, V, idx t]

/-- The state-space inputs' array after the kernel's run. -/
theorem final9 (c : Dev nD) :
    (dats m 0 c).arrAt 9 cfg0.N = Ua (m ((c.tc : Thread nD τ).loc main_arg0)) (m ((c.tc : Thread nD τ).loc main_arg1)) := by
  refine (dats m 0 c).arrAt_eq_of_covers 9 _ (by decide +kernel) fun t _ y => ?_
  have y0 : (y 0).val < 8 := (y 0).isLt
  have y1 : (y 1).val < 32 := (y 1).isLt
  have y2 : (y 2).val < 2048 := (y 2).isLt
  have ht : t.val < 16 := lt_of_lt_of_eq t.isLt N_0
  blk_simp
  rw [after0_9]
  unfold outsAt0
  dsimp only
  rw [point9]
  unfold Ub Ua
  refine prj_eq _ _ _ _ _ _ _ _ (fun d => ?_) (fun d e => ?_) ?_
  · blk_point [iblk, V, idx t]
  · blk_point [iblk, V, idx t]
  · have e0 : (((View.whole main_v0_3).slice (win0_9.rect t)).emb y 0).val = (y 0).val := by blk_point [idx t]
    have e2 : (((View.whole main_v0_3).slice (win0_9.rect t)).emb y 2).val = (y 2).val := by blk_point [idx t]
    dsimp only
    rw [e0, e2]

/-- The kernel ends with the four arrays and with its arguments as they were. -/
theorem run_result : θ_run (defs (F := Ideal)) (onTc (τ := τ) (main (F := Ideal))) ⟨m, fun _ => 0, ρ⟩ (fun r => ∀ c : Dev nD,
      r.2.mem ((c : Thread nD τ).loc main_v0_0) = Qa (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg5))
      ∧ r.2.mem ((c : Thread nD τ).loc main_v0_1) = Ka (m ((c.tc : Thread nD τ).loc main_arg0)) (m ((c.tc : Thread nD τ).loc main_arg1))
        (m ((c.tc : Thread nD τ).loc main_arg3)) (m ((c.tc : Thread nD τ).loc main_arg4)) (m ((c.tc : Thread nD τ).loc main_arg5))
      ∧ r.2.mem ((c : Thread nD τ).loc main_v0_2) = Va (m ((c.tc : Thread nD τ).loc main_arg0)) (m ((c.tc : Thread nD τ).loc main_arg1))
      ∧ r.2.mem ((c : Thread nD τ).loc main_v0_3) = Ua (m ((c.tc : Thread nD τ).loc main_arg0)) (m ((c.tc : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun r h c => ⟨(h c).1.trans (final6 m c), (h c).2.1.trans (final7 m c), (h c).2.2.1.trans (final8 m c),
    (h c).2.2.2.1.trans (final9 m c), (h c).2.2.2.2⟩) (run_blocks m ρ)

end Cert.Kernel3Ideal.Value
end
-- ==== Proof.Inproj.Ref.lean ====
module

public import proofs.«01_k».proof.Proof.Gen.Reference3Ideal.Run
public import Idealize.ShloMosaic.Lib.Pointwise
public import Idealize.ShloMosaic.Lib.KernelVsHost
public import Idealize.ShloMosaic.Lib.Pipeline.ValueKit

@[expose] public section

set_option maxRecDepth 16384

noncomputable section

namespace Cert.Reference3Ideal.Stages

open Cert.Reference3Ideal Cert.Reference3Ideal.Gen Idealize.ShloMosaic Idealize.ShloMosaic.TcCoe Idealize.SL.Sem
open Cert.Reference3Ideal.Value

/-! The input projection's reference in stages, and what each stage holds at an index. -/

/-- Every row through the first layer's weights. -/
def PROJ (x : FVec Ideal S8192x2048 .bf16) (w : FVec Ideal S4x2048x2560 .bf16) : FVec Ideal S8192x2560 .f32 :=
  (Host.dotGeneral dot_S8192x2048_S2048x2560_S8192x2560_1_0_0_1_n_n none (extf .f32 x bitsLt_bf16_f32) (extf .f32 (shapeCast _ (extractStridedSlice S1x2048x2560 ![0, 0, 0] w slices_S4x2048x2560_S1x2048x2560_0_0_0) shapeCasts_S1x2048x2560_S2048x2560) bitsLt_bf16_f32))

/-- The queries normalised, by head. -/
def NORMQ (p : FVec Ideal S8192x2560 .f32) (g : FVec Ideal S4x1x128 .f32) : FVec Ideal S2x4096x8x128 .f32 :=
  (mulf (mulf (shapeCast _ (extractStridedSlice S8192x1024 ![0, 0] p slices_S8192x2560_S8192x1024_0_0) shapeCasts_S8192x1024_S2x4096x8x128) (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf (shapeCast _ (extractStridedSlice S8192x1024 ![0, 0] p slices_S8192x2560_S8192x1024_0_0) shapeCasts_S8192x1024_S2x4096x8x128) (shapeCast _ (extractStridedSlice S8192x1024 ![0, 0] p slices_S8192x2560_S8192x1024_0_0) shapeCasts_S8192x1024_S2x4096x8x128)) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 (shapeCast _ (extractStridedSlice S1x1x128 ![0, 0, 0] g slices_S4x1x128_S1x1x128_0_0_0) shapeCasts_S1x1x128_S128))))

/-- The first halves of the rotated queries. -/
def LOQ (z : FVec Ideal S2x4096x8x128 .f32) (c s : FVec Ideal S4096x128 .f32) : FVec Ideal S2x4096x8x64 .f32 :=
  (addf (mulf (extractStridedSlice S2x4096x8x64 ![0, 0, 0, 0] z slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (extractStridedSlice S4096x1x64 ![0, 0, 0] (broadcastInDim S4096x1x128 ![0, 2] bcast_S4096x128_S4096x1x128_0_2 c) slices_S4096x1x128_S4096x1x64_0_0_0)))) (mulf (extractStridedSlice S2x4096x8x64 ![0, 0, 0, 64] z slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (extractStridedSlice S4096x1x64 ![0, 0, 0] (broadcastInDim S4096x1x128 ![0, 2] bcast_S4096x128_S4096x1x128_0_2 s) slices_S4096x1x128_S4096x1x64_0_0_0)))))

/-- The second halves of the rotated queries. -/
def HIQ (z : FVec Ideal S2x4096x8x128 .f32) (c s : FVec Ideal S4096x128 .f32) : FVec Ideal S2x4096x8x64 .f32 :=
  (addf (mulf (extractStridedSlice S2x4096x8x64 ![0, 0, 0, 64] z slices_S2x4096x8x128_S2x4096x8x64_0_0_0_64) (broadcastInDim S2x4096x8x64 ![0, 1, 2, 3] bcast_S1x4096x1x64_S2x4096x8x64_0_1_2_3 (broadcastInDim S1x4096x1x64 ![1, 2, 3] bcast_S4096x1x64_S1x4096x1x64_1_2_3 (extractStridedSlice S4096x1x64 ![0, 0, 64] (broadcastInDim S4096x1x128 ![0, 2] bcast_S4096x128_S4096x1x128_0_2 c) slices_S4096x1x128_S4096x1x64_0_0_64)))) (mulf (extractStridedSlice S2x4096x8x64 ![0, 0, 0, 0] z slices_S2x4096x8x128_S2x4096x8x64_0_0_0_0) (broadcastInDim S2x4096x8x64 ![0, 1, 2, 3] bcast_S1x4096x1x64_S2x4096x8x64_0_1_2_3 (broadcastInDim S1x4096x1x64 ![1, 2, 3] bcast_S4096x1x64_S1x4096x1x64_1_2_3 (extractStridedSlice S4096x1x64 ![0, 0, 64] (broadcastInDim S4096x1x128 ![0, 2] bcast_S4096x128_S4096x1x128_0_2 s) slices_S4096x1x128_S4096x1x64_0_0_64)))))

/-- The two halves side by side. -/
def ROPEQ (z : FVec Ideal S2x4096x8x128 .f32) (c s : FVec Ideal S4096x128 .f32) : FVec Ideal S2x4096x8x128 .f32 :=
  (concatenate S2x4096x8x128 3 [⟨S2x4096x8x64, (LOQ z c s)⟩, ⟨S2x4096x8x64, (HIQ z c s)⟩] concatenates_S2x4096x8x64_S2x4096x8x64_S2x4096x8x128_d3)

/-- The queries, scaled, heads side by side. -/
def OUTQ (z : FVec Ideal S2x4096x8x128 .f32) : FVec Ideal S8192x1024 .bf16 :=
  truncf .bf16 (shapeCast _ (mulf z (broadcastInDim S2x4096x8x128 ![] bcast_S_S2x4096x8x128 (constant S_ .f32 0x3DB504F3#32))) shapeCasts_S2x4096x8x128_S8192x1024) bitsLt_bf16_f32

/-- The keys normalised, by head. -/
def NORMK (p : FVec Ideal S8192x2560 .f32) (g : FVec Ideal S4x1x128 .f32) : FVec Ideal S2x4096x2x128 .f32 :=
  (mulf (mulf (shapeCast _ (extractStridedSlice S8192x256 ![0, 1024] p slices_S8192x2560_S8192x256_0_1024) shapeCasts_S8192x256_S2x4096x2x128) (broadcastInDim S2x4096x2x128 ![0, 1, 2, 3] bcast_S2x4096x2x1_S2x4096x2x128_0_1_2_3 (Host.rsqrt (addf (Host.divf (broadcastInDim S2x4096x2x1 ![0, 1, 2] bcast_S2x4096x2_S2x4096x2x1_0_1_2 (Host.reduceAdd (mulf (shapeCast _ (extractStridedSlice S8192x256 ![0, 1024] p slices_S8192x2560_S8192x256_0_1024) shapeCasts_S8192x256_S2x4096x2x128) (shapeCast _ (extractStridedSlice S8192x256 ![0, 1024] p slices_S8192x2560_S8192x256_0_1024) shapeCasts_S8192x256_S2x4096x2x128)) (constant S_ .f32 0x00000000#32) reducesTo_S2x4096x2x128_S2x4096x2_d3 h_S_)) (broadcastInDim S2x4096x2x1 ![] bcast_S_S2x4096x2x1 (constant S_ .f32 0x43000000#32))) (broadcastInDim S2x4096x2x1 ![] bcast_S_S2x4096x2x1 (constant S_ .f32 0x358637BD#32)))))) (broadcastInDim S2x4096x2x128 ![0, 1, 2, 3] bcast_S1x1x1x128_S2x4096x2x128_0_1_2_3 (broadcastInDim S1x1x1x128 ![3] bcast_S128_S1x1x1x128_3 (shapeCast _ (extractStridedSlice S1x1x128 ![0, 0, 0] g slices_S4x1x128_S1x1x128_0_0_0) shapeCasts_S1x1x128_S128))))

/-- The first halves of the rotated keys. -/
def LOK (z : FVec Ideal S2x4096x2x128 .f32) (c s : FVec Ideal S4096x128 .f32) : FVec Ideal S2x4096x2x64 .f32 :=
  (addf (mulf (extractStridedSlice S2x4096x2x64 ![0, 0, 0, 0] z slices_S2x4096x2x128_S2x4096x2x64_0_0_0_0) (broadcastInDim S2x4096x2x64 ![0, 1, 2, 3] bcast_S1x4096x1x64_S2x4096x2x64_0_1_2_3 (broadcastInDim S1x4096x1x64 ![1, 2, 3] bcast_S4096x1x64_S1x4096x1x64_1_2_3 (extractStridedSlice S4096x1x64 ![0, 0, 0] (broadcastInDim S4096x1x128 ![0, 2] bcast_S4096x128_S4096x1x128_0_2 c) slices_S4096x1x128_S4096x1x64_0_0_0)))) (mulf (extractStridedSlice S2x4096x2x64 ![0, 0, 0, 64] z slices_S2x4096x2x128_S2x4096x2x64_0_0_0_64) (broadcastInDim S2x4096x2x64 ![0, 1, 2, 3] bcast_S1x4096x1x64_S2x4096x2x64_0_1_2_3 (broadcastInDim S1x4096x1x64 ![1, 2, 3] bcast_S4096x1x64_S1x4096x1x64_1_2_3 (extractStridedSlice S4096x1x64 ![0, 0, 0] (broadcastInDim S4096x1x128 ![0, 2] bcast_S4096x128_S4096x1x128_0_2 s) slices_S4096x1x128_S4096x1x64_0_0_0)))))

/-- The second halves of the rotated keys. -/
def HIK (z : FVec Ideal S2x4096x2x128 .f32) (c s : FVec Ideal S4096x128 .f32) : FVec Ideal S2x4096x2x64 .f32 :=
  (addf (mulf (extractStridedSlice S2x4096x2x64 ![0, 0, 0, 64] z slices_S2x4096x2x128_S2x4096x2x64_0_0_0_64) (broadcastInDim S2x4096x2x64 ![0, 1, 2, 3] bcast_S1x4096x1x64_S2x4096x2x64_0_1_2_3 (broadcastInDim S1x4096x1x64 ![1, 2, 3] bcast_S4096x1x64_S1x4096x1x64_1_2_3 (extractStridedSlice S4096x1x64 ![0, 0, 64] (broadcastInDim S4096x1x128 ![0, 2] bcast_S4096x128_S4096x1x128_0_2 c) slices_S4096x1x128_S4096x1x64_0_0_64)))) (mulf (extractStridedSlice S2x4096x2x64 ![0, 0, 0, 0] z slices_S2x4096x2x128_S2x4096x2x64_0_0_0_0) (broadcastInDim S2x4096x2x64 ![0, 1, 2, 3] bcast_S1x4096x1x64_S2x4096x2x64_0_1_2_3 (broadcastInDim S1x4096x1x64 ![1, 2, 3] bcast_S4096x1x64_S1x4096x1x64_1_2_3 (extractStridedSlice S4096x1x64 ![0, 0, 64] (broadcastInDim S4096x1x128 ![0, 2] bcast_S4096x128_S4096x1x128_0_2 s) slices_S4096x1x128_S4096x1x64_0_0_64)))))

/-- The two halves side by side. -/
def ROPEK (z : FVec Ideal S2x4096x2x128 .f32) (c s : FVec Ideal S4096x128 .f32) : FVec Ideal S2x4096x2x128 .f32 :=
  (concatenate S2x4096x2x128 3 [⟨S2x4096x2x64, (LOK z c s)⟩, ⟨S2x4096x2x64, (HIK z c s)⟩] concatenates_S2x4096x2x64_S2x4096x2x64_S2x4096x2x128_d3)

/-- The keys, heads side by side. -/
def OUTK (z : FVec Ideal S2x4096x2x128 .f32) : FVec Ideal S8192x256 .bf16 :=
  truncf .bf16 (shapeCast _ z shapeCasts_S2x4096x2x128_S8192x256) bitsLt_bf16_f32

/-- The values. -/
def OUTV (p : FVec Ideal S8192x2560 .f32) : FVec Ideal S8192x256 .bf16 :=
  truncf .bf16 (extractStridedSlice S8192x256 ![0, 1280] p slices_S8192x2560_S8192x256_0_1280) bitsLt_bf16_f32

/-- The state-space inputs. -/
def OUTU (p : FVec Ideal S8192x2560 .f32) : FVec Ideal S8x512x2048 .bf16 :=
  truncf .bf16 (shapeCast _ (transpose S8x512x16x128 [2, 0, 1, 3] (shapeCast _ (extractStridedSlice S8192x1024 ![0, 1536] p slices_S8192x2560_S8192x1024_0_1536) shapeCasts_S8192x1024_S512x16x8x128) transposes_S512x16x8x128_S8x512x16x128_2_0_1_3) shapeCasts_S8x512x16x128_S8x512x2048) bitsLt_bf16_f32

/-- The reference ends with the stages' results and with its arguments as they were. -/
theorem run_stages (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v93) = OUTQ (ROPEQ (NORMQ (PROJ (m ((c.tc : Thread nD τ).loc main_arg0)) (m ((c.tc : Thread nD τ).loc main_arg1))) (m ((c.tc : Thread nD τ).loc main_arg2))) (m ((c.tc : Thread nD τ).loc main_arg4)) (m ((c.tc : Thread nD τ).loc main_arg5)))
      ∧ r.2.mem ((c.tc : Thread nD τ).loc main_v95) = OUTK (ROPEK (NORMK (PROJ (m ((c.tc : Thread nD τ).loc main_arg0)) (m ((c.tc : Thread nD τ).loc main_arg1))) (m ((c.tc : Thread nD τ).loc main_arg3))) (m ((c.tc : Thread nD τ).loc main_arg4)) (m ((c.tc : Thread nD τ).loc main_arg5)))
      ∧ r.2.mem ((c.tc : Thread nD τ).loc main_v96) = OUTV (PROJ (m ((c.tc : Thread nD τ).loc main_arg0)) (m ((c.tc : Thread nD τ).loc main_arg1)))
      ∧ r.2.mem ((c.tc : Thread nD τ).loc main_v97) = OUTU (PROJ (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h c).1, (h c).2.1, (h c).2.2.1, (h c).2.2.2.1, (h c).2.2.2.2⟩) (run m ρ)

/-- An entry of the projection. -/
theorem PROJ_at (x : FVec Ideal S8192x2048 .bf16) (w : FVec Ideal S4x2048x2560 .bf16) (r : Fin 8192) (e : Fin 2560) :
    PROJ x w (ix2 r e) = ∑ d : Fin 2048, x (ix2 r d) * w (ix3 0 d e) := by
  pointwise [PROJ]

/-- One entry of a head after its normalisation and gain. -/
def nrm (z g : Fin 128 → EReal) (l : Fin 128) : EReal :=
  z l * Ideal.rsqrt (Ideal.div (∑ x, z x * z x) (Ideal.ofBits FTy.f32 1124073472#32) + Ideal.ofBits FTy.f32 897988541#32) * g l

/-- One entry of a head after its rotation. -/
def rot (n c s : Fin 128 → EReal) (l : Fin 128) : EReal :=
  n l * c l + n ⟨(l.val + 64) % 128, by omega⟩ * s l

/-- An entry of the normalised queries. -/
theorem NORMQ_at (p : FVec Ideal S8192x2560 .f32) (g : FVec Ideal S4x1x128 .f32) (b : Fin 2) (t : Fin 4096) (h : Fin 8) (l : Fin 128) :
    NORMQ p g (ix4 b t h l) = nrm (fun x => p (ix2 ⟨b.val * 4096 + t.val, by omega⟩ ⟨h.val * 128 + x.val, by omega⟩)) (fun x => g (ix3 0 0 x)) l := by
  unfold nrm
  pointwise [NORMQ]

/-- An entry of the normalised keys. -/
theorem NORMK_at (p : FVec Ideal S8192x2560 .f32) (g : FVec Ideal S4x1x128 .f32) (b : Fin 2) (t : Fin 4096) (h : Fin 2) (l : Fin 128) :
    NORMK p g (ix4 b t h l)
      = nrm (fun x => p (ix2 ⟨b.val * 4096 + t.val, by omega⟩ ⟨1024 + (h.val * 128 + x.val), by omega⟩)) (fun x => g (ix3 0 0 x)) l := by
  unfold nrm
  pointwise [NORMK]

/-- A lower lane of the rotated queries. -/
theorem LOQ_at (z : FVec Ideal S2x4096x8x128 .f32) (c s : FVec Ideal S4096x128 .f32) (b : Fin 2) (t : Fin 4096) (h : Fin 8) (l : Fin 64) :
    LOQ z c s (ix4 b t h l) = z (ix4 b t h ⟨l.val, by omega⟩) * c (ix2 t ⟨l.val, by omega⟩) + z (ix4 b t h ⟨64 + l.val, by omega⟩) * s (ix2 t ⟨l.val, by omega⟩) := by
  pointwise [LOQ]

/-- An upper lane of the rotated queries. -/
theorem HIQ_at (z : FVec Ideal S2x4096x8x128 .f32) (c s : FVec Ideal S4096x128 .f32) (b : Fin 2) (t : Fin 4096) (h : Fin 8) (l : Fin 64) :
    HIQ z c s (ix4 b t h l) = z (ix4 b t h ⟨64 + l.val, by omega⟩) * c (ix2 t ⟨64 + l.val, by omega⟩) + z (ix4 b t h ⟨l.val, by omega⟩) * s (ix2 t ⟨64 + l.val, by omega⟩) := by
  pointwise [HIQ]

/-- A lower lane of the rotated keys. -/
theorem LOK_at (z : FVec Ideal S2x4096x2x128 .f32) (c s : FVec Ideal S4096x128 .f32) (b : Fin 2) (t : Fin 4096) (h : Fin 2) (l : Fin 64) :
    LOK z c s (ix4 b t h l) = z (ix4 b t h ⟨l.val, by omega⟩) * c (ix2 t ⟨l.val, by omega⟩) + z (ix4 b t h ⟨64 + l.val, by omega⟩) * s (ix2 t ⟨l.val, by omega⟩) := by
  pointwise [LOK]

/-- An upper lane of the rotated keys. -/
theorem HIK_at (z : FVec Ideal S2x4096x2x128 .f32) (c s : FVec Ideal S4096x128 .f32) (b : Fin 2) (t : Fin 4096) (h : Fin 2) (l : Fin 64) :
    HIK z c s (ix4 b t h l) = z (ix4 b t h ⟨64 + l.val, by omega⟩) * c (ix2 t ⟨64 + l.val, by omega⟩) + z (ix4 b t h ⟨l.val, by omega⟩) * s (ix2 t ⟨64 + l.val, by omega⟩) := by
  pointwise [HIK]

/-- The two halves together are one rotation of the lanes by 64. -/
theorem halves (n c s : Fin 128 → EReal) (l : Fin 128) (lo hi : Fin 64 → EReal)
    (hlo : ∀ l : Fin 64, lo l = n ⟨l.val, by omega⟩ * c ⟨l.val, by omega⟩ + n ⟨64 + l.val, by omega⟩ * s ⟨l.val, by omega⟩)
    (hhi : ∀ l : Fin 64, hi l = n ⟨64 + l.val, by omega⟩ * c ⟨64 + l.val, by omega⟩ + n ⟨l.val, by omega⟩ * s ⟨64 + l.val, by omega⟩) :
    (if h : l.val < 64 then lo ⟨l.val, h⟩ else hi ⟨l.val - 64, by omega⟩) = rot n c s l := by
  unfold rot
  by_cases h : l.val < 64
  · rw [dif_pos h, hlo]
    exact congrArg (fun k => n l * c l + n k * s l) (Fin.ext (by show 64 + l.val = (l.val + 64) % 128; omega))
  · rw [dif_neg h, hhi]
    have e : (⟨64 + (l.val - 64), by omega⟩ : Fin 128) = l := Fin.ext (by show 64 + (l.val - 64) = l.val; omega)
    show n ⟨64 + (l.val - 64), _⟩ * c ⟨64 + (l.val - 64), _⟩ + n ⟨l.val - 64, _⟩ * s ⟨64 + (l.val - 64), _⟩ = _
    rw [e]
    exact congrArg (fun k => n l * c l + n k * s l) (Fin.ext (by show l.val - 64 = (l.val + 64) % 128; omega))

/-- An entry of the rotated queries. -/
theorem ROPEQ_at (z : FVec Ideal S2x4096x8x128 .f32) (c s : FVec Ideal S4096x128 .f32) (b : Fin 2) (t : Fin 4096) (h : Fin 8) (l : Fin 128) :
    ROPEQ z c s (ix4 b t h l) = rot (fun x => z (ix4 b t h x)) (fun x => c (ix2 t x)) (fun x => s (ix2 t x)) l := by
  refine Eq.trans ?_ (halves _ _ _ l (fun x => LOQ z c s (ix4 b t h x)) (fun x => HIQ z c s (ix4 b t h x)) (LOQ_at z c s b t h) (HIQ_at z c s b t h))
  pointwise [ROPEQ]

/-- An entry of the rotated keys. -/
theorem ROPEK_at (z : FVec Ideal S2x4096x2x128 .f32) (c s : FVec Ideal S4096x128 .f32) (b : Fin 2) (t : Fin 4096) (h : Fin 2) (l : Fin 128) :
    ROPEK z c s (ix4 b t h l) = rot (fun x => z (ix4 b t h x)) (fun x => c (ix2 t x)) (fun x => s (ix2 t x)) l := by
  refine Eq.trans ?_ (halves _ _ _ l (fun x => LOK z c s (ix4 b t h x)) (fun x => HIK z c s (ix4 b t h x)) (LOK_at z c s b t h) (HIK_at z c s b t h))
  pointwise [ROPEK]

/-- An entry of the queries returned. -/
theorem OUTQ_at (z : FVec Ideal S2x4096x8x128 .f32) (r : Fin 8192) (e : Fin 1024) :
    OUTQ z (ix2 r e) = z (ix4 ⟨r.val / 4096, by omega⟩ ⟨r.val % 4096, by omega⟩ ⟨e.val / 128, by omega⟩ ⟨e.val % 128, by omega⟩)
      * Ideal.ofBits FTy.f32 1035273459#32 := by
  pointwise [OUTQ]

/-- An entry of the keys returned. -/
theorem OUTK_at (z : FVec Ideal S2x4096x2x128 .f32) (r : Fin 8192) (e : Fin 256) :
    OUTK z (ix2 r e) = z (ix4 ⟨r.val / 4096, by omega⟩ ⟨r.val % 4096, by omega⟩ ⟨e.val / 128, by omega⟩ ⟨e.val % 128, by omega⟩) := by
  pointwise [OUTK]

/-- An entry of the values returned. -/
theorem OUTV_at (p : FVec Ideal S8192x2560 .f32) (r : Fin 8192) (e : Fin 256) : OUTV p (ix2 r e) = p (ix2 r ⟨1280 + e.val, by omega⟩) := by
  pointwise [OUTV]

/-- An entry of the state-space inputs returned. -/
theorem OUTU_at (p : FVec Ideal S8192x2560 .f32) (b : Fin 8) (r : Fin 512) (e : Fin 2048) :
    OUTU p (ix3 b r e) = p (ix2 ⟨r.val * 16 + e.val / 128, by omega⟩ ⟨1536 + (b.val * 128 + e.val % 128), by omega⟩) := by
  pointwise [OUTU]

end Cert.Reference3Ideal.Stages
end
-- ==== Proof.Inproj.Agree.lean ====
module

public import proofs.«01_k».proof.Proof.Inproj.Value
public import proofs.«01_k».proof.Proof.Inproj.Ref

@[expose] public section

set_option maxRecDepth 16384

noncomputable section

namespace Cert.Agree.Inproj

open Idealize.ShloMosaic Idealize.ShloMosaic.TcCoe Idealize.SL.Sem
open Cert.Kernel3Ideal.Value Cert.Reference3Ideal.Stages Cert.Reference3Ideal

/-! The input projection's kernel and its reference hold the same at every index. -/

variable (X : FVec Ideal S8192x2048 .bf16) (W : FVec Ideal S4x2048x2560 .bf16) (g : FVec Ideal S4x1x128 .f32) (C S : FVec Ideal S4096x128 .f32)

/-- The kernel's rotation is the reference's: 64 lanes back and 64 lanes on are one lane. -/
theorem roped_eq (z g c s z' g' c' s' : Fin 128 → EReal) (j j' : Fin 128) (hz : ∀ l, z' l = z l) (hg : ∀ l, g' l = g l) (hc : ∀ l, c' l = c l)
    (hs : ∀ l, s' l = s l) (hj : j' = j) : rot (nrm z' g') c' s' j' = roped z g c s j := by
  obtain rfl : z' = z := funext hz
  obtain rfl : g' = g := funext hg
  obtain rfl : c' = c := funext hc
  obtain rfl : s' = s := funext hs
  subst hj
  unfold rot roped
  exact congrArg (fun k => nrm z' g' j' * c' j' + nrm z' g' k * s' j') (Fin.ext (by show (j'.val + 64) % 128 = (j'.val + 128 - 64) % 128; omega))

/-- An entry of the reference's projection is the kernel's. -/
theorem proj_eq (r r' : Fin 8192) (e e' : Fin 2560) (hr : r.val = r'.val) (he : e.val = e'.val) : PROJ X W (ix2 r e) = proj X W r' e' := by
  obtain rfl := Fin.ext hr
  obtain rfl := Fin.ext he
  exact PROJ_at X W r e

/-- The queries agree. -/
theorem queries : OUTQ (ROPEQ (NORMQ (PROJ X W) g) C S) = Qa X W g C S := by
  funext y
  obtain ⟨r, e, rfl⟩ : ∃ r e, y = ix2 r e := ⟨y 0, y 1, by idx_ext⟩
  rw [OUTQ_at, ROPEQ_at]
  refine congrArg (· * qscale) ?_
  rw [show (fun x => NORMQ (PROJ X W) g (ix4 ⟨r.val / 4096, by omega⟩ ⟨r.val % 4096, by omega⟩ ⟨e.val / 128, by omega⟩ x)) = _ from
    funext fun x => NORMQ_at _ _ _ _ _ _]
  exact roped_eq _ _ _ _ _ _ _ _ _ _ (fun l => proj_eq X W _ _ _ _ (by show r.val / 4096 * 4096 + r.val % 4096 = r.val; omega) rfl) (fun _ => rfl)
    (fun _ => rfl) (fun _ => rfl) rfl

/-- The keys agree. -/
theorem keys : OUTK (ROPEK (NORMK (PROJ X W) g) C S) = Ka X W g C S := by
  funext y
  obtain ⟨r, e, rfl⟩ : ∃ r e, y = ix2 r e := ⟨y 0, y 1, by idx_ext⟩
  rw [OUTK_at, ROPEK_at]
  rw [show (fun x => NORMK (PROJ X W) g (ix4 ⟨r.val / 4096, by omega⟩ ⟨r.val % 4096, by omega⟩ ⟨e.val / 128, by omega⟩ x)) = _ from
    funext fun x => NORMK_at _ _ _ _ _ _]
  exact roped_eq _ _ _ _ _ _ _ _ _ _ (fun l => proj_eq X W _ _ _ _ (by show r.val / 4096 * 4096 + r.val % 4096 = r.val; omega)
    (by show 1024 + (e.val / 128 * 128 + l.val) = 1024 + e.val / 128 * 128 + l.val; omega)) (fun _ => rfl) (fun _ => rfl) (fun _ => rfl) rfl

/-- The values agree. -/
theorem values : OUTV (PROJ X W) = Va X W := by
  funext y
  obtain ⟨r, e, rfl⟩ : ∃ r e, y = ix2 r e := ⟨y 0, y 1, by idx_ext⟩
  rw [OUTV_at]
  exact proj_eq X W _ _ _ _ rfl rfl

/-- The state-space inputs agree. -/
theorem states : OUTU (PROJ X W) = Ua X W := by
  funext y
  obtain ⟨b, r, e, rfl⟩ : ∃ b r e, y = ix3 b r e := ⟨y 0, y 1, y 2, by idx_ext⟩
  rw [OUTU_at]
  exact proj_eq X W _ _ _ _ (by show r.val * 16 + e.val / 128 = 16 * r.val + e.val / 128; omega)
    (by show 1536 + (b.val * 128 + e.val % 128) = 1536 + b.val * 128 + e.val % 128; omega)

end Cert.Agree.Inproj
end
-- ==== Proof.Attn.Head.lean ====
module

public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Value
open Cert.KernelIdeal Cert.KernelIdeal.Gen

/-- Attention of one query row against the keys and values of its head. -/
def attn (qr : Fin 128 → EReal) (kk : Fin 4096 → Fin 128 → EReal) (vv : Fin 4096 → EReal) : EReal :=
  Ideal.div (∑ x, Ideal.exp (∑ j, qr j * kk x j - Finset.fold max (Ideal.ofBits FTy.f32 4286578688#32) (fun x => ∑ j, qr j * kk x j) Finset.univ) * vv x)
    (∑ x, Ideal.exp (∑ j, qr j * kk x j - Finset.fold max (Ideal.ofBits FTy.f32 4286578688#32) (fun x => ∑ j, qr j * kk x j) Finset.univ))

/-- Lane `j` of head `h` among the 1024 query lanes. -/
def qLane (h : Fin 8) (j : Fin 128) : Fin 1024 := ⟨h.val * 128 + j.val, by omega⟩

/-- Lane `j` of the key and value head that query head `h` shares, among the 256. -/
def kvLane (h : Fin 8) (j : Fin 128) : Fin 256 := ⟨h.val / 4 * 128 + j.val, by omega⟩

/-- One head's attention at one lane, from a query row and the keys and values of its batch. -/
def headRow (Q : Fin 1024 → EReal) (K V : Fin 4096 → Fin 256 → EReal) (h : Fin 8) (d : Fin 128) : EReal :=
  attn (fun j => Q (qLane h j)) (fun t j => K t (kvLane h j)) (fun t => V t (kvLane h d))

/-- What a head's payload computes at an index. -/
theorem head_at (q : Vec Ideal S512x128 .bf16) (k v : Vec Ideal S4096x128 .bf16) (r : Fin 512) (d : Fin 128) :
    k0_pay1 (F := Ideal) q k v (ix2 r d) = attn (fun j => q (ix2 r j)) (fun t j => k (ix2 t j)) (fun t => v (ix2 t d)) := by
  pointwise [k0_pay1, attn]

theorem head_row (qh : Vec Ideal S512x128 .bf16) (kh vh : Vec Ideal S4096x128 .bf16) (q : Vec Ideal S512x1024 .bf16)
    (k v : Vec Ideal S4096x256 .bf16) (h : Fin 8) (hq : ∀ r j, qh (ix2 r j) = q (ix2 r (qLane h j)))
    (hk : ∀ t j, kh (ix2 t j) = k (ix2 t (kvLane h j))) (hv : ∀ t j, vh (ix2 t j) = v (ix2 t (kvLane h j)))
    (r : Fin 512) (d : Fin 128) :
    k0_pay1 (F := Ideal) qh kh vh (ix2 r d)
      = headRow (fun j => q (ix2 r j)) (fun t j => k (ix2 t j)) (fun t j => v (ix2 t j)) h d := by
  rw [head_at]; simp only [headRow, hq, hk, hv]

/-- The root mean square's reciprocal of a row of all eight heads. -/
def rowRms (Q : Fin 1024 → EReal) (K V : Fin 4096 → Fin 256 → EReal) : EReal :=
  Ideal.rsqrt ((∑ h, ∑ d, headRow Q K V h d * headRow Q K V h d) * Ideal.ofBits FTy.f32 981467136#32 + Ideal.ofBits FTy.f32 897988541#32)

/-- The normalised attention row at lane `d` of head `h`, times the gain. -/
def rowOut (Q : Fin 1024 → EReal) (K V : Fin 4096 → Fin 256 → EReal) (g : Fin 1024 → EReal) (h : Fin 8) (d : Fin 128) : EReal :=
  headRow Q K V h d * rowRms Q K V * g (qLane h d)

/-- Each head's payload, over the lanes of the query, key and value blocks it loads, is that head's attention. -/
theorem heads (q : Vec Ideal S512x1024 .bf16) (k v : Vec Ideal S4096x256 .bf16) (r : Fin 512) (A : Fin 8 → Fin 128 → EReal)
    (hA : headRow (fun j => q (ix2 r j)) (fun t j => k (ix2 t j)) (fun t j => v (ix2 t j)) = A) :
    (∀ d, k0_pay1 (F := Ideal) (View.ld q r0_0) (View.ld k r0_1) (View.ld v r0_1) (ix2 r d) = A 0 d)
    ∧ (∀ d, k0_pay3 (F := Ideal) (View.ld q r0_2) (View.ld k r0_1) (View.ld v r0_1) (ix2 r d) = A 1 d)
    ∧ (∀ d, k0_pay5 (F := Ideal) (View.ld q r0_3) (View.ld k r0_1) (View.ld v r0_1) (ix2 r d) = A 2 d)
    ∧ (∀ d, k0_pay7 (F := Ideal) (View.ld q r0_4) (View.ld k r0_1) (View.ld v r0_1) (ix2 r d) = A 3 d)
    ∧ (∀ d, k0_pay9 (F := Ideal) (View.ld q r0_5) (View.ld k r0_6) (View.ld v r0_6) (ix2 r d) = A 4 d)
    ∧ (∀ d, k0_pay11 (F := Ideal) (View.ld q r0_7) (View.ld k r0_6) (View.ld v r0_6) (ix2 r d) = A 5 d)
    ∧ (∀ d, k0_pay13 (F := Ideal) (View.ld q r0_8) (View.ld k r0_6) (View.ld v r0_6) (ix2 r d) = A 6 d)
    ∧ (∀ d, k0_pay15 (F := Ideal) (View.ld q r0_9) (View.ld k r0_6) (View.ld v r0_6) (ix2 r d) = A 7 d) := by
  subst hA
  refine ⟨?_,
    ?_,
    ?_,
    ?_,
    ?_,
    ?_,
    ?_,
    ?_⟩
  · exact head_row _ _ _ q k v 0 (fun r j => by pointwise [qLane]; blk_ext) (fun t j => by pointwise [kvLane]; blk_ext) (fun t j => by pointwise [kvLane]; blk_ext) r
  · exact head_row _ _ _ q k v 1 (fun r j => by pointwise [qLane]; blk_ext) (fun t j => by pointwise [kvLane]; blk_ext) (fun t j => by pointwise [kvLane]; blk_ext) r
  · exact head_row _ _ _ q k v 2 (fun r j => by pointwise [qLane]; blk_ext) (fun t j => by pointwise [kvLane]; blk_ext) (fun t j => by pointwise [kvLane]; blk_ext) r
  · exact head_row _ _ _ q k v 3 (fun r j => by pointwise [qLane]; blk_ext) (fun t j => by pointwise [kvLane]; blk_ext) (fun t j => by pointwise [kvLane]; blk_ext) r
  · exact head_row _ _ _ q k v 4 (fun r j => by pointwise [qLane]; blk_ext) (fun t j => by pointwise [kvLane]; blk_ext) (fun t j => by pointwise [kvLane]; blk_ext) r
  · exact head_row _ _ _ q k v 5 (fun r j => by pointwise [qLane]; blk_ext) (fun t j => by pointwise [kvLane]; blk_ext) (fun t j => by pointwise [kvLane]; blk_ext) r
  · exact head_row _ _ _ q k v 6 (fun r j => by pointwise [qLane]; blk_ext) (fun t j => by pointwise [kvLane]; blk_ext) (fun t j => by pointwise [kvLane]; blk_ext) r
  · exact head_row _ _ _ q k v 7 (fun r j => by pointwise [qLane]; blk_ext) (fun t j => by pointwise [kvLane]; blk_ext) (fun t j => by pointwise [kvLane]; blk_ext) r

/-- The kernel's reciprocal root mean square of a row. -/
theorem rms_at (q : Vec Ideal S512x1024 .bf16) (k v : Vec Ideal S4096x256 .bf16) (g : Vec Ideal S1x1x1024 .f32) (r : Fin 512) :
    k0_pay17 (F := Ideal) (k0_pay26 q k v g) (k0_pay27 q k v g) (ix2 r 0)
      = rowRms (fun j => q (ix2 r j)) (fun t j => k (ix2 t j)) (fun t j => v (ix2 t j)) := by
  unfold rowRms
  generalize hA : headRow (fun j => q (ix2 r j)) (fun t j => k (ix2 t j)) (fun t j => v (ix2 t j)) = A
  obtain ⟨h0, h1, h2, h3, h4, h5, h6, h7⟩ := heads q k v r A hA
  pointwise [k0_pay17, k0_pay26, k0_pay27, k0_pay2, k0_pay4, k0_pay6, k0_pay8, k0_pay10, k0_pay12, k0_pay14, k0_pay16]
  simp only [h0, h1, h2, h3, h4, h5, h6, h7, Fin.sum_univ_eight]

/-- What the kernel's stores leave at an index of the output block. -/
theorem point (q : Vec Ideal S512x1024 .bf16) (k v : Vec Ideal S4096x256 .bf16) (g : Vec Ideal S1x1x1024 .f32)
    (r : Fin 512) (h : Fin 8) (d : Fin 128) (y : S512x1024.Idx) (hy0 : (y 0 : ℕ) = r) (hy1 : (y 1 : ℕ) = h * 128 + d) :
    out0_4 (F := Ideal) q k v g y
      = rowOut (fun j => q (ix2 r j)) (fun t j => k (ix2 t j)) (fun t j => v (ix2 t j)) (fun j => g (ix3 0 0 j)) h d := by
  unfold rowOut
  rw [← rms_at q k v g r]
  generalize hA : headRow (fun j => q (ix2 r j)) (fun t j => k (ix2 t j)) (fun t j => v (ix2 t j)) = A
  obtain ⟨h0, h1, h2, h3, h4, h5, h6, h7⟩ := heads q k v r A hA
  clear hA
  canon_tiles x hx
  case piece0 =>
    obtain rfl : h = 7 := by omega
    obtain rfl : x = ix2 r d := by idx_ext
    pointwise [k0_pay25, k0_pay28]
    rw [h7]; refine congrArg₂ HMul.hMul rfl ?_; blk_ext [qLane]
  case piece1 =>
    obtain rfl : h = 6 := by omega
    obtain rfl : x = ix2 r d := by idx_ext
    pointwise [k0_pay24, k0_pay28]
    rw [h6]; refine congrArg₂ HMul.hMul rfl ?_; blk_ext [qLane]
  case piece2 =>
    obtain rfl : h = 5 := by omega
    obtain rfl : x = ix2 r d := by idx_ext
    pointwise [k0_pay23, k0_pay28]
    rw [h5]; refine congrArg₂ HMul.hMul rfl ?_; blk_ext [qLane]
  case piece3 =>
    obtain rfl : h = 4 := by omega
    obtain rfl : x = ix2 r d := by idx_ext
    pointwise [k0_pay22, k0_pay28]
    rw [h4]; refine congrArg₂ HMul.hMul rfl ?_; blk_ext [qLane]
  case piece4 =>
    obtain rfl : h = 3 := by omega
    obtain rfl : x = ix2 r d := by idx_ext
    pointwise [k0_pay21, k0_pay28]
    rw [h3]; refine congrArg₂ HMul.hMul rfl ?_; blk_ext [qLane]
  case piece5 =>
    obtain rfl : h = 2 := by omega
    obtain rfl : x = ix2 r d := by idx_ext
    pointwise [k0_pay20, k0_pay28]
    rw [h2]; refine congrArg₂ HMul.hMul rfl ?_; blk_ext [qLane]
  case piece6 =>
    obtain rfl : h = 1 := by omega
    obtain rfl : x = ix2 r d := by idx_ext
    pointwise [k0_pay19, k0_pay28]
    rw [h1]; refine congrArg₂ HMul.hMul rfl ?_; blk_ext [qLane]
  case piece7 =>
    obtain rfl : h = 0 := by omega
    obtain rfl : x = ix2 r d := by idx_ext
    pointwise [k0_pay18, k0_pay28]
    rw [h0]; refine congrArg₂ HMul.hMul rfl ?_; blk_ext [qLane]

end Cert.KernelIdeal.Value
end
-- ==== Proof.Attn.Value.lean ====
module

public import proofs.«01_k».proof.Proof.Attn.Head
public import proofs.«01_k».proof.Proof.Gen.KernelIdeal.Value

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ)

/-- The block every window names at a grid point: batch `t / 8`, query tile `t % 8`. -/
theorem idx : ∀ t : Fin cfg0.N, win0_0.index t = ![t.val, 0] ∧ win0_1.index t = ![t.val / 8, 0] ∧ win0_2.index t = ![t.val / 8, 0]
    ∧ win0_3.index t = ![0, 0, 0] ∧ win0_4.index t = ![t.val, 0] :=
  (by decide +kernel : ∀ t : Fin grid0.N, _)

/-- The batch's key or value row `t` seen from array row `r`. -/
def keyRow (r : Fin 8192) (t : Fin 4096) : Fin 8192 := ⟨r.val / 4096 * 4096 + t.val, by omega⟩

/-- The kernel's output array from its argument arrays. -/
def G (q : Vec Ideal S8192x1024 .bf16) (k v : Vec Ideal S8192x256 .bf16) (g : Vec Ideal S4x1x1024 .f32) : Vec Ideal S8192x1024 .bf16 := fun i =>
  rowOut (fun j => q (ix2 (i 0) j)) (fun t j => k (ix2 (keyRow (i 0) t) j)) (fun t j => v (ix2 (keyRow (i 0) t) j))
    (fun j => g (ix3 0 0 j)) ⟨(i 1).val / 128, by have : (i 1).val < 1024 := (i 1).isLt; omega⟩ ⟨(i 1).val % 128, by omega⟩

/-- Equal rows, keys, values, gain, head and lane give an equal output. -/
theorem rowOut_congr {Q Q' : Fin 1024 → EReal} {K K' V V' : Fin 4096 → Fin 256 → EReal} {g g' : Fin 1024 → EReal} {h h' : Fin 8}
    {d d' : Fin 128} (hQ : ∀ j, Q j = Q' j) (hK : ∀ t j, K t j = K' t j) (hV : ∀ t j, V t j = V' t j) (hg : ∀ j, g j = g' j)
    (hh : (h : ℕ) = h') (hd : (d : ℕ) = d') : rowOut Q K V g h d = rowOut Q' K' V' g' h' d' := by
  obtain rfl : Q = Q' := funext hQ
  obtain rfl : K = K' := funext fun t => funext (hK t)
  obtain rfl : V = V' := funext fun t => funext (hV t)
  obtain rfl : g = g' := funext hg
  obtain rfl : h = h' := Fin.ext hh
  obtain rfl : d = d' := Fin.ext hd
  rfl

/-- The output array after the kernel's run. -/
theorem final (c : Dev nD) :
    (dats m 0 c).arrAt 4 cfg0.N = G (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  have y0 : (y 0).val < 512 := (y 0).isLt
  have y1 : (y 1).val < 1024 := (y 1).isLt
  have ht : t.val < 16 := lt_of_lt_of_eq t.isLt N_0
  blk_simp
  rw [after0_4]
  refine (point _ _ _ _ ⟨(y 0).val, y0⟩ ⟨(y 1).val / 128, by omega⟩ ⟨(y 1).val % 128, by omega⟩ _ ?_ ?_).trans ?_
  · rfl
  · show (y 1).val = (y 1).val / 128 * 128 + (y 1).val % 128
    omega
  · unfold G
    refine rowOut_congr (fun j => ?_) (fun u j => ?_) (fun u j => ?_) (fun j => ?_) ?_ ?_
    all_goals blk_point [iblk, V, keyRow, idx t]

end Cert.KernelIdeal.Value
end
-- ==== Proof.Attn.Ref.lean ====
module

public import proofs.«01_k».proof.Proof.Gen.ReferenceIdeal.Run
public import Idealize.ShloMosaic.Lib.Pointwise
public import Idealize.ShloMosaic.Lib.KernelVsHost
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-! The reference in five stages, and what each stage holds at an index. -/

/-- The scores of every query against every key of its batch. -/
def SC (q : FVec Ideal S8192x1024 .bf16) (k : FVec Ideal S8192x256 .bf16) : FVec Ideal S2x2x4x4096x4096 .f32 :=
  (transpose S2x2x4x4096x4096 [0, 1, 4, 3, 2] (Host.dotGeneral dot_S2x4096x2x128_S2x4096x2x4x128_S2x2x4096x4096x4_3_4_1_13_02_02 none (shapeCast _ (extf .f32 k bitsLt_bf16_f32) shapeCasts_S8192x256_S2x4096x2x128) (shapeCast _ (extf .f32 q bitsLt_bf16_f32) shapeCasts_S8192x1024_S2x4096x2x4x128)) transposes_S2x2x4096x4096x4_S2x2x4x4096x4096_0_1_4_3_2)

/-- The maximum of every row of scores. -/
def MX (s : FVec Ideal S2x2x4x4096x4096 .f32) : FVec Ideal S2x2x4x4096 .f32 :=
  Host.reduce FloatOps.maximumf s (constant S_ .f32 0xFF800000#32) reducesTo_S2x2x4x4096x4096_S2x2x4x4096_d4 h_S_

/-- The exponentials of the scores less a number per row, or less −∞ where that is greater. -/
def EX (s : FVec Ideal S2x2x4x4096x4096 .f32) (m : FVec Ideal S2x2x4x4096 .f32) : FVec Ideal S2x2x4x4096x4096 .f32 :=
  (Host.exp (subf s (broadcastInDim S2x2x4x4096x4096 ![0, 1, 2, 3, 4] bcast_S2x2x4x4096x1_S2x2x4x4096x4096_0_1_2_3_4 (broadcastInDim S2x2x4x4096x1 ![0, 1, 2, 3] bcast_S2x2x4x4096_S2x2x4x4096x1_0_1_2_3 (maximumf (broadcastInDim S2x2x4x4096 ![] bcast_S_S2x2x4x4096 (constant S_ .f32 0xFF800000#32)) m)))))

/-- The exponentials divided by their row's sum. -/
def PR (e : FVec Ideal S2x2x4x4096x4096 .f32) : FVec Ideal S2x2x4x4096x4096 .f32 :=
  (Host.divf e (broadcastInDim S2x2x4x4096x4096 ![0, 1, 2, 3, 4] bcast_S2x2x4x4096x1_S2x2x4x4096x4096_0_1_2_3_4 (broadcastInDim S2x2x4x4096x1 ![0, 1, 2, 3] bcast_S2x2x4x4096_S2x2x4x4096x1_0_1_2_3 (Host.reduceAdd e (constant S_ .f32 0x00000000#32) reducesTo_S2x2x4x4096x4096_S2x2x4x4096_d4 h_S_))))

/-- The weighted sums of the values, heads side by side. -/
def AT (v : FVec Ideal S8192x256 .bf16) (p : FVec Ideal S2x2x4x4096x4096 .f32) : FVec Ideal S8192x1024 .f32 :=
  (shapeCast _ (transpose S2x4096x2x4x128 [0, 4, 1, 3, 2] (Host.dotGeneral dot_S2x4096x2x128_S2x2x4x4096x4096_S2x2x128x4x4096_1_4_3_23_02_01 none (shapeCast _ (extf .f32 v bitsLt_bf16_f32) shapeCasts_S8192x256_S2x4096x2x128) p) transposes_S2x2x128x4x4096_S2x4096x2x4x128_0_4_1_3_2) shapeCasts_S2x4096x2x4x128_S8192x1024)

/-- The root mean square norm of every row, times the gain. -/
def NORM (a : FVec Ideal S8192x1024 .f32) (g : FVec Ideal S4x1x1024 .f32) : FVec Ideal S8192x1024 .bf16 :=
  truncf .bf16 (mulf (mulf a (broadcastInDim S8192x1024 ![0, 1] bcast_S8192x1_S8192x1024_0_1 (Host.rsqrt (addf (Host.divf (broadcastInDim S8192x1 ![0] bcast_S8192_S8192x1_0 (Host.reduceAdd (mulf a a) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (shapeCast _ (extractStridedSlice S1x1x1024 ![0, 0, 0] g slices_S4x1x1024_S1x1x1024_0_0_0) shapeCasts_S1x1x1024_S1x1024))) bitsLt_bf16_f32

/-- The reference's result is its stages one after another. -/
theorem res_stages (m : (ℓ : Loc nD τ sig) → Buf (Elt Ideal) ℓ) (c : Dev nD) :
    res_main_v36 m c = NORM (AT (m ((c.tc : Thread nD τ).loc main_arg2))
      (PR (EX (SC (m ((c.tc : Thread nD τ).loc main_arg0)) (m ((c.tc : Thread nD τ).loc main_arg1)))
        (MX (SC (m ((c.tc : Thread nD τ).loc main_arg0)) (m ((c.tc : Thread nD τ).loc main_arg1)))))))
      (m ((c.tc : Thread nD τ).loc main_arg3)) := rfl

/-- A score is the sum of the products of the key's and the query's lanes. -/
theorem SC_at (q : FVec Ideal S8192x1024 .bf16) (k : FVec Ideal S8192x256 .bf16) (b g : Fin 2) (h : Fin 4) (t u : Fin 4096) :
    SC q k (ix5 b g h t u) = ∑ x : Fin 128, k (ix2 ⟨b * 4096 + u, by omega⟩ ⟨g * 128 + x, by omega⟩)
      * q (ix2 ⟨b * 4096 + t, by omega⟩ ⟨g * 512 + h * 128 + x, by omega⟩) := by
  pointwise [SC]

/-- The maximum of a row of scores, as a fold over the keys. -/
theorem MX_at (s : FVec Ideal S2x2x4x4096x4096 .f32) (b g : Fin 2) (h : Fin 4) (t : Fin 4096) :
    MX s (ix4 b g h t) = Finset.fold max (Ideal.ofBits FTy.f32 4286578688#32) (fun x => s (ix5 b g h t x)) Finset.univ := by
  refine (congrFun (hostReduce_maximumf_eq_multiReduction s 0xFF800000#32 reducesTo_S2x2x4x4096x4096_S2x2x4x4096_d4 h_S_
    (by decide) (.inl rfl) rfl) _).trans ?_
  pointwise

/-- An exponential at an index. -/
theorem EX_at (s : FVec Ideal S2x2x4x4096x4096 .f32) (m : FVec Ideal S2x2x4x4096 .f32) (b g : Fin 2) (h : Fin 4) (t u : Fin 4096) :
    EX s m (ix5 b g h t u) = Ideal.exp (s (ix5 b g h t u) - max (Ideal.ofBits FTy.f32 4286578688#32) (m (ix4 b g h t))) := by
  pointwise [EX]

/-- A weight at an index. -/
theorem PR_at (e : FVec Ideal S2x2x4x4096x4096 .f32) (b g : Fin 2) (h : Fin 4) (t u : Fin 4096) :
    PR e (ix5 b g h t u) = Ideal.div (e (ix5 b g h t u)) (∑ x, e (ix5 b g h t x)) := by
  pointwise [PR]

/-- The attention at an array row and lane. -/
theorem AT_at (v : FVec Ideal S8192x256 .bf16) (p : FVec Ideal S2x2x4x4096x4096 .f32) (r : Fin 8192) (l : Fin 1024) :
    AT v p (ix2 r l) = ∑ x : Fin 4096, v (ix2 ⟨r / 4096 * 4096 + x, by omega⟩ ⟨l / 512 * 128 + l % 128, by omega⟩)
      * p (ix5 ⟨r / 4096, by omega⟩ ⟨l / 512, by omega⟩ ⟨l / 128 % 4, by omega⟩ ⟨r % 4096, by omega⟩ x) := by
  pointwise [AT]

/-- The normalised row at a lane. -/
theorem NORM_at (a : FVec Ideal S8192x1024 .f32) (g : FVec Ideal S4x1x1024 .f32) (r : Fin 8192) (l : Fin 1024) :
    NORM a g (ix2 r l) = a (ix2 r l) * Ideal.rsqrt (Ideal.div (∑ x, a (ix2 r x) * a (ix2 r x)) (Ideal.ofBits FTy.f32 1149239296#32)
      + Ideal.ofBits FTy.f32 897988541#32) * g (ix3 0 0 l) := by
  pointwise [NORM]

end Cert.ReferenceIdeal.Value
end
-- ==== Proof.Attn.Math.lean ====
module

public import Idealize.ShloMosaic.Lib.Pointwise

@[expose] public section

noncomputable section

namespace Cert.Softmax

open Idealize.ShloMosaic

/-! Softmax over the extended reals: dividing the weighted sum is dividing the weights, when the scores are finite. -/

/-- −∞'s word. -/
theorem ofBits_negInf : Ideal.ofBits FTy.f32 4286578688#32 = ⊥ := by
  simp [Ideal.ofBits, Ideal.ieee]

/-- A factor that is neither negative nor infinite goes into a sum, whatever the terms. -/
theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- The fold of a maximum from −∞ over finite values is one of the values, so it is finite. -/
theorem fold_max_real {n : ℕ} (a : Fin (n + 1) → ℝ) :
    ∃ M : ℝ, Finset.fold max (⊥ : EReal) (fun x => (a x : EReal)) Finset.univ = M := by
  have h : Finset.fold max (⊥ : EReal) (fun x => (a x : EReal)) Finset.univ = Finset.univ.sup fun x => (a x : EReal) := rfl
  obtain ⟨x, -, hx⟩ := Finset.exists_mem_eq_sup Finset.univ ⟨0, Finset.mem_univ _⟩ fun x => (a x : EReal)
  exact ⟨a x, h.trans hx⟩

/-- With real scores, the sum of the weighted values over the sum of the weights is the sum of the values times the
    weights divided by their sum. -/
theorem weigh {n : ℕ} (a : Fin (n + 1) → ℝ) (M : ℝ) (v : Fin (n + 1) → EReal) :
    Ideal.div (∑ x, Ideal.exp ((a x : EReal) - (M : EReal)) * v x) (∑ x, Ideal.exp ((a x : EReal) - (M : EReal)))
      = ∑ x, v x * Ideal.div (Ideal.exp ((a x : EReal) - (M : EReal))) (∑ x, Ideal.exp ((a x : EReal) - (M : EReal))) := by
  have he : ∀ x, Ideal.exp ((a x : EReal) - (M : EReal)) = ((Real.exp (a x - M) : ℝ) : EReal) := fun x => by
    rw [← EReal.coe_sub]; rfl
  have hs : (∑ x, Ideal.exp ((a x : EReal) - (M : EReal))) = ((∑ x, Real.exp (a x - M) : ℝ) : EReal) := by
    simp only [he]
    exact (map_sum (⟨⟨Real.toEReal, rfl⟩, EReal.coe_add⟩ : ℝ →+ EReal) _ _).symm
  have hp : 0 < ∑ x, Real.exp (a x - M) := Finset.sum_pos (fun x _ => Real.exp_pos _) ⟨0, Finset.mem_univ _⟩
  have hd : ∀ z : EReal, Ideal.div z (∑ x, Ideal.exp ((a x : EReal) - (M : EReal))) = z * (((∑ x, Real.exp (a x - M))⁻¹ : ℝ) : EReal) := fun z => by
    rw [hs]
    unfold Ideal.div
    rw [if_neg (by exact_mod_cast hp.ne'), EReal.coe_inv]
  simp only [hd]
  rw [sum_mul_of_nonneg _ _ (by exact_mod_cast (inv_pos.mpr hp).le) (EReal.coe_ne_top _)]
  refine Finset.sum_congr rfl fun x _ => ?_
  rw [mul_comm (Ideal.exp _) (v x), mul_assoc]

/-- The sum of the products of two rows of finite values is a real number. -/
theorem dot_real {n : ℕ} (p q : Fin n → EReal) (hp : ∀ j, p j ≠ ⊤ ∧ p j ≠ ⊥) (hq : ∀ j, q j ≠ ⊤ ∧ q j ≠ ⊥) :
    ∃ r : ℝ, ∑ j, p j * q j = r := by
  refine ⟨∑ j, (p j).toReal * (q j).toReal, ?_⟩
  rw [show ((∑ j, (p j).toReal * (q j).toReal : ℝ) : EReal) = ∑ j, (((p j).toReal * (q j).toReal : ℝ) : EReal) from
    map_sum (⟨⟨Real.toEReal, rfl⟩, EReal.coe_add⟩ : ℝ →+ EReal) _ _]
  refine Finset.sum_congr rfl fun j _ => ?_
  rw [EReal.coe_mul, EReal.coe_toReal (hp j).1 (hp j).2, EReal.coe_toReal (hq j).1 (hq j).2]

/-- The two orders of a softmax's division agree on finite scores, each taking the maximum from −∞. -/
theorem softmax_weigh {n : ℕ} (s v : Fin (n + 1) → EReal) (hs : ∀ x, ∃ r : ℝ, s x = r) :
    Ideal.div (∑ x, Ideal.exp (s x - Finset.fold max (Ideal.ofBits FTy.f32 4286578688#32) s Finset.univ) * v x)
        (∑ x, Ideal.exp (s x - Finset.fold max (Ideal.ofBits FTy.f32 4286578688#32) s Finset.univ))
      = ∑ x, v x * Ideal.div (Ideal.exp (s x - max (Ideal.ofBits FTy.f32 4286578688#32) (Finset.fold max (Ideal.ofBits FTy.f32 4286578688#32) s Finset.univ)))
        (∑ x, Ideal.exp (s x - max (Ideal.ofBits FTy.f32 4286578688#32) (Finset.fold max (Ideal.ofBits FTy.f32 4286578688#32) s Finset.univ))) := by
  choose a ha using hs
  obtain rfl : s = fun x => (a x : EReal) := funext ha
  obtain ⟨M, hM⟩ := fold_max_real a
  simp only [ofBits_negInf, hM, max_bot_left]
  exact weigh a M v

/-- Multiplying by the word of 1/1024 is dividing by the word of 1024. -/
theorem mul_word_eq_div (x : EReal) :
    x * Ideal.ofBits FTy.f32 981467136#32 = Ideal.div x (Ideal.ofBits FTy.f32 1149239296#32) := by
  have h1 : Ideal.ofBits FTy.f32 981467136#32 = (((1024 : ℝ)⁻¹ : ℝ) : EReal) := by
    simp [Ideal.ofBits, Ideal.ieee]
    rw [← EReal.coe_mul]
    norm_num
  have h2 : Ideal.ofBits FTy.f32 1149239296#32 = ((1024 : ℝ) : EReal) := by
    simp [Ideal.ofBits, Ideal.ieee]
    rw [← EReal.coe_mul]
    norm_num
  rw [h1, h2]
  unfold Ideal.div
  rw [if_neg (by norm_num), EReal.coe_inv]

end Cert.Softmax
end
-- ==== Proof.Attn.Agree.lean ====
module

public import proofs.«01_k».proof.Proof.Attn.Value
public import proofs.«01_k».proof.Proof.Attn.Ref
public import proofs.«01_k».proof.Proof.Attn.Math

@[expose] public section

set_option maxRecDepth 16384

noncomputable section

namespace Cert.Agree

open Idealize.ShloMosaic Idealize.ShloMosaic.TcCoe Idealize.SL.Sem
open Cert.KernelIdeal.Value Cert.ReferenceIdeal.Value

variable (q : FVec Ideal ⟨2, ![8192, 1024]⟩ .bf16) (k v : FVec Ideal ⟨2, ![8192, 256]⟩ .bf16) (g : FVec Ideal ⟨3, ![4, 1, 1024]⟩ .f32)

/-- The reference's attention at a row and lane is the kernel's, when queries and keys are finite. -/
theorem attention_eq (hq : ∀ i, q i ≠ ⊤ ∧ q i ≠ ⊥) (hk : ∀ i, k i ≠ ⊤ ∧ k i ≠ ⊥) (r : Fin 8192) (h : Fin 8) (d : Fin 128) :
    AT v (PR (EX (SC q k) (MX (SC q k)))) (ix2 r (qLane h d))
      = headRow (fun j => q (ix2 r j)) (fun t j => k (ix2 (keyRow r t) j)) (fun t j => v (ix2 (keyRow r t) j)) h d := by
  have hs : ∀ u : Fin 4096, SC q k (ix5 ⟨r / 4096, by omega⟩ ⟨qLane h d / 512, by omega⟩ ⟨qLane h d / 128 % 4, by omega⟩ ⟨r % 4096, by omega⟩ u)
      = ∑ j, q (ix2 r (qLane h j)) * k (ix2 (keyRow r u) (kvLane h j)) := fun u => by
    rw [SC_at]
    refine Finset.sum_congr rfl fun j _ => ?_
    rw [mul_comm]
    refine congrArg₂ HMul.hMul ?_ ?_
    · blk_ext [qLane]
    · blk_ext [qLane, kvLane, keyRow]
  rw [AT_at]
  simp only [PR_at, EX_at, MX_at, hs]
  unfold headRow attn
  rw [Cert.Softmax.softmax_weigh _ _ fun u => Cert.Softmax.dot_real _ _ (fun j => hq _) fun j => hk _]
  refine Finset.sum_congr rfl fun u _ => congrArg₂ HMul.hMul ?_ rfl
  blk_ext [qLane, kvLane, keyRow]

/-- The reference's result is the kernel's, when queries and keys are finite. -/
theorem result_eq (hq : ∀ i, q i ≠ ⊤ ∧ q i ≠ ⊥) (hk : ∀ i, k i ≠ ⊤ ∧ k i ≠ ⊥) :
    NORM (AT v (PR (EX (SC q k) (MX (SC q k))))) g = G q k v g := by
  funext i
  obtain ⟨r, l, rfl⟩ : ∃ (r : Fin 8192) (l : Fin 1024), i = ix2 r l := ⟨i 0, i 1, by idx_ext⟩
  have hl : l = qLane ⟨l / 128, by omega⟩ ⟨l % 128, by omega⟩ := Fin.ext (by show l.val = l.val / 128 * 128 + l.val % 128; omega)
  have hsum : ∀ a : FVec Ideal ⟨2, ![8192, 1024]⟩ .f32, ∑ x, a (ix2 r x) * a (ix2 r x)
      = ∑ h : Fin 8, ∑ d : Fin 128, a (ix2 r (qLane h d)) * a (ix2 r (qLane h d)) := fun a => Fin.sum_univ_tiles 8 128 rfl _
  rw [NORM_at, hsum]
  simp only [attention_eq q k v hq hk]
  rw [hl, attention_eq q k v hq hk, ← hl, ← Cert.Softmax.mul_word_eq_div]
  have hg : g (ix3 0 0 l) = g (ix3 0 0 (qLane ⟨l / 128, by omega⟩ ⟨l % 128, by omega⟩)) := congrArg (fun x => g (ix3 0 0 x)) hl
  rw [hg]
  rfl

end Cert.Agree
end
-- ==== Proof.Attn.Pre.lean ====
module

public import proofs.«01_k».proof.Defs
public import Idealize.ShloMosaic.Lib.Pointwise
public import Idealize.ShloMosaic.Lib.ReduceAll

@[expose] public section

set_option maxRecDepth 16384

noncomputable section

namespace Cert.Pre_finite_queries_keys

open Idealize.ShloMosaic Facts

/-- The shape relations the precondition's operations take. -/
theorem facts : Facts := by
  constructor <;> decide

variable [Facts]

/-- A value whose absolute value compares below +∞ is finite. -/
theorem finite_of_abs (x : EReal) (h : Ideal.cmp .olt (max x (-x)) (Ideal.ofBits FTy.f32 2139095040#32) = 1#1) : x ≠ ⊤ ∧ x ≠ ⊥ := by
  have ht : Ideal.ofBits FTy.f32 2139095040#32 = ⊤ := by simp [Ideal.ofBits, Ideal.ieee]
  constructor
  · rintro rfl
    simp [Ideal.cmp, ht] at h
  · rintro rfl
    simp [Ideal.cmp, ht] at h

/-- The precondition says that every query and every key is finite. -/
theorem read (q : FVec Ideal S8192x1024 .bf16) (k v : FVec Ideal S8192x256 .bf16) (g : FVec Ideal S4x1x1024 .f32)
    (h : fn (F := Ideal) q k v g = fun _ => 1#1) :
    (∀ i, q i ≠ ⊤ ∧ q i ≠ ⊥) ∧ ∀ i, k i ≠ ⊤ ∧ k i ≠ ⊥ := by
  have h0 := congrFun h (fun a => a.elim0)
  dsimp only [fn] at h0
  have hs : Subsingleton S_.Idx := ⟨fun a b => funext fun x => x.elim0⟩
  obtain ⟨hq, hk⟩ := (show ∀ a b : BitVec 1, a &&& b = 1#1 → a = 1#1 ∧ b = 1#1 by decide) _ _ h0
  exact ⟨fun i => finite_of_abs _ (Host.reduce_andi_all _ _ _ _ _ hq i), fun i => finite_of_abs _ (Host.reduce_andi_all _ _ _ _ _ hk i)⟩

end Cert.Pre_finite_queries_keys
end
-- ==== Proof.Experts.KLoad.lean ====
module

public import proofs.«01_k».proof.Proof.Gen.Kernel2.Skeleton
public import proofs.«01_k».proof.Proof.Gen.Kernel2.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.KWords
public import proofs.«01_k».proof.Proof.Experts.KRunA
public import proofs.«01_k».proof.Proof.Experts.KRunB
public import proofs.«01_k».proof.Proof.Experts.KRunC
public import proofs.«01_k».proof.Proof.Experts.KBody
public import Idealize.ShloMosaic.Lib.Tactic

@[expose] public section

set_option maxRecDepth 16384
set_option Elab.async false

noncomputable section

namespace Cert.Kernel2.Experts

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

variable (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
set_option maxHeartbeats 8000000 in
/-- A tile with rows at which the weights are loaded: the output block, in terms of the weights loaded. -/
theorem runLoad_out (h1) (h2) (h3) : (runLoad c i arg3 harg3 arg4 harg4 arg5 harg5 arg6 harg6 arg7 harg7 te tr xs wg wu wd lhs gate up down h1 h2 h3).1 = outPieces (rowsWord i tr) xs (k0_pay2 wg) (k0_pay3 wu) (k0_pay4 wd) := by
  delta runLoad
  delta runLoad.sl.r_8 runLoad.sl.r_9 runLoad.sl.r_7 runLoad.sl.r_6
  simp only [runLoad_rows, load_v137, load_v139, load_v145, load_v155, load_v165, load_v175]
  rfl
set_option maxHeartbeats 8000000 in
/-- The weights left in the scratch buffers are the ones loaded, rounded. -/
theorem runLoad_weights (h1) (h2) (h3) : (runLoad c i arg3 harg3 arg4 harg4 arg5 harg5 arg6 harg6 arg7 harg7 te tr xs wg wu wd lhs gate up down h1 h2 h3).2.2.1 = k0_pay2 wg ∧ (runLoad c i arg3 harg3 arg4 harg4 arg5 harg5 arg6 harg6 arg7 harg7 te tr xs wg wu wd lhs gate up down h1 h2 h3).2.2.2.1 = k0_pay3 wu ∧ (runLoad c i arg3 harg3 arg4 harg4 arg5 harg5 arg6 harg6 arg7 harg7 te tr xs wg wu wd lhs gate up down h1 h2 h3).2.2.2.2.1 = k0_pay4 wd := by
  delta runLoad
  dsimp only
  rw [stored_gate, stored_up, stored_down]
  exact ⟨written_full cc0_scratch1 ![0, 0] (by decide) inb_S2048x512_S2048x512_0_0 (k0_pay2 wg) (View.whole cc0_scratch1).junk,
    written_full cc0_scratch2 ![0, 0] (by decide) inb_S2048x512_S2048x512_0_0 (k0_pay3 wu) (View.whole cc0_scratch2).junk,
    written_full cc0_scratch3 ![0, 0] (by decide) inb_S512x2048_S512x2048_0_0 (k0_pay4 wd) (View.whole cc0_scratch3).junk⟩
end Cert.Kernel2.Experts

end
-- ==== Proof.Experts.IWords.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Exec
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

/-- The two prefetched tables: each tile's expert and each tile's number of rows. -/
abbrev expertOf : Memref sig .tc .smem S80 .i32 := Memref.whole main_arg0
abbrev rowsOf : Memref sig .tc .smem S80 .i32 := Memref.whole main_arg1
/-- The four scratch buffers: the tile's rows, and the three weights of the expert last loaded. -/
abbrev lhsM : Memref sig .tc .vmem S256x2048 .bf16 := Memref.whole cc0_scratch0
abbrev gateM : Memref sig .tc .vmem S2048x512 .bf16 := Memref.whole cc0_scratch1
abbrev upM : Memref sig .tc .vmem S2048x512 .bf16 := Memref.whole cc0_scratch2
abbrev downM : Memref sig .tc .vmem S512x2048 .bf16 := Memref.whole cc0_scratch3

/-- The word the body reads as the tile's number of rows. -/
abbrev rowsWord (i : grid0.Coords) (tr : S80.Idx → Elt F .i32) : BitVec 32 :=
  View.readAt (Elt F) rowsOf.view (Rect.unit (s := S80) (k0_off1 i) S1.size (k0_off1_inb i)).toLoadRect tr (Shape.Idx.first (numel1_S1.symm ▸ Nat.one_pos))
/-- The word it reads as the tile's expert, -/
abbrev expertWord (i : grid0.Coords) (te : S80.Idx → Elt F .i32) : BitVec 32 :=
  View.readAt (Elt F) expertOf.view (Rect.unit (s := S80) (k0_off2 i) S1.size (k0_off2_inb i)).toLoadRect te (Shape.Idx.first (numel1_S1.symm ▸ Nat.one_pos))
/-- and the one it reads as the expert of the tile before. -/
abbrev expertBefore (i : grid0.Coords) (te : S80.Idx → Elt F .i32) : BitVec 32 :=
  View.readAt (Elt F) expertOf.view (Rect.unit (s := S80) (k0_off3 i) S1.size (k0_off3_inb i)).toLoadRect te (Shape.Idx.first (numel1_S1.symm ▸ Nat.one_pos))

/-- Whether the body loads the expert's weights at this tile. -/
abbrev loads (i : grid0.Coords) (te tr : S80.Idx → Elt F .i32) : Prop :=
  Scalar.cmpi .ne (Scalar.extui (Scalar.andi (Scalar.cmpi .sgt (rowsWord i tr) 0#32)
    (Scalar.ori (Scalar.cmpi .eq (BitVec.ofNat 32 (i 0).val) 0#32)
      (Scalar.cmpi .ne (expertWord i te) (expertBefore i te))))) 0#32 = 1#1

end Cert.Kernel2Ideal.Experts

end
-- ==== Proof.Experts.IRunA.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Exec
public import proofs.«01_k».proof.Proof.Experts.IWords
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

set_option backward.proofsInPublic true in
set_option maxHeartbeats 16000000 in
/-- A tile of no rows: what the body leaves, found by running it. -/
def runEmpty (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
    (h1 : k0_cond1 (rowsWord i tr) = 1#1) (h2 : ¬loads i te tr) (h3 : ¬k0_cond3 (rowsWord i tr) = 1#1) :
    Σ' (out : List (View.Piece (Elt F) S4096x128 .f32)) (lhs' : S256x2048.Idx → Elt F .bf16) (gate' up' : S2048x512.Idx → Elt F .bf16), { down' : S512x2048.Idx → Elt F .bf16 //
      ∀ (K : PUnit → sProp 𝕄),
        iprop((arg3.view.loc (c : Thread nD τ) ↦[arg3.view.set]{fullShare} arg3.view.rep xs)
          ∗ (arg4.view.loc (c : Thread nD τ) ↦[arg4.view.set]{fullShare} arg4.view.rep wg)
          ∗ (arg5.view.loc (c : Thread nD τ) ↦[arg5.view.set]{fullShare} arg5.view.rep wu)
          ∗ (arg6.view.loc (c : Thread nD τ) ↦[arg6.view.set]{fullShare} arg6.view.rep wd)
          ∗ (expertOf.view.loc (c : Thread nD τ) ↦{fullShare.right} te)
          ∗ (rowsOf.view.loc (c : Thread nD τ) ↦{fullShare.right} tr)
          ∗ (∃ d, owns (c : Thread nD τ) arg7 fullShare d)
          ∗ (lhsM.view.loc (c : Thread nD τ) ↦{fullShare} lhs)
          ∗ (gateM.view.loc (c : Thread nD τ) ↦{fullShare} gate)
          ∗ (upM.view.loc (c : Thread nD τ) ↦{fullShare} up)
          ∗ (downM.view.loc (c : Thread nD τ) ↦{fullShare} down)
          ∗ (iprop((arg3.view.loc (c : Thread nD τ) ↦[arg3.view.set]{fullShare} arg3.view.rep xs)
              ∗ (arg4.view.loc (c : Thread nD τ) ↦[arg4.view.set]{fullShare} arg4.view.rep wg)
              ∗ (arg5.view.loc (c : Thread nD τ) ↦[arg5.view.set]{fullShare} arg5.view.rep wu)
              ∗ (arg6.view.loc (c : Thread nD τ) ↦[arg6.view.set]{fullShare} arg6.view.rep wd)
              ∗ (expertOf.view.loc (c : Thread nD τ) ↦{fullShare.right} te)
              ∗ (rowsOf.view.loc (c : Thread nD τ) ↦{fullShare.right} tr)
              ∗ (∃ f, arg7.view.loc (c : Thread nD τ) ↦[arg7.view.set]{fullShare} arg7.view.writes (Elt F) f out)
              ∗ (lhsM.view.loc (c : Thread nD τ) ↦{fullShare} lhs')
              ∗ (gateM.view.loc (c : Thread nD τ) ↦{fullShare} gate')
              ∗ (upM.view.loc (c : Thread nD τ) ↦{fullShare} up')
              ∗ (downM.view.loc (c : Thread nD τ) ↦{fullShare} down')) -∗ K ⟨⟩))
          ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K } :=
  ⟨_, _, _, _, _, fun K => by
    unfold owns
    rw [cc0_moe_experts_eq_skeleton]; unfold cc0_moe_experts_skel
    iintro ⟨H0, H1, H2, H3, HT0, HT1, ⟨%d4, %f4, -, HO4⟩, HS0, HS1, HS2, HS3, Hk⟩
    have hS0 : lhsM.IsWhole := Memref.isWhole_whole _
    have hS1 : gateM.IsWhole := Memref.isWhole_whole _
    have hS2 : upM.IsWhole := Memref.isWhole_whole _
    have hS3 : downM.IsWhole := Memref.isWhole_whole _
    have hT0 : expertOf.IsWhole := Memref.isWhole_whole _
    have hT1 : rowsOf.IsWhole := Memref.isWhole_whole _
    sl_exec! (disch := first | (guard_target = k0_cond1 _ = _; exact h1) | (guard_target = ¬(Scalar.cmpi _ _ _ = _); exact h2) | (guard_target = ¬k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    iexact HS3⟩

end Cert.Kernel2Ideal.Experts

end
-- ==== Proof.Experts.IRunB.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Exec
public import proofs.«01_k».proof.Proof.Experts.IWords
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

set_option backward.proofsInPublic true in
set_option maxHeartbeats 16000000 in
/-- A tile with rows at which the weights are loaded. -/
def runLoad (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
    (h1 : ¬k0_cond1 (rowsWord i tr) = 1#1) (h2 : loads i te tr) (h3 : k0_cond3 (rowsWord i tr) = 1#1) :
    Σ' (out : List (View.Piece (Elt F) S4096x128 .f32)) (lhs' : S256x2048.Idx → Elt F .bf16) (gate' up' : S2048x512.Idx → Elt F .bf16), { down' : S512x2048.Idx → Elt F .bf16 //
      ∀ (K : PUnit → sProp 𝕄),
        iprop((arg3.view.loc (c : Thread nD τ) ↦[arg3.view.set]{fullShare} arg3.view.rep xs)
          ∗ (arg4.view.loc (c : Thread nD τ) ↦[arg4.view.set]{fullShare} arg4.view.rep wg)
          ∗ (arg5.view.loc (c : Thread nD τ) ↦[arg5.view.set]{fullShare} arg5.view.rep wu)
          ∗ (arg6.view.loc (c : Thread nD τ) ↦[arg6.view.set]{fullShare} arg6.view.rep wd)
          ∗ (expertOf.view.loc (c : Thread nD τ) ↦{fullShare.right} te)
          ∗ (rowsOf.view.loc (c : Thread nD τ) ↦{fullShare.right} tr)
          ∗ (∃ d, owns (c : Thread nD τ) arg7 fullShare d)
          ∗ (lhsM.view.loc (c : Thread nD τ) ↦{fullShare} lhs)
          ∗ (gateM.view.loc (c : Thread nD τ) ↦{fullShare} gate)
          ∗ (upM.view.loc (c : Thread nD τ) ↦{fullShare} up)
          ∗ (downM.view.loc (c : Thread nD τ) ↦{fullShare} down)
          ∗ (iprop((arg3.view.loc (c : Thread nD τ) ↦[arg3.view.set]{fullShare} arg3.view.rep xs)
              ∗ (arg4.view.loc (c : Thread nD τ) ↦[arg4.view.set]{fullShare} arg4.view.rep wg)
              ∗ (arg5.view.loc (c : Thread nD τ) ↦[arg5.view.set]{fullShare} arg5.view.rep wu)
              ∗ (arg6.view.loc (c : Thread nD τ) ↦[arg6.view.set]{fullShare} arg6.view.rep wd)
              ∗ (expertOf.view.loc (c : Thread nD τ) ↦{fullShare.right} te)
              ∗ (rowsOf.view.loc (c : Thread nD τ) ↦{fullShare.right} tr)
              ∗ (∃ f, arg7.view.loc (c : Thread nD τ) ↦[arg7.view.set]{fullShare} arg7.view.writes (Elt F) f out)
              ∗ (lhsM.view.loc (c : Thread nD τ) ↦{fullShare} lhs')
              ∗ (gateM.view.loc (c : Thread nD τ) ↦{fullShare} gate')
              ∗ (upM.view.loc (c : Thread nD τ) ↦{fullShare} up')
              ∗ (downM.view.loc (c : Thread nD τ) ↦{fullShare} down')) -∗ K ⟨⟩))
          ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K } :=
  ⟨_, _, _, _, _, fun K => by
    unfold owns
    rw [cc0_moe_experts_eq_skeleton]; unfold cc0_moe_experts_skel
    iintro ⟨H0, H1, H2, H3, HT0, HT1, ⟨%d4, %f4, -, HO4⟩, HS0, HS1, HS2, HS3, Hk⟩
    have hS0 : lhsM.IsWhole := Memref.isWhole_whole _
    have hS1 : gateM.IsWhole := Memref.isWhole_whole _
    have hS2 : upM.IsWhole := Memref.isWhole_whole _
    have hS3 : downM.IsWhole := Memref.isWhole_whole _
    have hT0 : expertOf.IsWhole := Memref.isWhole_whole _
    have hT1 : rowsOf.IsWhole := Memref.isWhole_whole _
    sl_exec! (disch := first | (guard_target = ¬k0_cond1 _ = _; exact h1) | (guard_target = (Scalar.cmpi _ _ _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    iexact HS3⟩

end Cert.Kernel2Ideal.Experts

end
-- ==== Proof.Experts.IRunC.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Exec
public import proofs.«01_k».proof.Proof.Experts.IWords
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

set_option backward.proofsInPublic true in
set_option maxHeartbeats 16000000 in
/-- A tile with rows at which the weights are kept. -/
def runKeep (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
    (h1 : ¬k0_cond1 (rowsWord i tr) = 1#1) (h2 : ¬loads i te tr) (h3 : k0_cond3 (rowsWord i tr) = 1#1) :
    Σ' (out : List (View.Piece (Elt F) S4096x128 .f32)) (lhs' : S256x2048.Idx → Elt F .bf16) (gate' up' : S2048x512.Idx → Elt F .bf16), { down' : S512x2048.Idx → Elt F .bf16 //
      ∀ (K : PUnit → sProp 𝕄),
        iprop((arg3.view.loc (c : Thread nD τ) ↦[arg3.view.set]{fullShare} arg3.view.rep xs)
          ∗ (arg4.view.loc (c : Thread nD τ) ↦[arg4.view.set]{fullShare} arg4.view.rep wg)
          ∗ (arg5.view.loc (c : Thread nD τ) ↦[arg5.view.set]{fullShare} arg5.view.rep wu)
          ∗ (arg6.view.loc (c : Thread nD τ) ↦[arg6.view.set]{fullShare} arg6.view.rep wd)
          ∗ (expertOf.view.loc (c : Thread nD τ) ↦{fullShare.right} te)
          ∗ (rowsOf.view.loc (c : Thread nD τ) ↦{fullShare.right} tr)
          ∗ (∃ d, owns (c : Thread nD τ) arg7 fullShare d)
          ∗ (lhsM.view.loc (c : Thread nD τ) ↦{fullShare} lhs)
          ∗ (gateM.view.loc (c : Thread nD τ) ↦{fullShare} gate)
          ∗ (upM.view.loc (c : Thread nD τ) ↦{fullShare} up)
          ∗ (downM.view.loc (c : Thread nD τ) ↦{fullShare} down)
          ∗ (iprop((arg3.view.loc (c : Thread nD τ) ↦[arg3.view.set]{fullShare} arg3.view.rep xs)
              ∗ (arg4.view.loc (c : Thread nD τ) ↦[arg4.view.set]{fullShare} arg4.view.rep wg)
              ∗ (arg5.view.loc (c : Thread nD τ) ↦[arg5.view.set]{fullShare} arg5.view.rep wu)
              ∗ (arg6.view.loc (c : Thread nD τ) ↦[arg6.view.set]{fullShare} arg6.view.rep wd)
              ∗ (expertOf.view.loc (c : Thread nD τ) ↦{fullShare.right} te)
              ∗ (rowsOf.view.loc (c : Thread nD τ) ↦{fullShare.right} tr)
              ∗ (∃ f, arg7.view.loc (c : Thread nD τ) ↦[arg7.view.set]{fullShare} arg7.view.writes (Elt F) f out)
              ∗ (lhsM.view.loc (c : Thread nD τ) ↦{fullShare} lhs')
              ∗ (gateM.view.loc (c : Thread nD τ) ↦{fullShare} gate')
              ∗ (upM.view.loc (c : Thread nD τ) ↦{fullShare} up')
              ∗ (downM.view.loc (c : Thread nD τ) ↦{fullShare} down')) -∗ K ⟨⟩))
          ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K } :=
  ⟨_, _, _, _, _, fun K => by
    unfold owns
    rw [cc0_moe_experts_eq_skeleton]; unfold cc0_moe_experts_skel
    iintro ⟨H0, H1, H2, H3, HT0, HT1, ⟨%d4, %f4, -, HO4⟩, HS0, HS1, HS2, HS3, Hk⟩
    have hS0 : lhsM.IsWhole := Memref.isWhole_whole _
    have hS1 : gateM.IsWhole := Memref.isWhole_whole _
    have hS2 : upM.IsWhole := Memref.isWhole_whole _
    have hS3 : downM.IsWhole := Memref.isWhole_whole _
    have hT0 : expertOf.IsWhole := Memref.isWhole_whole _
    have hT1 : rowsOf.IsWhole := Memref.isWhole_whole _
    sl_exec! (disch := first | (guard_target = ¬k0_cond1 _ = _; exact h1) | (guard_target = ¬(Scalar.cmpi _ _ _ = _); exact h2) | (guard_target = k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    iexact HS3⟩

end Cert.Kernel2Ideal.Experts

end
-- ==== Proof.Experts.IRunD.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Exec
public import proofs.«01_k».proof.Proof.Experts.IWords
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

set_option backward.proofsInPublic true in
set_option maxHeartbeats 16000000 in
/-- A tile whose count of rows is negative: the body does nothing. -/
def runIdle (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
    (h1 : ¬k0_cond1 (rowsWord i tr) = 1#1) (h2 : ¬loads i te tr) (h3 : ¬k0_cond3 (rowsWord i tr) = 1#1) :
    Σ' (out : List (View.Piece (Elt F) S4096x128 .f32)) (lhs' : S256x2048.Idx → Elt F .bf16) (gate' up' : S2048x512.Idx → Elt F .bf16), { down' : S512x2048.Idx → Elt F .bf16 //
      ∀ (K : PUnit → sProp 𝕄),
        iprop((arg3.view.loc (c : Thread nD τ) ↦[arg3.view.set]{fullShare} arg3.view.rep xs)
          ∗ (arg4.view.loc (c : Thread nD τ) ↦[arg4.view.set]{fullShare} arg4.view.rep wg)
          ∗ (arg5.view.loc (c : Thread nD τ) ↦[arg5.view.set]{fullShare} arg5.view.rep wu)
          ∗ (arg6.view.loc (c : Thread nD τ) ↦[arg6.view.set]{fullShare} arg6.view.rep wd)
          ∗ (expertOf.view.loc (c : Thread nD τ) ↦{fullShare.right} te)
          ∗ (rowsOf.view.loc (c : Thread nD τ) ↦{fullShare.right} tr)
          ∗ (∃ d, owns (c : Thread nD τ) arg7 fullShare d)
          ∗ (lhsM.view.loc (c : Thread nD τ) ↦{fullShare} lhs)
          ∗ (gateM.view.loc (c : Thread nD τ) ↦{fullShare} gate)
          ∗ (upM.view.loc (c : Thread nD τ) ↦{fullShare} up)
          ∗ (downM.view.loc (c : Thread nD τ) ↦{fullShare} down)
          ∗ (iprop((arg3.view.loc (c : Thread nD τ) ↦[arg3.view.set]{fullShare} arg3.view.rep xs)
              ∗ (arg4.view.loc (c : Thread nD τ) ↦[arg4.view.set]{fullShare} arg4.view.rep wg)
              ∗ (arg5.view.loc (c : Thread nD τ) ↦[arg5.view.set]{fullShare} arg5.view.rep wu)
              ∗ (arg6.view.loc (c : Thread nD τ) ↦[arg6.view.set]{fullShare} arg6.view.rep wd)
              ∗ (expertOf.view.loc (c : Thread nD τ) ↦{fullShare.right} te)
              ∗ (rowsOf.view.loc (c : Thread nD τ) ↦{fullShare.right} tr)
              ∗ (∃ f, arg7.view.loc (c : Thread nD τ) ↦[arg7.view.set]{fullShare} arg7.view.writes (Elt F) f out)
              ∗ (lhsM.view.loc (c : Thread nD τ) ↦{fullShare} lhs')
              ∗ (gateM.view.loc (c : Thread nD τ) ↦{fullShare} gate')
              ∗ (upM.view.loc (c : Thread nD τ) ↦{fullShare} up')
              ∗ (downM.view.loc (c : Thread nD τ) ↦{fullShare} down')) -∗ K ⟨⟩))
          ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K } :=
  ⟨[], lhs, gate, up, down, fun K => by
    unfold owns
    rw [cc0_moe_experts_eq_skeleton]; unfold cc0_moe_experts_skel
    iintro ⟨H0, H1, H2, H3, HT0, HT1, ⟨%d4, %f4, -, HO4⟩, HS0, HS1, HS2, HS3, Hk⟩
    have hS0 : lhsM.IsWhole := Memref.isWhole_whole _
    have hS1 : gateM.IsWhole := Memref.isWhole_whole _
    have hS2 : upM.IsWhole := Memref.isWhole_whole _
    have hS3 : downM.IsWhole := Memref.isWhole_whole _
    have hT0 : expertOf.IsWhole := Memref.isWhole_whole _
    have hT1 : rowsOf.IsWhole := Memref.isWhole_whole _
    sl_exec! (disch := first | (guard_target = ¬k0_cond1 _ = _; exact h1) | (guard_target = ¬(Scalar.cmpi _ _ _ = _); exact h2) | (guard_target = ¬k0_cond3 _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    isplitl [HS2]; · iexact HS2
    iexact HS3⟩

end Cert.Kernel2Ideal.Experts

end
-- ==== Proof.Experts.IBody.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.IWords
public import proofs.«01_k».proof.Proof.Experts.IRunA
public import proofs.«01_k».proof.Proof.Experts.IRunB
public import proofs.«01_k».proof.Proof.Experts.IRunC
public import proofs.«01_k».proof.Proof.Experts.IRunD
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

/-- What the body stores into the row buffer of a tile with `n` rows: one block of 128 columns for each
    of the 16 registers a token's row is spread over, the rows past `n` set to zero. -/
def lhsPieces (n : BitVec 32) (xs : S4096x128.Idx → Elt F .f32) : List (View.Piece (Elt F) S256x2048 .bf16) :=
  [⟨Rect.unit ![0, 1920] S256x128.size inb_S256x2048_S256x128_0_1920, k0_pay28 (k0_pay10 (F := F) n) (fun y => xs ((⟨![15, 0], S256x128.size, ![16, 1], inb_S4096x128_S256x128_15_0_s_16_1⟩ : LoadRect S4096x128).idx y))⟩,
   ⟨Rect.unit ![0, 1792] S256x128.size inb_S256x2048_S256x128_0_1792, k0_pay27 (k0_pay10 (F := F) n) (fun y => xs ((⟨![14, 0], S256x128.size, ![16, 1], inb_S4096x128_S256x128_14_0_s_16_1⟩ : LoadRect S4096x128).idx y))⟩,
   ⟨Rect.unit ![0, 1664] S256x128.size inb_S256x2048_S256x128_0_1664, k0_pay26 (k0_pay25 (k0_pay10 (F := F) n) (fun y => xs ((⟨![13, 0], S256x128.size, ![16, 1], inb_S4096x128_S256x128_13_0_s_16_1⟩ : LoadRect S4096x128).idx y)))⟩,
   ⟨Rect.unit ![0, 1536] S256x128.size inb_S256x2048_S256x128_0_1536, k0_pay24 (k0_pay10 (F := F) n) (fun y => xs ((⟨![12, 0], S256x128.size, ![16, 1], inb_S4096x128_S256x128_12_0_s_16_1⟩ : LoadRect S4096x128).idx y))⟩,
   ⟨Rect.unit ![0, 1408] S256x128.size inb_S256x2048_S256x128_0_1408, k0_pay23 (k0_pay10 (F := F) n) (fun y => xs ((⟨![11, 0], S256x128.size, ![16, 1], inb_S4096x128_S256x128_11_0_s_16_1⟩ : LoadRect S4096x128).idx y))⟩,
   ⟨Rect.unit ![0, 1280] S256x128.size inb_S256x2048_S256x128_0_1280, k0_pay22 (k0_pay10 (F := F) n) (fun y => xs ((⟨![10, 0], S256x128.size, ![16, 1], inb_S4096x128_S256x128_10_0_s_16_1⟩ : LoadRect S4096x128).idx y))⟩,
   ⟨Rect.unit ![0, 1152] S256x128.size inb_S256x2048_S256x128_0_1152, k0_pay21 (k0_pay10 (F := F) n) (fun y => xs ((⟨![9, 0], S256x128.size, ![16, 1], inb_S4096x128_S256x128_9_0_s_16_1⟩ : LoadRect S4096x128).idx y))⟩,
   ⟨Rect.unit ![0, 1024] S256x128.size inb_S256x2048_S256x128_0_1024, k0_pay20 (k0_pay10 (F := F) n) (fun y => xs ((⟨![8, 0], S256x128.size, ![16, 1], inb_S4096x128_S256x128_8_0_s_16_1⟩ : LoadRect S4096x128).idx y))⟩,
   ⟨Rect.unit ![0, 896] S256x128.size inb_S256x2048_S256x128_0_896, k0_pay19 (k0_pay10 (F := F) n) (fun y => xs ((⟨![7, 0], S256x128.size, ![16, 1], inb_S4096x128_S256x128_7_0_s_16_1⟩ : LoadRect S4096x128).idx y))⟩,
   ⟨Rect.unit ![0, 768] S256x128.size inb_S256x2048_S256x128_0_768, k0_pay18 (k0_pay10 (F := F) n) (fun y => xs ((⟨![6, 0], S256x128.size, ![16, 1], inb_S4096x128_S256x128_6_0_s_16_1⟩ : LoadRect S4096x128).idx y))⟩,
   ⟨Rect.unit ![0, 640] S256x128.size inb_S256x2048_S256x128_0_640, k0_pay17 (k0_pay10 (F := F) n) (fun y => xs ((⟨![5, 0], S256x128.size, ![16, 1], inb_S4096x128_S256x128_5_0_s_16_1⟩ : LoadRect S4096x128).idx y))⟩,
   ⟨Rect.unit ![0, 512] S256x128.size inb_S256x2048_S256x128_0_512, k0_pay16 (k0_pay10 (F := F) n) (fun y => xs ((⟨![4, 0], S256x128.size, ![16, 1], inb_S4096x128_S256x128_4_0_s_16_1⟩ : LoadRect S4096x128).idx y)) k0_pay15⟩,
   ⟨Rect.unit ![0, 384] S256x128.size inb_S256x2048_S256x128_0_384, k0_pay14 n (fun y => xs ((⟨![3, 0], S256x128.size, ![16, 1], inb_S4096x128_S256x128_3_0_s_16_1⟩ : LoadRect S4096x128).idx y))⟩,
   ⟨Rect.unit ![0, 256] S256x128.size inb_S256x2048_S256x128_0_256, k0_pay13 n (fun y => xs ((⟨![2, 0], S256x128.size, ![16, 1], inb_S4096x128_S256x128_2_0_s_16_1⟩ : LoadRect S4096x128).idx y))⟩,
   ⟨Rect.unit ![0, 128] S256x128.size inb_S256x2048_S256x128_0_128, k0_pay12 n (fun y => xs ((⟨![1, 0], S256x128.size, ![16, 1], inb_S4096x128_S256x128_1_0_s_16_1⟩ : LoadRect S4096x128).idx y))⟩,
   ⟨Rect.unit ![0, 0] S256x128.size inb_S256x2048_S256x128_0_0, k0_pay11 n (fun y => xs ((⟨![0, 0], S256x128.size, ![16, 1], inb_S4096x128_S256x128_0_0_s_16_1⟩ : LoadRect S4096x128).idx y))⟩]

/-- The tile's rows as the body reads them back. -/
def lhsOf (n : BitVec 32) (xs : S4096x128.Idx → Elt F .f32) : S256x2048.Idx → Elt F .bf16 :=
  lhsM.view.readCov (lhsPieces n xs) (Rect.unit ![0, 0] S256x2048.size inb_S256x2048_S256x2048_0_0).toLoadRect

/-- What the body stores into the output block of a tile with rows, from the tile's rows and the weights
    its scratch buffers hold. -/
def outPieces (n : BitVec 32) (xs : S4096x128.Idx → Elt F .f32) (gate up : S2048x512.Idx → Elt F .bf16) (down : S512x2048.Idx → Elt F .bf16) :
    List (View.Piece (Elt F) S4096x128 .f32) :=
  [⟨⟨⟨![15, 0], S256x128.size, ![16, 1], inb_S4096x128_S256x128_15_0_s_16_1⟩, spos_16_1⟩, k0_pay9 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1536] S512x512.size inb_S512x2048_S512x512_0_1536).toLoadRect down)⟩,
   ⟨⟨⟨![14, 0], S256x128.size, ![16, 1], inb_S4096x128_S256x128_14_0_s_16_1⟩, spos_16_1⟩, k0_pay8 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1536] S512x512.size inb_S512x2048_S512x512_0_1536).toLoadRect down)⟩,
   ⟨⟨⟨![13, 0], S256x128.size, ![16, 1], inb_S4096x128_S256x128_13_0_s_16_1⟩, spos_16_1⟩, k0_pay7 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1536] S512x512.size inb_S512x2048_S512x512_0_1536).toLoadRect down)⟩,
   ⟨⟨⟨![12, 0], S256x128.size, ![16, 1], inb_S4096x128_S256x128_12_0_s_16_1⟩, spos_16_1⟩, k0_pay6 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1536] S512x512.size inb_S512x2048_S512x512_0_1536).toLoadRect down)⟩,
   ⟨⟨⟨![11, 0], S256x128.size, ![16, 1], inb_S4096x128_S256x128_11_0_s_16_1⟩, spos_16_1⟩, k0_pay44 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1024] S512x512.size inb_S512x2048_S512x512_0_1024).toLoadRect down)⟩,
   ⟨⟨⟨![10, 0], S256x128.size, ![16, 1], inb_S4096x128_S256x128_10_0_s_16_1⟩, spos_16_1⟩, k0_pay43 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1024] S512x512.size inb_S512x2048_S512x512_0_1024).toLoadRect down)⟩,
   ⟨⟨⟨![9, 0], S256x128.size, ![16, 1], inb_S4096x128_S256x128_9_0_s_16_1⟩, spos_16_1⟩, k0_pay42 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1024] S512x512.size inb_S512x2048_S512x512_0_1024).toLoadRect down)⟩,
   ⟨⟨⟨![8, 0], S256x128.size, ![16, 1], inb_S4096x128_S256x128_8_0_s_16_1⟩, spos_16_1⟩, k0_pay41 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 1024] S512x512.size inb_S512x2048_S512x512_0_1024).toLoadRect down)⟩,
   ⟨⟨⟨![7, 0], S256x128.size, ![16, 1], inb_S4096x128_S256x128_7_0_s_16_1⟩, spos_16_1⟩, k0_pay39 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 512] S512x512.size inb_S512x2048_S512x512_0_512).toLoadRect down)⟩,
   ⟨⟨⟨![6, 0], S256x128.size, ![16, 1], inb_S4096x128_S256x128_6_0_s_16_1⟩, spos_16_1⟩, k0_pay38 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 512] S512x512.size inb_S512x2048_S512x512_0_512).toLoadRect down)⟩,
   ⟨⟨⟨![5, 0], S256x128.size, ![16, 1], inb_S4096x128_S256x128_5_0_s_16_1⟩, spos_16_1⟩, k0_pay37 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 512] S512x512.size inb_S512x2048_S512x512_0_512).toLoadRect down)⟩,
   ⟨⟨⟨![4, 0], S256x128.size, ![16, 1], inb_S4096x128_S256x128_4_0_s_16_1⟩, spos_16_1⟩, k0_pay36 (k0_pay29 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up)) (View.readAt (Elt F) downM.view (Rect.unit (s := S512x2048) ![0, 512] S512x512.size inb_S512x2048_S512x512_0_512).toLoadRect down)⟩,
   ⟨⟨⟨![3, 0], S256x128.size, ![16, 1], inb_S4096x128_S256x128_3_0_s_16_1⟩, spos_16_1⟩, k0_pay34 (k0_pay30 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up) (View.readAt (Elt F) downM.view (Rect.unit (s := S512x2048) ![0, 0] S512x512.size inb_S512x2048_S512x512_0_0).toLoadRect down))⟩,
   ⟨⟨⟨![2, 0], S256x128.size, ![16, 1], inb_S4096x128_S256x128_2_0_s_16_1⟩, spos_16_1⟩, k0_pay33 (k0_pay30 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up) (View.readAt (Elt F) downM.view (Rect.unit (s := S512x2048) ![0, 0] S512x512.size inb_S512x2048_S512x512_0_0).toLoadRect down))⟩,
   ⟨⟨⟨![1, 0], S256x128.size, ![16, 1], inb_S4096x128_S256x128_1_0_s_16_1⟩, spos_16_1⟩, k0_pay32 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up) (View.readAt (Elt F) downM.view (Rect.unit (s := S512x2048) ![0, 0] S512x512.size inb_S512x2048_S512x512_0_0).toLoadRect down)⟩,
   ⟨⟨⟨![0, 0], S256x128.size, ![16, 1], inb_S4096x128_S256x128_0_0_s_16_1⟩, spos_16_1⟩, k0_pay31 (lhsOf n xs) (View.readAt (Elt F) gateM.view (Rect.unit ![0, 0] S2048x512.size inb_S2048x512_S2048x512_0_0).toLoadRect gate) (View.readAt (Elt F) upM.view (Rect.unit ![0, 0] S2048x512.size inb_S2048x512_S2048x512_0_0).toLoadRect up) (View.readAt (Elt F) downM.view (Rect.unit (s := S512x2048) ![0, 0] S512x512.size inb_S512x2048_S512x512_0_0).toLoadRect down)⟩]

/-- What it stores into the output block of a tile of no rows. -/
def zeroPieces : List (View.Piece (Elt F) S4096x128 .f32) :=
  [⟨Rect.unit ![0, 0] S4096x128.size inb_S4096x128_S4096x128_0_0, k0_pay1⟩]

section
omit [FloatOps F]
/-- The sixteen strided stores reach every element of the output block: row `y` lies in the store that begins at
    row `y` modulo 16. -/
theorem strided_cover (L : List (View.Piece (Elt F) S4096x128 .f32))
    (h : ∀ s : Fin 16, ∃ p ∈ L, p.1.off = ![s.val, 0] ∧ p.1.size = ![256, 128] ∧ p.1.stride = ![16, 1]) :
    ∀ y, ∃ p ∈ L, y ∈ p.1.set := fun y => by
  obtain ⟨p, hp, ho, hs, ht⟩ := h ⟨(y 0).val % 16, Nat.mod_lt _ (by decide)⟩
  refine ⟨p, hp, ?_⟩
  have y0 : (y 0).val < 4096 := (y 0).isLt
  have y1 : (y 1).val < 128 := (y 1).isLt
  refine (LoadRect.mem_set _).mpr fun a => ⟨![(y 0).val / 16, (y 1).val] a, ?_, ?_⟩
  · rw [hs]; fin_cases a
    · show (y 0).val / 16 < 256; omega
    · show (y 1).val < 128; exact y1
  · rw [ho, ht]; fin_cases a
    · show (y 0).val = (y 0).val % 16 + 16 * ((y 0).val / 16); omega
    · show (y 1).val = 0 + 1 * (y 1).val; omega
end

variable (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)

/-- A tile of no rows: the output block is zero. -/
theorem runEmpty_out (h1) (h2) (h3) : (runEmpty c i arg3 harg3 arg4 harg4 arg5 harg5 arg6 harg6 arg7 harg7 te tr xs wg wu wd lhs gate up down h1 h2 h3).1 = zeroPieces := by
  delta runEmpty; rfl
/-- The rectangle that begins at the origin and has the whole shape's sizes places every index at itself. -/
theorem idx_full {s : Shape} (off : Fin s.rank → Nat) (h : ∀ a, off a = 0) (inb) (y : s.Idx) : (Rect.unit (s := s) off s.size inb).toLoadRect.idx y = y := by
  funext a; apply Fin.ext; show off a + 1 * (y a).val = (y a).val; rw [h a]; omega
/-- One store over the whole shape leaves what was stored. -/
theorem canon_full {s : Shape} {e : EltTy} (off : Fin s.rank → Nat) (h : ∀ a, off a = 0) (inb) (x : s.Idx → Elt F e) :
    View.canon (Val := Elt F) [⟨Rect.unit (s := s) off s.size inb, x⟩] = x := by
  funext y
  have := View.canon_cons_emb (Val := Elt F) (Rect.unit (s := s) off s.size inb) x [] y
  rwa [show (Rect.unit (s := s) off s.size inb).emb y = y from idx_full off h inb y] at this
/-- A load after such a store reads what was stored. -/
theorem readCov_full (b : Ref sig .tc) (off : Fin b.ty.shape.rank → Nat) (h : ∀ a, off a = 0) (inb) (x : b.ty.shape.Idx → Elt F b.ty.elt) (B : LoadRect b.ty.shape) :
    (View.whole b).readCov [⟨Rect.unit (s := b.ty.shape) off b.ty.shape.size inb, x⟩] B = View.readAt (Elt F) (View.whole b) B x := by
  rw [View.readCov_eq_canon', canon_full off h]; rfl
/-- The weights of the tile's expert, rounded, as they are stored. -/
theorem gate_load : View.readAt (Elt F) arg4.view (Rect.unit ![0, 0, 0, 0] S1x1x2048x512.size inb_S1x1x2048x512_S1x1x2048x512_0_0_0_0).toLoadRect (arg4.view.rep wg) = wg := by
  rw [View.readAt_rep]; funext y; exact congrArg wg (idx_full _ (by decide) _ y)
theorem down_load : View.readAt (Elt F) arg6.view (Rect.unit ![0, 0, 0, 0] S1x1x512x2048.size inb_S1x1x512x2048_S1x1x512x2048_0_0_0_0).toLoadRect (arg6.view.rep wd) = wd := by
  rw [View.readAt_rep]; funext y; exact congrArg wd (idx_full _ (by decide) _ y)
theorem stored_gate : runLoad.sl.HS1_1 arg4 wg = [⟨Rect.unit ![0, 0] S2048x512.size inb_S2048x512_S2048x512_0_0, k0_pay2 wg⟩] := by
  delta runLoad.sl.HS1_1; rw [gate_load]
theorem stored_up : runLoad.sl.HS2_1 arg5 wu = [⟨Rect.unit ![0, 0] S2048x512.size inb_S2048x512_S2048x512_0_0, k0_pay3 wu⟩] := by
  delta runLoad.sl.HS2_1; rw [gate_load]
theorem stored_down : runLoad.sl.HS3_1 arg6 wd = [⟨Rect.unit ![0, 0] S512x2048.size inb_S512x2048_S512x2048_0_0, k0_pay4 wd⟩] := by
  delta runLoad.sl.HS3_1; rw [down_load]
theorem load_v137 : runLoad.sl.v137 arg4 wg = View.readAt (Elt F) gateM.view (Rect.unit ![0, 0] S2048x512.size inb_S2048x512_S2048x512_0_0).toLoadRect (k0_pay2 wg) := by
  delta runLoad.sl.v137; rw [stored_gate]; exact readCov_full cc0_scratch1 ![0, 0] (by decide) _ _ _
theorem load_v139 : runLoad.sl.v139 arg5 wu = View.readAt (Elt F) upM.view (Rect.unit ![0, 0] S2048x512.size inb_S2048x512_S2048x512_0_0).toLoadRect (k0_pay3 wu) := by
  delta runLoad.sl.v139; rw [stored_up]; exact readCov_full cc0_scratch2 ![0, 0] (by decide) _ _ _
theorem load_v145 : runLoad.sl.v145 arg6 wd = View.readAt (Elt F) downM.view (Rect.unit (s := S512x2048) ![0, 0] S512x512.size inb_S512x2048_S512x512_0_0).toLoadRect (k0_pay4 wd) := by
  delta runLoad.sl.v145; rw [stored_down]; exact readCov_full cc0_scratch3 ![0, 0] (by decide) _ _ _
theorem load_v155 : runLoad.sl.v155 arg6 wd = View.readAt (Elt F) downM.view (Rect.unit (s := S512x2048) ![0, 512] S512x512.size inb_S512x2048_S512x512_0_512).toLoadRect (k0_pay4 wd) := by
  delta runLoad.sl.v155; rw [stored_down]; exact readCov_full cc0_scratch3 ![0, 0] (by decide) _ _ _
theorem load_v165 : runLoad.sl.v165 arg6 wd = View.readAt (Elt F) downM.view (Rect.unit (s := S512x2048) ![0, 1024] S512x512.size inb_S512x2048_S512x512_0_1024).toLoadRect (k0_pay4 wd) := by
  delta runLoad.sl.v165; rw [stored_down]; exact readCov_full cc0_scratch3 ![0, 0] (by decide) _ _ _
theorem load_v175 : runLoad.sl.v175 arg6 wd = View.readAt (Elt F) downM.view (Rect.unit (s := S512x2048) ![0, 1536] S512x512.size inb_S512x2048_S512x512_0_1536).toLoadRect (k0_pay4 wd) := by
  delta runLoad.sl.v175; rw [stored_down]; exact readCov_full cc0_scratch3 ![0, 0] (by decide) _ _ _
/-- A buffer written once, over its whole shape, holds what was written. -/
theorem written_full (b : Ref sig .tc) (off : Fin b.ty.shape.rank → Nat) (h : ∀ a, off a = 0) (inb) (x : b.ty.shape.Idx → Elt F b.ty.elt) (f) :
    (View.whole b).writes (Elt F) f [⟨Rect.unit (s := b.ty.shape) off b.ty.shape.size inb, x⟩] = x := by
  show (View.whole b).read (Elt F) ((View.whole b).writes (Elt F) f [⟨Rect.unit (s := b.ty.shape) off b.ty.shape.size inb, x⟩]) = x
  rw [View.read_writes_eq_canon, canon_full off h]
  intro y; exact ⟨_, List.mem_singleton.mpr rfl, by have := (Rect.unit (s := b.ty.shape) off b.ty.shape.size inb).idx_mem y; rwa [show (Rect.unit (s := b.ty.shape) off b.ty.shape.size inb).idx y = y from idx_full off h inb y] at this⟩
/-- The row buffer of a tile whose weights are kept. -/
theorem runKeep_rows : runKeep.sl.v136 i arg3 tr xs = lhsOf (rowsWord i tr) xs := by
  delta runKeep.sl.v136 runKeep.sl.HS0_16
  delta runKeep.sl.r_5 runKeep.sl.r_4 runKeep.sl.r_3 runKeep.sl.r
  simp only [View.readAt_rep]
  rfl
/-- A tile with rows whose weights are kept: the output block, in terms of the kept weights. -/
theorem runKeep_out (h1) (h2) (h3) : (runKeep c i arg3 harg3 arg4 harg4 arg5 harg5 arg6 harg6 arg7 harg7 te tr xs wg wu wd lhs gate up down h1 h2 h3).1 = outPieces (rowsWord i tr) xs gate up down := by
  delta runKeep
  delta runKeep.sl.r_8 runKeep.sl.r_9 runKeep.sl.r_7 runKeep.sl.r_6
  simp only [runKeep_rows]
  rfl
/-- The row buffer of a tile whose weights are loaded. -/
theorem runLoad_rows : runLoad.sl.v136 i arg3 tr xs = lhsOf (rowsWord i tr) xs := by
  delta runLoad.sl.v136 runLoad.sl.HS0_16
  delta runLoad.sl.r_5 runLoad.sl.r_4 runLoad.sl.r_3 runLoad.sl.r
  simp only [View.readAt_rep]
  rfl
end Cert.Kernel2Ideal.Experts

end
-- ==== Proof.Experts.ILoad.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.IWords
public import proofs.«01_k».proof.Proof.Experts.IRunA
public import proofs.«01_k».proof.Proof.Experts.IRunB
public import proofs.«01_k».proof.Proof.Experts.IRunC
public import proofs.«01_k».proof.Proof.Experts.IBody
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

variable (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
set_option maxHeartbeats 8000000 in
/-- A tile with rows at which the weights are loaded: the output block, in terms of the weights loaded. -/
theorem runLoad_out (h1) (h2) (h3) : (runLoad c i arg3 harg3 arg4 harg4 arg5 harg5 arg6 harg6 arg7 harg7 te tr xs wg wu wd lhs gate up down h1 h2 h3).1 = outPieces (rowsWord i tr) xs (k0_pay2 wg) (k0_pay3 wu) (k0_pay4 wd) := by
  delta runLoad
  delta runLoad.sl.r_8 runLoad.sl.r_9 runLoad.sl.r_7 runLoad.sl.r_6
  simp only [runLoad_rows, load_v137, load_v139, load_v145, load_v155, load_v165, load_v175]
  rfl
set_option maxHeartbeats 8000000 in
/-- The weights left in the scratch buffers are the ones loaded, rounded. -/
theorem runLoad_weights (h1) (h2) (h3) : (runLoad c i arg3 harg3 arg4 harg4 arg5 harg5 arg6 harg6 arg7 harg7 te tr xs wg wu wd lhs gate up down h1 h2 h3).2.2.1 = k0_pay2 wg ∧ (runLoad c i arg3 harg3 arg4 harg4 arg5 harg5 arg6 harg6 arg7 harg7 te tr xs wg wu wd lhs gate up down h1 h2 h3).2.2.2.1 = k0_pay3 wu ∧ (runLoad c i arg3 harg3 arg4 harg4 arg5 harg5 arg6 harg6 arg7 harg7 te tr xs wg wu wd lhs gate up down h1 h2 h3).2.2.2.2.1 = k0_pay4 wd := by
  delta runLoad
  dsimp only
  rw [stored_gate, stored_up, stored_down]
  exact ⟨written_full cc0_scratch1 ![0, 0] (by decide) inb_S2048x512_S2048x512_0_0 (k0_pay2 wg) (View.whole cc0_scratch1).junk,
    written_full cc0_scratch2 ![0, 0] (by decide) inb_S2048x512_S2048x512_0_0 (k0_pay3 wu) (View.whole cc0_scratch2).junk,
    written_full cc0_scratch3 ![0, 0] (by decide) inb_S512x2048_S512x2048_0_0 (k0_pay4 wd) (View.whole cc0_scratch3).junk⟩
end Cert.Kernel2Ideal.Experts

end
-- ==== Proof.Experts.IStep.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.IWords
public import proofs.«01_k».proof.Proof.Experts.IRunA
public import proofs.«01_k».proof.Proof.Experts.IRunB
public import proofs.«01_k».proof.Proof.Experts.IRunC
public import proofs.«01_k».proof.Proof.Experts.ILoad
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]
variable {F : FTy → Type} [FloatOps F]

local notation "𝕄" => MT nD τ sig Unit (Elt F) ℕ (UR sig nD τ) ℕ

/-- What the body leaves: the output block `out` and the scratch weights, in terms of what it found. -/
structure Left (i : grid0.Coords) (te tr : S80.Idx → Elt F .i32) (xs : S4096x128.Idx → Elt F .f32)
    (wg wu : S1x1x2048x512.Idx → Elt F .f32) (wd : S1x1x512x2048.Idx → Elt F .f32) (gate up : S2048x512.Idx → Elt F .bf16) (down : S512x2048.Idx → Elt F .bf16)
    (out : S4096x128.Idx → Elt F .f32) (gate' up' : S2048x512.Idx → Elt F .bf16) (down' : S512x2048.Idx → Elt F .bf16) : Prop where
  empty : k0_cond1 (rowsWord i tr) = 1#1 → out = View.canon zeroPieces
  full : k0_cond3 (rowsWord i tr) = 1#1 → out = View.canon (outPieces (rowsWord i tr) xs gate' up' down')
  loaded : loads i te tr → gate' = k0_pay2 wg ∧ up' = k0_pay3 wu ∧ down' = k0_pay4 wd
  kept : ¬loads i te tr → gate' = gate ∧ up' = up ∧ down' = down

/-- No tile is both empty and with rows, and weights are loaded only at a tile with rows. -/
theorem cond1_iff (n : BitVec 32) : k0_cond1 n = 1#1 ↔ n = 0#32 := by
  unfold k0_cond1 Scalar.cmpi Scalar.extui IntOp.cmpi
  by_cases h : n = 0#32
  · subst h; decide
  · have e : (n == 0#32) = false := by simpa using h
    simp only [e, h, iff_false]; decide
theorem cond3_iff (n : BitVec 32) : k0_cond3 n = 1#1 ↔ BitVec.slt 0#32 n = true := by
  unfold k0_cond3 Scalar.cmpi Scalar.extui IntOp.cmpi
  cases h : BitVec.slt 0#32 n <;> simp [h]
theorem cond_disjoint (n : BitVec 32) (h : k0_cond1 n = 1#1) : ¬k0_cond3 n = 1#1 := by
  rw [cond3_iff, (cond1_iff n).mp h]; decide
theorem loads_word (n : BitVec 32) (a : BitVec 1) (h : Scalar.cmpi .ne (Scalar.extui (Scalar.andi (Scalar.cmpi .sgt n 0#32) a)) 0#32 = 1#1) :
    BitVec.slt 0#32 n = true := by
  unfold Scalar.cmpi Scalar.extui Scalar.andi IntOp.cmpi IntOp.andi at h
  cases h' : BitVec.slt 0#32 n
  · simp [h'] at h
  · rfl
theorem loads_rows (i : grid0.Coords) (te tr : S80.Idx → Elt F .i32) (h : loads i te tr) : k0_cond3 (rowsWord i tr) = 1#1 := by
  rw [cond3_iff]
  exact loads_word _ _ h

variable (c : Dev nD) (i : grid0.Coords) (arg3 : Memref sig .tc .vmem S4096x128 .f32) (harg3 : arg3.IsWhole) (arg4 : Memref sig .tc .vmem S1x1x2048x512 .f32) (harg4 : arg4.IsWhole) (arg5 : Memref sig .tc .vmem S1x1x2048x512 .f32) (harg5 : arg5.IsWhole) (arg6 : Memref sig .tc .vmem S1x1x512x2048 .f32) (harg6 : arg6.IsWhole) (arg7 : Memref sig .tc .vmem S4096x128 .f32) (harg7 : arg7.IsWhole) (te tr : S80.Idx → Elt F .i32)
    (xs : S4096x128.Idx → Elt F .f32) (wg wu : S1x1x2048x512.Idx → Elt F .f32) (wd : S1x1x512x2048.Idx → Elt F .f32)
    (lhs : S256x2048.Idx → Elt F .bf16) (gate up : S2048x512.Idx → Elt F .bf16) (down : S512x2048.Idx → Elt F .bf16)
/-- A tile of this kind leaves the weights as they were. -/
theorem runEmpty_kept (h1) (h2) (h3) : (runEmpty c i arg3 harg3 arg4 harg4 arg5 harg5 arg6 harg6 arg7 harg7 te tr xs wg wu wd lhs gate up down h1 h2 h3).2.2.1 = gate ∧ (runEmpty c i arg3 harg3 arg4 harg4 arg5 harg5 arg6 harg6 arg7 harg7 te tr xs wg wu wd lhs gate up down h1 h2 h3).2.2.2.1 = up ∧ (runEmpty c i arg3 harg3 arg4 harg4 arg5 harg5 arg6 harg6 arg7 harg7 te tr xs wg wu wd lhs gate up down h1 h2 h3).2.2.2.2.1 = down := by
  delta runEmpty; dsimp only; exact ⟨rfl, rfl, rfl⟩
/-- A tile of this kind leaves the weights as they were. -/
theorem runKeep_kept (h1) (h2) (h3) : (runKeep c i arg3 harg3 arg4 harg4 arg5 harg5 arg6 harg6 arg7 harg7 te tr xs wg wu wd lhs gate up down h1 h2 h3).2.2.1 = gate ∧ (runKeep c i arg3 harg3 arg4 harg4 arg5 harg5 arg6 harg6 arg7 harg7 te tr xs wg wu wd lhs gate up down h1 h2 h3).2.2.2.1 = up ∧ (runKeep c i arg3 harg3 arg4 harg4 arg5 harg5 arg6 harg6 arg7 harg7 te tr xs wg wu wd lhs gate up down h1 h2 h3).2.2.2.2.1 = down := by
  delta runKeep; dsimp only; exact ⟨rfl, rfl, rfl⟩
/-- A tile of this kind leaves the weights as they were. -/
theorem runIdle_kept (h1) (h2) (h3) : (runIdle c i arg3 harg3 arg4 harg4 arg5 harg5 arg6 harg6 arg7 harg7 te tr xs wg wu wd lhs gate up down h1 h2 h3).2.2.1 = gate ∧ (runIdle c i arg3 harg3 arg4 harg4 arg5 harg5 arg6 harg6 arg7 harg7 te tr xs wg wu wd lhs gate up down h1 h2 h3).2.2.2.1 = up ∧ (runIdle c i arg3 harg3 arg4 harg4 arg5 harg5 arg6 harg6 arg7 harg7 te tr xs wg wu wd lhs gate up down h1 h2 h3).2.2.2.2.1 = down := by
  delta runIdle; dsimp only; exact ⟨rfl, rfl, rfl⟩
/-- The pieces of an empty tile cover the block, and so do those of a tile with rows. -/
theorem zero_cover (y : S4096x128.Idx) : ∃ p ∈ zeroPieces (F := F), y ∈ p.1.set := by
  refine ⟨_, List.mem_singleton.mpr rfl, (LoadRect.mem_set _).mpr fun a => ⟨(y a).val, (y a).isLt, ?_⟩⟩
  show (y a).val = ![0, 0] a + 1 * (y a).val
  fin_cases a <;> simp
theorem out_cover (n : BitVec 32) (xs : S4096x128.Idx → Elt F .f32) (gate up : S2048x512.Idx → Elt F .bf16) (down : S512x2048.Idx → Elt F .bf16)
    (y : S4096x128.Idx) : ∃ p ∈ outPieces n xs gate up down, y ∈ p.1.set :=
  strided_cover _ (fun s => by
    unfold outPieces
    fin_cases s
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), rfl, rfl, rfl⟩
    · exact ⟨_, List.mem_cons_of_mem _ (List.mem_cons_of_mem _ (List.mem_cons_of_mem _ (List.mem_cons_of_mem _ (List.mem_cons_of_mem _ (List.mem_cons_of_mem _ (List.mem_cons_self)))))), rfl, rfl, rfl⟩
    · exact ⟨_, List.mem_cons_of_mem _ (List.mem_cons_of_mem _ (List.mem_cons_of_mem _ (List.mem_cons_of_mem _ (List.mem_cons_of_mem _ (List.mem_cons_self))))), rfl, rfl, rfl⟩
    · exact ⟨_, List.mem_cons_of_mem _ (List.mem_cons_of_mem _ (List.mem_cons_of_mem _ (List.mem_cons_of_mem _ (List.mem_cons_self)))), rfl, rfl, rfl⟩
    · exact ⟨_, List.mem_cons_of_mem _ (List.mem_cons_of_mem _ (List.mem_cons_of_mem _ (List.mem_cons_self))), rfl, rfl, rfl⟩
    · exact ⟨_, List.mem_cons_of_mem _ (List.mem_cons_of_mem _ (List.mem_cons_self)), rfl, rfl, rfl⟩
    · exact ⟨_, List.mem_cons_of_mem _ (List.mem_cons_self), rfl, rfl, rfl⟩
    · exact ⟨_, List.mem_cons_self, rfl, rfl, rfl⟩) y

/-- A run of the body at a tile that stores the pieces `out` into the output block and leaves the scratch buffers
    at `lhs'`, `gate'`, `up'` and `down'`. -/
def Runs (out : List (View.Piece (Elt F) S4096x128 .f32)) (lhs' : S256x2048.Idx → Elt F .bf16) (gate' up' : S2048x512.Idx → Elt F .bf16)
    (down' : S512x2048.Idx → Elt F .bf16) : Prop :=
  ∀ K : PUnit → sProp 𝕄,
    iprop((arg3.view.loc (c : Thread nD τ) ↦[arg3.view.set]{fullShare} arg3.view.rep xs) ∗ (arg4.view.loc (c : Thread nD τ) ↦[arg4.view.set]{fullShare} arg4.view.rep wg) ∗ (arg5.view.loc (c : Thread nD τ) ↦[arg5.view.set]{fullShare} arg5.view.rep wu) ∗ (arg6.view.loc (c : Thread nD τ) ↦[arg6.view.set]{fullShare} arg6.view.rep wd) ∗ (expertOf.view.loc (c : Thread nD τ) ↦{fullShare.right} te) ∗ (rowsOf.view.loc (c : Thread nD τ) ↦{fullShare.right} tr) ∗ (∃ d, owns (c : Thread nD τ) arg7 fullShare d) ∗ (lhsM.view.loc (c : Thread nD τ) ↦{fullShare} lhs) ∗ (gateM.view.loc (c : Thread nD τ) ↦{fullShare} gate) ∗ (upM.view.loc (c : Thread nD τ) ↦{fullShare} up) ∗ (downM.view.loc (c : Thread nD τ) ↦{fullShare} down)
        ∗ (iprop((arg3.view.loc (c : Thread nD τ) ↦[arg3.view.set]{fullShare} arg3.view.rep xs) ∗ (arg4.view.loc (c : Thread nD τ) ↦[arg4.view.set]{fullShare} arg4.view.rep wg) ∗ (arg5.view.loc (c : Thread nD τ) ↦[arg5.view.set]{fullShare} arg5.view.rep wu) ∗ (arg6.view.loc (c : Thread nD τ) ↦[arg6.view.set]{fullShare} arg6.view.rep wd) ∗ (expertOf.view.loc (c : Thread nD τ) ↦{fullShare.right} te) ∗ (rowsOf.view.loc (c : Thread nD τ) ↦{fullShare.right} tr) ∗ (∃ f, arg7.view.loc (c : Thread nD τ) ↦[arg7.view.set]{fullShare} arg7.view.writes (Elt F) f out) ∗ (lhsM.view.loc (c : Thread nD τ) ↦{fullShare} lhs') ∗ (gateM.view.loc (c : Thread nD τ) ↦{fullShare} gate') ∗ (upM.view.loc (c : Thread nD τ) ↦{fullShare} up') ∗ (downM.view.loc (c : Thread nD τ) ↦{fullShare} down')) -∗ K ⟨⟩))
      ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K
/-- The run of a tile of this kind. -/
theorem runEmpty_runs (h1 : k0_cond1 (rowsWord i tr) = 1#1) (h2 : ¬loads i te tr) (h3 : ¬k0_cond3 (rowsWord i tr) = 1#1) : ∃ out lhs' gate' up' down', (out = zeroPieces ∧ gate' = gate ∧ up' = up ∧ down' = down)
    ∧ Runs c i arg3 harg3 arg4 harg4 arg5 harg5 arg6 harg6 arg7 harg7 te tr xs wg wu wd lhs gate up down out lhs' gate' up' down' :=
  ⟨(runEmpty c i arg3 harg3 arg4 harg4 arg5 harg5 arg6 harg6 arg7 harg7 te tr xs wg wu wd lhs gate up down h1 h2 h3).1, (runEmpty c i arg3 harg3 arg4 harg4 arg5 harg5 arg6 harg6 arg7 harg7 te tr xs wg wu wd lhs gate up down h1 h2 h3).2.1, (runEmpty c i arg3 harg3 arg4 harg4 arg5 harg5 arg6 harg6 arg7 harg7 te tr xs wg wu wd lhs gate up down h1 h2 h3).2.2.1, (runEmpty c i arg3 harg3 arg4 harg4 arg5 harg5 arg6 harg6 arg7 harg7 te tr xs wg wu wd lhs gate up down h1 h2 h3).2.2.2.1, (runEmpty c i arg3 harg3 arg4 harg4 arg5 harg5 arg6 harg6 arg7 harg7 te tr xs wg wu wd lhs gate up down h1 h2 h3).2.2.2.2.1, ⟨runEmpty_out c i arg3 harg3 arg4 harg4 arg5 harg5 arg6 harg6 arg7 harg7 te tr xs wg wu wd lhs gate up down h1 h2 h3, runEmpty_kept c i arg3 harg3 arg4 harg4 arg5 harg5 arg6 harg6 arg7 harg7 te tr xs wg wu wd lhs gate up down h1 h2 h3⟩, (runEmpty c i arg3 harg3 arg4 harg4 arg5 harg5 arg6 harg6 arg7 harg7 te tr xs wg wu wd lhs gate up down h1 h2 h3).2.2.2.2.2⟩
/-- The run of a tile of this kind. -/
theorem runLoad_runs (h1 : ¬k0_cond1 (rowsWord i tr) = 1#1) (h2 : loads i te tr) (h3 : k0_cond3 (rowsWord i tr) = 1#1) : ∃ out lhs' gate' up' down', (out = outPieces (rowsWord i tr) xs (k0_pay2 wg) (k0_pay3 wu) (k0_pay4 wd) ∧ gate' = k0_pay2 wg ∧ up' = k0_pay3 wu ∧ down' = k0_pay4 wd)
    ∧ Runs c i arg3 harg3 arg4 harg4 arg5 harg5 arg6 harg6 arg7 harg7 te tr xs wg wu wd lhs gate up down out lhs' gate' up' down' :=
  ⟨(runLoad c i arg3 harg3 arg4 harg4 arg5 harg5 arg6 harg6 arg7 harg7 te tr xs wg wu wd lhs gate up down h1 h2 h3).1, (runLoad c i arg3 harg3 arg4 harg4 arg5 harg5 arg6 harg6 arg7 harg7 te tr xs wg wu wd lhs gate up down h1 h2 h3).2.1, (runLoad c i arg3 harg3 arg4 harg4 arg5 harg5 arg6 harg6 arg7 harg7 te tr xs wg wu wd lhs gate up down h1 h2 h3).2.2.1, (runLoad c i arg3 harg3 arg4 harg4 arg5 harg5 arg6 harg6 arg7 harg7 te tr xs wg wu wd lhs gate up down h1 h2 h3).2.2.2.1, (runLoad c i arg3 harg3 arg4 harg4 arg5 harg5 arg6 harg6 arg7 harg7 te tr xs wg wu wd lhs gate up down h1 h2 h3).2.2.2.2.1, ⟨runLoad_out c i arg3 harg3 arg4 harg4 arg5 harg5 arg6 harg6 arg7 harg7 te tr xs wg wu wd lhs gate up down h1 h2 h3, runLoad_weights c i arg3 harg3 arg4 harg4 arg5 harg5 arg6 harg6 arg7 harg7 te tr xs wg wu wd lhs gate up down h1 h2 h3⟩, (runLoad c i arg3 harg3 arg4 harg4 arg5 harg5 arg6 harg6 arg7 harg7 te tr xs wg wu wd lhs gate up down h1 h2 h3).2.2.2.2.2⟩
/-- The run of a tile of this kind. -/
theorem runKeep_runs (h1 : ¬k0_cond1 (rowsWord i tr) = 1#1) (h2 : ¬loads i te tr) (h3 : k0_cond3 (rowsWord i tr) = 1#1) : ∃ out lhs' gate' up' down', (out = outPieces (rowsWord i tr) xs gate up down ∧ gate' = gate ∧ up' = up ∧ down' = down)
    ∧ Runs c i arg3 harg3 arg4 harg4 arg5 harg5 arg6 harg6 arg7 harg7 te tr xs wg wu wd lhs gate up down out lhs' gate' up' down' :=
  ⟨(runKeep c i arg3 harg3 arg4 harg4 arg5 harg5 arg6 harg6 arg7 harg7 te tr xs wg wu wd lhs gate up down h1 h2 h3).1, (runKeep c i arg3 harg3 arg4 harg4 arg5 harg5 arg6 harg6 arg7 harg7 te tr xs wg wu wd lhs gate up down h1 h2 h3).2.1, (runKeep c i arg3 harg3 arg4 harg4 arg5 harg5 arg6 harg6 arg7 harg7 te tr xs wg wu wd lhs gate up down h1 h2 h3).2.2.1, (runKeep c i arg3 harg3 arg4 harg4 arg5 harg5 arg6 harg6 arg7 harg7 te tr xs wg wu wd lhs gate up down h1 h2 h3).2.2.2.1, (runKeep c i arg3 harg3 arg4 harg4 arg5 harg5 arg6 harg6 arg7 harg7 te tr xs wg wu wd lhs gate up down h1 h2 h3).2.2.2.2.1, ⟨runKeep_out c i arg3 harg3 arg4 harg4 arg5 harg5 arg6 harg6 arg7 harg7 te tr xs wg wu wd lhs gate up down h1 h2 h3, runKeep_kept c i arg3 harg3 arg4 harg4 arg5 harg5 arg6 harg6 arg7 harg7 te tr xs wg wu wd lhs gate up down h1 h2 h3⟩, (runKeep c i arg3 harg3 arg4 harg4 arg5 harg5 arg6 harg6 arg7 harg7 te tr xs wg wu wd lhs gate up down h1 h2 h3).2.2.2.2.2⟩
/-- The run of a tile of this kind. -/
theorem runIdle_runs (h1 : ¬k0_cond1 (rowsWord i tr) = 1#1) (h2 : ¬loads i te tr) (h3 : ¬k0_cond3 (rowsWord i tr) = 1#1) : ∃ out lhs' gate' up' down', ( gate' = gate ∧ up' = up ∧ down' = down)
    ∧ Runs c i arg3 harg3 arg4 harg4 arg5 harg5 arg6 harg6 arg7 harg7 te tr xs wg wu wd lhs gate up down out lhs' gate' up' down' :=
  ⟨(runIdle c i arg3 harg3 arg4 harg4 arg5 harg5 arg6 harg6 arg7 harg7 te tr xs wg wu wd lhs gate up down h1 h2 h3).1, (runIdle c i arg3 harg3 arg4 harg4 arg5 harg5 arg6 harg6 arg7 harg7 te tr xs wg wu wd lhs gate up down h1 h2 h3).2.1, (runIdle c i arg3 harg3 arg4 harg4 arg5 harg5 arg6 harg6 arg7 harg7 te tr xs wg wu wd lhs gate up down h1 h2 h3).2.2.1, (runIdle c i arg3 harg3 arg4 harg4 arg5 harg5 arg6 harg6 arg7 harg7 te tr xs wg wu wd lhs gate up down h1 h2 h3).2.2.2.1, (runIdle c i arg3 harg3 arg4 harg4 arg5 harg5 arg6 harg6 arg7 harg7 te tr xs wg wu wd lhs gate up down h1 h2 h3).2.2.2.2.1, runIdle_kept c i arg3 harg3 arg4 harg4 arg5 harg5 arg6 harg6 arg7 harg7 te tr xs wg wu wd lhs gate up down h1 h2 h3, (runIdle c i arg3 harg3 arg4 harg4 arg5 harg5 arg6 harg6 arg7 harg7 te tr xs wg wu wd lhs gate up down h1 h2 h3).2.2.2.2.2⟩

set_option maxHeartbeats 4000000 in
/-- The body at a tile: run from the tile's blocks, the tables and the scratch buffers, it leaves the blocks and the
    tables as they were and the output block and the weights as `Left` says. -/
theorem body_runs (K : PUnit → sProp 𝕄) :
    iprop((arg3.view.loc (c : Thread nD τ) ↦[arg3.view.set]{fullShare} arg3.view.rep xs) ∗ (arg4.view.loc (c : Thread nD τ) ↦[arg4.view.set]{fullShare} arg4.view.rep wg) ∗ (arg5.view.loc (c : Thread nD τ) ↦[arg5.view.set]{fullShare} arg5.view.rep wu) ∗ (arg6.view.loc (c : Thread nD τ) ↦[arg6.view.set]{fullShare} arg6.view.rep wd) ∗ (expertOf.view.loc (c : Thread nD τ) ↦{fullShare.right} te) ∗ (rowsOf.view.loc (c : Thread nD τ) ↦{fullShare.right} tr) ∗ (∃ d, owns (c : Thread nD τ) arg7 fullShare d) ∗ (lhsM.view.loc (c : Thread nD τ) ↦{fullShare} lhs) ∗ (gateM.view.loc (c : Thread nD τ) ↦{fullShare} gate) ∗ (upM.view.loc (c : Thread nD τ) ↦{fullShare} up) ∗ (downM.view.loc (c : Thread nD τ) ↦{fullShare} down)
        ∗ ((∃ out lhs' gate' up' down', ⌜Left i te tr xs wg wu wd gate up down out gate' up' down'⌝ ∗ (arg3.view.loc (c : Thread nD τ) ↦[arg3.view.set]{fullShare} arg3.view.rep xs) ∗ (arg4.view.loc (c : Thread nD τ) ↦[arg4.view.set]{fullShare} arg4.view.rep wg) ∗ (arg5.view.loc (c : Thread nD τ) ↦[arg5.view.set]{fullShare} arg5.view.rep wu) ∗ (arg6.view.loc (c : Thread nD τ) ↦[arg6.view.set]{fullShare} arg6.view.rep wd) ∗ (expertOf.view.loc (c : Thread nD τ) ↦{fullShare.right} te) ∗ (rowsOf.view.loc (c : Thread nD τ) ↦{fullShare.right} tr) ∗ owns (c : Thread nD τ) arg7 fullShare out ∗ (lhsM.view.loc (c : Thread nD τ) ↦{fullShare} lhs') ∗ (gateM.view.loc (c : Thread nD τ) ↦{fullShare} gate') ∗ (upM.view.loc (c : Thread nD τ) ↦{fullShare} up') ∗ (downM.view.loc (c : Thread nD τ) ↦{fullShare} down')) -∗ K ⟨⟩))
      ⊢ wp frame (wpE (defs₀ (F := F)) Variants.none c none) Set.univ (cc0_moe_experts i expertOf (Memref.isWhole_whole _) rowsOf (Memref.isWhole_whole _) arg3 harg3 arg4 harg4 arg5 harg5 arg6 harg6 arg7 harg7 lhsM (Memref.isWhole_whole _) gateM (Memref.isWhole_whole _) upM (Memref.isWhole_whole _) downM (Memref.isWhole_whole _)) K := by
  iintro ⟨H0, H1, H2, H3, HT0, HT1, H4, HS0, HS1, HS2, HS3, Hk⟩
  by_cases h1 : k0_cond1 (rowsWord i tr) = 1#1
  · have h3 := cond_disjoint _ h1
    have h2 : ¬loads i te tr := fun h => h3 (loads_rows i te tr h)
    obtain ⟨out, lhs', gate', up', down', e, H⟩ := runEmpty_runs c i arg3 harg3 arg4 harg4 arg5 harg5 arg6 harg6 arg7 harg7 te tr xs wg wu wd lhs gate up down h1 h2 h3
    iapply (H K)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    iintro ⟨H0, H1, H2, H3, HT0, HT1, ⟨%f, H4⟩, HS0, HS1, HS2, HS3⟩
    iapply Hk
    iexists (View.canon out), lhs', gate', up', down'; isplitr; swap
    · isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro; rw [e.1]; exact View.read_writes_eq_canon _ _ _ zero_cover
      isplitl [HS0]; · iexact HS0
      isplitl [HS1]; · iexact HS1
      isplitl [HS2]; · iexact HS2
      iexact HS3
    · ipureintro
      exact ⟨fun _ => by rw [e.1], fun h => absurd h h3, fun h => absurd h h2, fun _ => e.2⟩
  by_cases h2 : loads i te tr
  · have h3 := loads_rows i te tr h2
    obtain ⟨out, lhs', gate', up', down', e, H⟩ := runLoad_runs c i arg3 harg3 arg4 harg4 arg5 harg5 arg6 harg6 arg7 harg7 te tr xs wg wu wd lhs gate up down h1 h2 h3
    iapply (H K)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    iintro ⟨H0, H1, H2, H3, HT0, HT1, ⟨%f, H4⟩, HS0, HS1, HS2, HS3⟩
    iapply Hk
    iexists (View.canon out), lhs', gate', up', down'; isplitr; swap
    · isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro; rw [e.1]; exact View.read_writes_eq_canon _ _ _ (out_cover _ _ _ _ _)
      isplitl [HS0]; · iexact HS0
      isplitl [HS1]; · iexact HS1
      isplitl [HS2]; · iexact HS2
      iexact HS3
    · ipureintro
      exact ⟨fun h => absurd h h1, fun _ => by rw [e.1, e.2.1, e.2.2.1, e.2.2.2], fun _ => e.2, fun h => absurd h2 h⟩
  by_cases h3 : k0_cond3 (rowsWord i tr) = 1#1
  · skip
    obtain ⟨out, lhs', gate', up', down', e, H⟩ := runKeep_runs c i arg3 harg3 arg4 harg4 arg5 harg5 arg6 harg6 arg7 harg7 te tr xs wg wu wd lhs gate up down h1 h2 h3
    iapply (H K)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    iintro ⟨H0, H1, H2, H3, HT0, HT1, ⟨%f, H4⟩, HS0, HS1, HS2, HS3⟩
    iapply Hk
    iexists (View.canon out), lhs', gate', up', down'; isplitr; swap
    · isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro; rw [e.1]; exact View.read_writes_eq_canon _ _ _ (out_cover _ _ _ _ _)
      isplitl [HS0]; · iexact HS0
      isplitl [HS1]; · iexact HS1
      isplitl [HS2]; · iexact HS2
      iexact HS3
    · ipureintro
      exact ⟨fun h => absurd h h1, fun _ => by rw [e.1, e.2.1, e.2.2.1, e.2.2.2], fun h => absurd h h2, fun _ => e.2⟩
  · skip
    obtain ⟨out, lhs', gate', up', down', e, H⟩ := runIdle_runs c i arg3 harg3 arg4 harg4 arg5 harg5 arg6 harg6 arg7 harg7 te tr xs wg wu wd lhs gate up down h1 h2 h3
    iapply (H K)
    isplitl [H0]; · iexact H0
    isplitl [H1]; · iexact H1
    isplitl [H2]; · iexact H2
    isplitl [H3]; · iexact H3
    isplitl [HT0]; · iexact HT0
    isplitl [HT1]; · iexact HT1
    isplitl [H4]; · iexact H4
    isplitl [HS0]; · iexact HS0
    isplitl [HS1]; · iexact HS1
    isplitl [HS2]; · iexact HS2
    isplitl [HS3]; · iexact HS3
    iintro ⟨H0, H1, H2, H3, HT0, HT1, ⟨%f, H4⟩, HS0, HS1, HS2, HS3⟩
    iapply Hk
    iexists _, lhs', gate', up', down'; isplitr; swap
    · isplitl [H0]; · iexact H0
      isplitl [H1]; · iexact H1
      isplitl [H2]; · iexact H2
      isplitl [H3]; · iexact H3
      isplitl [HT0]; · iexact HT0
      isplitl [HT1]; · iexact HT1
      isplitl [H4]
      · unfold owns; iexists _; isplitr; swap
        · iexact H4
        · ipureintro; rfl
      isplitl [HS0]; · iexact HS0
      isplitl [HS1]; · iexact HS1
      isplitl [HS2]; · iexact HS2
      iexact HS3
    · ipureintro
      exact ⟨fun h => absurd h h1, fun h => absurd h h3, fun h => absurd h h2, fun _ => e⟩
end Cert.Kernel2Ideal.Experts

end
-- ==== Proof.Experts.IPoint.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.IWords
public import proofs.«01_k».proof.Proof.Experts.IRunA
public import proofs.«01_k».proof.Proof.Experts.IRunB
public import proofs.«01_k».proof.Proof.Experts.IRunC
public import proofs.«01_k».proof.Proof.Experts.IStep
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable [Facts]
variable {F : FTy → Type} [FloatOps F]

local notation "𝕄" => MT nD τ sig Unit (Elt F) ℕ (UR sig nD τ) ℕ

variable (m : (ℓ : Loc nD τ sig) → Buf (Elt F) ℓ)

/-- The two tables, as the first core's memory holds them. -/
def tables : pre0.Contents (Elt F) := fun j => m (((0 : Dev nD).tc : Thread nD τ).loc (pre0.ref j))
abbrev experts : S80.Idx → Elt F .i32 := m (((0 : Dev nD).tc : Thread nD τ).loc main_arg0)
abbrev rows : S80.Idx → Elt F .i32 := m (((0 : Dev nD).tc : Thread nD τ).loc main_arg1)

variable (ok : ok0 (F := F) (tables m)) (ρ : Dev nD → PrngReg)

/-- The pipeline at these tables. -/
def adm : (pcfg0 (F := F)).Adm := ⟨tables m, ok⟩
abbrev cfgA : Pipeline.Cfg sig Λ₀ := cfg0 (F := F) (adm m ok)
abbrev pcs : Fin 1 → Pipeline.Cfg sig Λ₀ := Pipeline.pin (pcfgs (F := F)) fun _ => adm m ok
/-- A point's coordinates, and the staging buffers there. -/
abbrev crd (t : Fin (cfgA m ok).N) : (cfgA m ok).grid.Coords := (cfgA m ok).grid.coords t
abbrev ms0 (t : Fin (cfgA m ok).N) : Memref sig .tc .vmem S4096x128 .f32 := spec0_0.stage ((cfgA m ok).slots t (0 : Fin 5))
abbrev hs0 (t : Fin (cfgA m ok).N) : (ms0 m ok t).IsWhole := hstage0_0 (((cfgA m ok).slots t (0 : Fin 5)).cast nbuf0_0)
abbrev ms1 (t : Fin (cfgA m ok).N) : Memref sig .tc .vmem S1x1x2048x512 .f32 := spec0_1.stage ((cfgA m ok).slots t (1 : Fin 5))
abbrev hs1 (t : Fin (cfgA m ok).N) : (ms1 m ok t).IsWhole := hstage0_1 (((cfgA m ok).slots t (1 : Fin 5)).cast nbuf0_1)
abbrev ms2 (t : Fin (cfgA m ok).N) : Memref sig .tc .vmem S1x1x2048x512 .f32 := spec0_2.stage ((cfgA m ok).slots t (2 : Fin 5))
abbrev hs2 (t : Fin (cfgA m ok).N) : (ms2 m ok t).IsWhole := hstage0_2 (((cfgA m ok).slots t (2 : Fin 5)).cast nbuf0_2)
abbrev ms3 (t : Fin (cfgA m ok).N) : Memref sig .tc .vmem S1x1x512x2048 .f32 := spec0_3.stage ((cfgA m ok).slots t (3 : Fin 5))
abbrev hs3 (t : Fin (cfgA m ok).N) : (ms3 m ok t).IsWhole := hstage0_3 (((cfgA m ok).slots t (3 : Fin 5)).cast nbuf0_3)
abbrev ms4 (t : Fin (cfgA m ok).N) : Memref sig .tc .vmem S4096x128 .f32 := spec0_4.stage ((cfgA m ok).slots t (4 : Fin 5))
abbrev hs4 (t : Fin (cfgA m ok).N) : (ms4 m ok t).IsWhole := hstage0_4 (((cfgA m ok).slots t (4 : Fin 5)).cast nbuf0_4)
/-- A window's block at a point, read off its array at launch. -/
def iblk (c : Dev nD) (w : Fin (cfgA m ok).W) (t : Fin (cfgA m ok).N) : (((cfgA m ok).win w).xblock (crd m ok t)).Idx → Elt F ((cfgA m ok).win w).elt :=
  (((cfgA m ok).win w).blk t).view.read (Elt F) ((s₀ m ρ).mem (((cfgA m ok).win w).arr.view.loc (c : Thread nD τ)))

/-- The scratch buffers hold the weights of point `t`'s expert. -/
structure Holds (c : Dev nD) (t : Fin (cfgA m ok).N) (gate up : S2048x512.Idx → Elt F .bf16) (down : S512x2048.Idx → Elt F .bf16) : Prop where
  gate_eq : gate = k0_pay2 (iblk m ok ρ c (1 : Fin 5) t)
  up_eq : up = k0_pay3 (iblk m ok ρ c (2 : Fin 5) t)
  down_eq : down = k0_pay4 (iblk m ok ρ c (3 : Fin 5) t)

/-- The tables are in order: every tile is empty or has rows, the first tile with rows loads its weights when it is the
    first of all, and a tile with rows that loads no weights follows a tile with rows of the same weights. -/
structure Good : Prop where
  live : ∀ t : Fin (cfgA m ok).N, k0_cond1 (rowsWord (crd m ok t) (rows m)) = 1#1 ∨ k0_cond3 (rowsWord (crd m ok t) (rows m)) = 1#1
  first : ∀ t : Fin (cfgA m ok).N, t.val = 0 → k0_cond3 (rowsWord (crd m ok t) (rows m)) = 1#1 → loads (crd m ok t) (experts m) (rows m)
  kept : ∀ t t' : Fin (cfgA m ok).N, t'.val + 1 = t.val → k0_cond3 (rowsWord (crd m ok t) (rows m)) = 1#1 → ¬loads (crd m ok t) (experts m) (rows m) →
    k0_cond3 (rowsWord (crd m ok t') (rows m)) = 1#1 ∧ ∀ (c : Dev nD) gate up down, Holds m ok ρ c t' gate up down → Holds m ok ρ c t gate up down

/-- What the output block holds after a point. -/
def outAt (c : Dev nD) (t : Fin (cfgA m ok).N) : S4096x128.Idx → Elt F .f32 :=
  if k0_cond1 (rowsWord (crd m ok t) (rows m)) = 1#1 then View.canon zeroPieces
  else View.canon (outPieces (rowsWord (crd m ok t) (rows m)) (iblk m ok ρ c (0 : Fin 5) t) (k0_pay2 (iblk m ok ρ c (1 : Fin 5) t))
    (k0_pay3 (iblk m ok ρ c (2 : Fin 5) t)) (k0_pay4 (iblk m ok ρ c (3 : Fin 5) t)))

/-- One point: from what the scratch buffers held before it, what they and the output block hold after it. -/
theorem point_step (hG : Good m ok ρ) (c : Dev nD) (t : Fin (cfgA m ok).N) {gate up down out gate' up' down'}
    (h : ∀ t' : Fin (cfgA m ok).N, t'.val + 1 = t.val → k0_cond3 (rowsWord (crd m ok t') (rows m)) = 1#1 → Holds m ok ρ c t' gate up down)
    (L : Left (crd m ok t) (experts m) (rows m) (iblk m ok ρ c (0 : Fin 5) t) (iblk m ok ρ c (1 : Fin 5) t) (iblk m ok ρ c (2 : Fin 5) t)
      (iblk m ok ρ c (3 : Fin 5) t) gate up down out gate' up' down') :
    (k0_cond3 (rowsWord (crd m ok t) (rows m)) = 1#1 → Holds m ok ρ c t gate' up' down') ∧ out = outAt m ok ρ c t := by
  have key : k0_cond3 (rowsWord (crd m ok t) (rows m)) = 1#1 → Holds m ok ρ c t gate' up' down' := fun h3 => by
    by_cases hl : loads (crd m ok t) (experts m) (rows m)
    · obtain ⟨e1, e2, e3⟩ := L.loaded hl
      exact ⟨e1, e2, e3⟩
    · obtain ⟨e1, e2, e3⟩ := L.kept hl
      have h0 : t.val ≠ 0 := fun h0 => hl (hG.first t h0 h3)
      have hk := hG.kept t ⟨t.val - 1, by omega⟩ (by show t.val - 1 + 1 = t.val; omega) h3 hl
      rw [e1, e2, e3]
      exact hk.2 c _ _ _ (h _ (by show t.val - 1 + 1 = t.val; omega) hk.1)
  refine ⟨key, ?_⟩
  unfold outAt
  rcases hG.live t with h1 | h3
  · rw [if_pos h1]; exact L.empty h1
  · rw [if_neg (fun h1 => cond_disjoint _ h1 h3), L.full h3, (key h3).gate_eq, (key h3).up_eq, (key h3).down_eq]

/-- What is held between the points: the scratch buffers, with the weights of the tile before where that tile had rows;
    the tables' halves; and the generator's register. -/
def Phi (c : Dev nD) (t : Fin ((cfgA m ok).N + 1)) : sProp 𝕄 :=
  iprop((∃ lhs gate up down, ⌜Good m ok ρ → ∀ t' : Fin (cfgA m ok).N, t'.val + 1 = t.val → k0_cond3 (rowsWord (crd m ok t') (rows m)) = 1#1 → Holds m ok ρ c t' gate up down⌝
      ∗ (lhsM.view.loc (c : Thread nD τ) ↦{fullShare} lhs) ∗ (gateM.view.loc (c : Thread nD τ) ↦{fullShare} gate) ∗ (upM.view.loc (c : Thread nD τ) ↦{fullShare} up) ∗ (downM.view.loc (c : Thread nD τ) ↦{fullShare} down)) ∗ (expertOf.view.loc (c : Thread nD τ) ↦{fullShare.right} experts m) ∗ (rowsOf.view.loc (c : Thread nD τ) ↦{fullShare.right} rows m) ∗ ∃ r, prngReg c r)

/-- The pipeline's proof data. -/
def dats (_ : Fin 1) (c : Dev nD) : Dat τ (Elt F) Unit ℕ (UR sig nD τ) ℕ (cfgA m ok) c where
  A w := (s₀ m ρ).mem (((cfgA m ok).win w).arr.view.loc (c : Thread nD τ))
  after w t := match w with
    | ⟨0, _⟩ => iblk m ok ρ c (0 : Fin 5) t
    | ⟨1, _⟩ => iblk m ok ρ c (1 : Fin 5) t
    | ⟨2, _⟩ => iblk m ok ρ c (2 : Fin 5) t
    | ⟨3, _⟩ => iblk m ok ρ c (3 : Fin 5) t
    | ⟨4, _⟩ => outAt m ok ρ c t
  Φ t := Phi m ok ρ c t
  q _ := fullShare
  owed _ := 0
theorem after_0 (c : Dev nD) (t : Fin (cfgA m ok).N) : (dats m ok ρ 0 c).after (0 : Fin 5) t = iblk m ok ρ c (0 : Fin 5) t := rfl
theorem before_0 (c : Dev nD) (t : Fin (cfgA m ok).N) (d) : (dats m ok ρ 0 c).before (0 : Fin 5) t d = iblk m ok ρ c (0 : Fin 5) t :=
  ((dats m ok ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem after_1 (c : Dev nD) (t : Fin (cfgA m ok).N) : (dats m ok ρ 0 c).after (1 : Fin 5) t = iblk m ok ρ c (1 : Fin 5) t := rfl
theorem before_1 (c : Dev nD) (t : Fin (cfgA m ok).N) (d) : (dats m ok ρ 0 c).before (1 : Fin 5) t d = iblk m ok ρ c (1 : Fin 5) t :=
  ((dats m ok ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem after_2 (c : Dev nD) (t : Fin (cfgA m ok).N) : (dats m ok ρ 0 c).after (2 : Fin 5) t = iblk m ok ρ c (2 : Fin 5) t := rfl
theorem before_2 (c : Dev nD) (t : Fin (cfgA m ok).N) (d) : (dats m ok ρ 0 c).before (2 : Fin 5) t d = iblk m ok ρ c (2 : Fin 5) t :=
  ((dats m ok ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem after_3 (c : Dev nD) (t : Fin (cfgA m ok).N) : (dats m ok ρ 0 c).after (3 : Fin 5) t = iblk m ok ρ c (3 : Fin 5) t := rfl
theorem before_3 (c : Dev nD) (t : Fin (cfgA m ok).N) (d) : (dats m ok ρ 0 c).before (3 : Fin 5) t d = iblk m ok ρ c (3 : Fin 5) t :=
  ((dats m ok ρ 0 c).before_in_eq_fetched (3 : Fin 5) rfl (fun _ => rfl) (fun _ _ _ => rfl) (fun t => by rw [after_3]; unfold Dat.blockOf iblk; rfl) t d).trans
    (by unfold Dat.fetched Dat.blockOf iblk; rfl)
theorem after_4 (c : Dev nD) (t : Fin (cfgA m ok).N) : (dats m ok ρ 0 c).after (4 : Fin 5) t = outAt m ok ρ c t := rfl

set_option maxHeartbeats 4000000 in
/-- The body at a point, from the invariant and the staged blocks. -/
theorem body_at (c : Dev nD) (t : Fin (cfgA m ok).N) (K : PUnit → sProp 𝕄) :
    iprop(Phi m ok ρ c t.castSucc ∗ (owns (c : Thread nD τ) (ms0 m ok t) fullShare (iblk m ok ρ c (0 : Fin 5) t)) ∗ (owns (c : Thread nD τ) (ms1 m ok t) fullShare (iblk m ok ρ c (1 : Fin 5) t)) ∗ (owns (c : Thread nD τ) (ms2 m ok t) fullShare (iblk m ok ρ c (2 : Fin 5) t)) ∗ (owns (c : Thread nD τ) (ms3 m ok t) fullShare (iblk m ok ρ c (3 : Fin 5) t)) ∗ (∃ d, owns (c : Thread nD τ) (ms4 m ok t) fullShare d)
        ∗ ((∃ out, ⌜Good m ok ρ → out = outAt m ok ρ c t⌝ ∗ Phi m ok ρ c t.succ ∗ (owns (c : Thread nD τ) (ms0 m ok t) fullShare (iblk m ok ρ c (0 : Fin 5) t)) ∗ (owns (c : Thread nD τ) (ms1 m ok t) fullShare (iblk m ok ρ c (1 : Fin 5) t)) ∗ (owns (c : Thread nD τ) (ms2 m ok t) fullShare (iblk m ok ρ c (2 : Fin 5) t)) ∗ (owns (c : Thread nD τ) (ms3 m ok t) fullShare (iblk m ok ρ c (3 : Fin 5) t)) ∗ (owns (c : Thread nD τ) (ms4 m ok t) fullShare out)) -∗ K ⟨⟩))
      ⊢ wp frame (wpE (defs₀ (F := F)) Variants.none c none) Set.univ (cc0_moe_experts (crd m ok t) expertOf (Memref.isWhole_whole _) rowsOf (Memref.isWhole_whole _) (ms0 m ok t) (hs0 m ok t) (ms1 m ok t) (hs1 m ok t) (ms2 m ok t) (hs2 m ok t) (ms3 m ok t) (hs3 m ok t) (ms4 m ok t) (hs4 m ok t) lhsM (Memref.isWhole_whole _) gateM (Memref.isWhole_whole _) upM (Memref.isWhole_whole _) downM (Memref.isWhole_whole _)) K := by
  unfold Phi
  iintro ⟨⟨⟨%lhs, %gate, %up, %down, %hh, HS0, HS1, HS2, HS3⟩, HT0, HT1, Hr⟩, H0, H1, H2, H3, H4, Hk⟩
  iapply (body_runs c (crd m ok t) (ms0 m ok t) (hs0 m ok t) (ms1 m ok t) (hs1 m ok t) (ms2 m ok t) (hs2 m ok t) (ms3 m ok t) (hs3 m ok t) (ms4 m ok t) (hs4 m ok t) (experts m) (rows m) (iblk m ok ρ c (0 : Fin 5) t) (iblk m ok ρ c (1 : Fin 5) t) (iblk m ok ρ c (2 : Fin 5) t) (iblk m ok ρ c (3 : Fin 5) t) lhs gate up down K)
  isplitl [H0]; · iapply rep_of_owns; iexact H0
  isplitl [H1]; · iapply rep_of_owns; iexact H1
  isplitl [H2]; · iapply rep_of_owns; iexact H2
  isplitl [H3]; · iapply rep_of_owns; iexact H3
  isplitl [HT0]; · iexact HT0
  isplitl [HT1]; · iexact HT1
  isplitl [H4]; · iexact H4
  isplitl [HS0]; · iexact HS0
  isplitl [HS1]; · iexact HS1
  isplitl [HS2]; · iexact HS2
  isplitl [HS3]; · iexact HS3
  iintro ⟨%out, %lhs', %gate', %up', %down', %L, H0, H1, H2, H3, HT0, HT1, H4, HS0, HS1, HS2, HS3⟩
  iapply Hk
  iexists out
  isplitr
  · ipureintro; exact fun hG => (point_step m ok ρ hG c t (hh hG) L).2
  isplitl [HS0 HS1 HS2 HS3 HT0 HT1 Hr]
  · isplitl [HS0 HS1 HS2 HS3]
    · iexists lhs', gate', up', down'
      isplitr
      · ipureintro; intro hG t' e
        obtain rfl : t' = t := Fin.ext (Nat.succ_injective e)
        exact (point_step m ok ρ hG c t' (hh hG) L).1
      isplitl [HS0]; · iexact HS0
      isplitl [HS1]; · iexact HS1
      isplitl [HS2]; · iexact HS2
      iexact HS3
    isplitl [HT0]; · iexact HT0
    isplitl [HT1]; · iexact HT1
    iexact Hr
  isplitl [H0]; · iapply owns_of_rep; iexact H0
  isplitl [H1]; · iapply owns_of_rep; iexact H1
  isplitl [H2]; · iapply owns_of_rep; iexact H2
  isplitl [H3]; · iapply owns_of_rep; iexact H3
  iexact H4
end Cert.Kernel2Ideal.Experts

end
-- ==== Proof.Experts.ILaunch.lean ====
module

public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.TableIdle
public import Idealize.ShloMosaic.Lib.Pipeline.FrameBody
public import Idealize.ShloMosaic.Lib.Writes
public import Idealize.ShloMosaic.Lib.Exec
public import proofs.«01_k».proof.Proof.Experts.IWords
public import proofs.«01_k».proof.Proof.Experts.IRunA
public import proofs.«01_k».proof.Proof.Experts.IRunB
public import proofs.«01_k».proof.Proof.Experts.IRunC
public import proofs.«01_k».proof.Proof.Experts.IPoint
public import Idealize.ShloMosaic.Lib.Tactic

@[expose] public section

set_option maxRecDepth 16384
set_option Elab.async false

noncomputable section

namespace Cert.Kernel2Ideal.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable [Facts]
variable {F : FTy → Type} [FloatOps F]

local notation "𝕄" => MT nD τ sig Unit (Elt F) ℕ (UR sig nD τ) ℕ

variable (m : (ℓ : Loc nD τ sig) → Buf (Elt F) ℓ) (ok : ok0 (F := F) (tables m)) (ρ : Dev nD → PrngReg)

/-- The window the frame claim says nothing of: the output's. -/
abbrev fgt : Fin 5 → Bool := fun w => w.val == 4

set_option maxHeartbeats 4000000 in
theorem sound_any (c : Dev nD) (t : Fin (cfgA m ok).N) :
    iprop((dats m ok ρ 0 c).Φ t.castSucc ∗ (dats m ok ρ 0 c).owesAt () t.castSucc ∗ (∃ d, owns (c : Thread nD τ) (ms0 m ok t) fullShare ((dats m ok ρ 0 c).before (0 : Fin 5) t d)) ∗ (∃ d, owns (c : Thread nD τ) (ms1 m ok t) fullShare ((dats m ok ρ 0 c).before (1 : Fin 5) t d)) ∗ (∃ d, owns (c : Thread nD τ) (ms2 m ok t) fullShare ((dats m ok ρ 0 c).before (2 : Fin 5) t d)) ∗ (∃ d, owns (c : Thread nD τ) (ms3 m ok t) fullShare ((dats m ok ρ 0 c).before (3 : Fin 5) t d)) ∗ (∃ X, owns (c : Thread nD τ) (ms4 m ok t) fullShare X))
      ⊢ wp frame (wpE (defs₀ (F := F)) Variants.none c none) Set.univ (cc0_moe_experts (crd m ok t) expertOf (Memref.isWhole_whole _) rowsOf (Memref.isWhole_whole _) (ms0 m ok t) (hs0 m ok t) (ms1 m ok t) (hs1 m ok t) (ms2 m ok t) (hs2 m ok t) (ms3 m ok t) (hs3 m ok t) (ms4 m ok t) (hs4 m ok t) lhsM (Memref.isWhole_whole _) gateM (Memref.isWhole_whole _) upM (Memref.isWhole_whole _) downM (Memref.isWhole_whole _)) fun _ => iprop((dats m ok ρ 0 c).Φ t.succ ∗ (dats m ok ρ 0 c).owesAt () t.succ ∗ (owns (c : Thread nD τ) (ms0 m ok t) fullShare (iblk m ok ρ c (0 : Fin 5) t)) ∗ (owns (c : Thread nD τ) (ms1 m ok t) fullShare (iblk m ok ρ c (1 : Fin 5) t)) ∗ (owns (c : Thread nD τ) (ms2 m ok t) fullShare (iblk m ok ρ c (2 : Fin 5) t)) ∗ (owns (c : Thread nD τ) (ms3 m ok t) fullShare (iblk m ok ρ c (3 : Fin 5) t)) ∗ (∃ X, owns (c : Thread nD τ) (ms4 m ok t) fullShare X)) := by
  simp only [before_0, before_1, before_2, before_3]
  rewrite [show (dats m ok ρ 0 c).Φ t.succ = Phi m ok ρ c t.succ from rfl, show (dats m ok ρ 0 c).Φ t.castSucc = Phi m ok ρ c t.castSucc from rfl,
    show (dats m ok ρ 0 c).owesAt () t.succ = (dats m ok ρ 0 c).owesAt () t.castSucc from rfl]
  iintro ⟨HP, Ho, ⟨%d0, H0⟩, ⟨%d1, H1⟩, ⟨%d2, H2⟩, ⟨%d3, H3⟩, ⟨%d4, H4⟩⟩
  iapply (body_at m ok ρ c t)
  isplitl [HP]; · iexact HP
  isplitl [H0]; · iexact H0
  isplitl [H1]; · iexact H1
  isplitl [H2]; · iexact H2
  isplitl [H3]; · iexact H3
  isplitl [H4]; · iexists _; iexact H4
  iintro ⟨%out, %e, HP, H0, H1, H2, H3, H4⟩
  isplitl [HP]; · iexact HP
  isplitl [Ho]; · iexact Ho
  isplitl [H0]; · iexact H0
  isplitl [H1]; · iexact H1
  isplitl [H2]; · iexact H2
  isplitl [H3]; · iexact H3
  iexists _; iexact H4

set_option maxHeartbeats 4000000 in
theorem sound_out (hG : Good m ok ρ) (c : Dev nD) (t : Fin (cfgA m ok).N) :
    iprop((dats m ok ρ 0 c).Φ t.castSucc ∗ (dats m ok ρ 0 c).owesAt () t.castSucc ∗ (∃ d, owns (c : Thread nD τ) (ms0 m ok t) fullShare ((dats m ok ρ 0 c).before (0 : Fin 5) t d)) ∗ (∃ d, owns (c : Thread nD τ) (ms1 m ok t) fullShare ((dats m ok ρ 0 c).before (1 : Fin 5) t d)) ∗ (∃ d, owns (c : Thread nD τ) (ms2 m ok t) fullShare ((dats m ok ρ 0 c).before (2 : Fin 5) t d)) ∗ (∃ d, owns (c : Thread nD τ) (ms3 m ok t) fullShare ((dats m ok ρ 0 c).before (3 : Fin 5) t d)) ∗ (∃ d, owns (c : Thread nD τ) (ms4 m ok t) fullShare ((dats m ok ρ 0 c).before (4 : Fin 5) t d)))
      ⊢ wp frame (wpE (defs₀ (F := F)) Variants.none c none) Set.univ (cc0_moe_experts (crd m ok t) expertOf (Memref.isWhole_whole _) rowsOf (Memref.isWhole_whole _) (ms0 m ok t) (hs0 m ok t) (ms1 m ok t) (hs1 m ok t) (ms2 m ok t) (hs2 m ok t) (ms3 m ok t) (hs3 m ok t) (ms4 m ok t) (hs4 m ok t) lhsM (Memref.isWhole_whole _) gateM (Memref.isWhole_whole _) upM (Memref.isWhole_whole _) downM (Memref.isWhole_whole _)) fun _ => iprop((dats m ok ρ 0 c).Φ t.succ ∗ (dats m ok ρ 0 c).owesAt () t.succ ∗ (owns (c : Thread nD τ) (ms0 m ok t) fullShare (iblk m ok ρ c (0 : Fin 5) t)) ∗ (owns (c : Thread nD τ) (ms1 m ok t) fullShare (iblk m ok ρ c (1 : Fin 5) t)) ∗ (owns (c : Thread nD τ) (ms2 m ok t) fullShare (iblk m ok ρ c (2 : Fin 5) t)) ∗ (owns (c : Thread nD τ) (ms3 m ok t) fullShare (iblk m ok ρ c (3 : Fin 5) t)) ∗ (owns (c : Thread nD τ) (ms4 m ok t) fullShare (outAt m ok ρ c t))) := by
  simp only [before_0, before_1, before_2, before_3]
  rewrite [show (dats m ok ρ 0 c).Φ t.succ = Phi m ok ρ c t.succ from rfl, show (dats m ok ρ 0 c).Φ t.castSucc = Phi m ok ρ c t.castSucc from rfl,
    show (dats m ok ρ 0 c).owesAt () t.succ = (dats m ok ρ 0 c).owesAt () t.castSucc from rfl]
  iintro ⟨HP, Ho, ⟨%d0, H0⟩, ⟨%d1, H1⟩, ⟨%d2, H2⟩, ⟨%d3, H3⟩, ⟨%d4, H4⟩⟩
  iapply (body_at m ok ρ c t)
  isplitl [HP]; · iexact HP
  isplitl [H0]; · iexact H0
  isplitl [H1]; · iexact H1
  isplitl [H2]; · iexact H2
  isplitl [H3]; · iexact H3
  isplitl [H4]; · iexists _; iexact H4
  iintro ⟨%out, %e, HP, H0, H1, H2, H3, H4⟩
  isplitl [HP]; · iexact HP
  isplitl [Ho]; · iexact Ho
  isplitl [H0]; · iexact H0
  isplitl [H1]; · iexact H1
  isplitl [H2]; · iexact H2
  isplitl [H3]; · iexact H3
  obtain rfl := e hG; iexact H4

/-- The output's block is stored at every point, the tables being in order. -/
theorem stored (hG : Good m ok ρ) (t : Fin (cfgA m ok).N) : (cfgA m ok).idle (4 : Fin 5) ((cfgA m ok).grid.coords t) = false := by
  have e : (tables m).atD 1 (k0_off1 (crd m ok t)) = rowsWord (crd m ok t) (rows m) := by
    unfold Pipeline.Prefetch.Contents.atD
    have hb : ∀ a : Fin 1, k0_off1 (crd m ok t) a + 1 ≤ S80.size a := fun a => by
      have := k0_off1_inb (crd m ok t) a
      fin_cases a; exact this
    refine (dif_pos (show ∀ a : Fin (pre0.ref 1).ty.shape.rank, (k0_off1 (crd m ok t) : Fin 1 → Nat) a + 1 ≤ (pre0.ref 1).ty.shape.size a from hb)).trans ?_
    refine congrArg (rows m) ?_
    funext a; apply Fin.ext
    have h0 : ∀ (x : S1.Idx) (a : Fin 1), (x a).val = 0 := fun x a => by
      have : (x a).val < 1 := by fin_cases a; exact (x 0).isLt
      omega
    show k0_off1 (crd m ok t) a = k0_off1 (crd m ok t) a + 1 * _
    rw [h0 _ a]; rfl
  show (!(k0_cond1 ((tables m).atD 1 (k0_off1 (crd m ok t))) == 1#1) && !(k0_cond3 ((tables m).atD 1 (k0_off1 (crd m ok t))) == 1#1)) = false
  rw [e]
  rcases hG.live t with h | h <;> simp [h]
/-- The body's obligation with the output forgotten, -/
theorem obligation_any (c : Dev nD) : BodyObligation (dats m ok ρ 0 c) (defs₀ (F := F)) Variants.none () Set.univ fgt := fun t => by
  rw [bigSep_W0, bigSep_W0]
  exact sound_any m ok ρ c t
/-- and with the output at what the point leaves. -/
theorem obligation_out (hG : Good m ok ρ) (c : Dev nD) : BodyObligation (dats m ok ρ 0 c) (defs₀ (F := F)) Variants.none () Set.univ := fun t => by
  rw [bigSep_W0, bigSep_W0]
  rw [stored m ok ρ hG t]
  exact sound_out m ok ρ hG c t
theorem share_eq (c : Dev nD) (w : Fin (cfgA m ok).W) : (dats m ok ρ 0 c).share w = fullShare := by unfold Dat.share; split <;> rfl
theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl
/-- The invariant before the first point, -/
theorem Phi_first (c : Dev nD) :
    iprop(Pipeline.ΦA (U := UR sig nD τ) spec0 c ∗ Pipeline.ΦT (U := UR sig nD τ) pre0 (adm m ok).1 c) ⊢ (dats m ok ρ 0 c).Φ 0 := by
  unfold Pipeline.ΦA Pipeline.ΦT
  rw [tables_held, scopedRest0_eq, show (dats m ok ρ 0 c).Φ 0 = Phi m ok ρ c 0 from rfl]
  unfold Phi
  iintro ⟨⟨⟨⟨%a0, HS0⟩, ⟨%a1, HS1⟩, ⟨%a2, HS2⟩, ⟨%a3, HS3⟩⟩, Hr⟩, ⟨HT0, HT1⟩⟩
  isplitl [HS0 HS1 HS2 HS3]
  · iexists a0, a1, a2, a3
    isplitr; · ipureintro; exact fun _ t' e => absurd e (Nat.succ_ne_zero _)
    isplitl [HS0]; · iexact HS0
    isplitl [HS1]; · iexact HS1
    isplitl [HS2]; · iexact HS2
    iexact HS3
  isplitl [HT0]; · iexact HT0
  isplitl [HT1]; · iexact HT1
  iexact Hr
/-- and after the last. -/
theorem Phi_last (c : Dev nD) : (dats m ok ρ 0 c).Φ (Fin.last (cfgA m ok).N) ⊢ Pipeline.ΦA (U := UR sig nD τ) spec0 c := by
  unfold Pipeline.ΦA
  rw [scopedRest0_eq, show (dats m ok ρ 0 c).Φ (Fin.last (cfgA m ok).N) = Phi m ok ρ c (Fin.last _) from rfl]
  unfold Phi
  iintro ⟨⟨%a0, %a1, %a2, %a3, -, HS0, HS1, HS2, HS3⟩, -, -, Hr⟩
  isplitr [Hr]
  · isplitl [HS0]; · iexists a0; iexact HS0
    isplitl [HS1]; · iexists a1; iexact HS1
    isplitl [HS2]; · iexists a2; iexact HS2
    iexists a3; iexact HS3
  iexact Hr
/-- The contents of a buffer at launch. -/
abbrev atLaunch (c : Dev nD) (b : Ref sig .tc) : Buf (Elt F) ((c.tc : Thread nD τ).loc b) := m ((c.tc : Thread nD τ).loc b)
theorem tables_eq (c : Dev nD) (j : Fin 2) : m ((c.tc : Thread nD τ).loc (pre0.ref j)) = (adm m ok).1 j := by
  rw [Subsingleton.elim c 0]; rfl

include ok in
/-- From any memory whose tables are admissible the machine runs and ends as the frame claim says. -/
theorem run_any : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frameP_track_forget (pcfgs (F := F)) (fun _ => adm m ok) (dats m ok ρ) 0 (launch0 (F := F)) defs₀ Variants.none fgt m ρ main
    (fun c => (obligation_any m ok ρ c).loose) (share_eq m ok ρ) (fun _ _ => rfl) (atLaunch m)
    (Pipeline.hmainP_region _ _ _ _ m main (fun c => by delta main; simp only [Prog.bind_lift, Prog.pure_eq_ret])) (fun _ _ => rfl) (tables_eq m ok)
    (Phi_first m ok ρ) (Phi_last m ok ρ) _
    (fun r h => ⟨fun c => ⟨(h.1 c).2 main_arg0 (show main_arg0 ∈ Pipeline.restRefs sig spec0 from by decide), (h.1 c).2 main_arg1 (show main_arg1 ∈ Pipeline.restRefs sig spec0 from by decide),
      Pipeline.RDat.FramePost.arr_in h.1 c (0 : Fin 5) rfl, Pipeline.RDat.FramePost.arr_in h.1 c (1 : Fin 5) rfl,
      Pipeline.RDat.FramePost.arr_in h.1 c (2 : Fin 5) rfl, Pipeline.RDat.FramePost.arr_in h.1 c (3 : Fin 5) rfl⟩, h.2⟩)

/-- From a memory whose tables are in order it ends so with the result at the blocks the points leave. -/
theorem run_out (hG : Good m ok ρ) : θ_run (defs (F := F)) (onTc (τ := τ) (main (F := F))) ⟨m, fun _ => 0, ρ⟩ (fun r => (∀ c : Dev nD,
      r.2.mem ((c.tc : Thread nD τ).loc main_v0) = (dats m ok ρ 0 c).arrAt (4 : Fin 5) (cfgA m ok).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  Pipeline.θ_run_frameP_track (pcfgs (F := F)) (fun _ => adm m ok) (dats m ok ρ) 0 (launch0 (F := F)) defs₀ Variants.none m ρ main
    (fun c => (obligation_out m ok ρ hG c).loose) (share_eq m ok ρ) (fun _ _ => rfl) (atLaunch m)
    (Pipeline.hmainP_region _ _ _ _ m main (fun c => by delta main; simp only [Prog.bind_lift, Prog.pure_eq_ret])) (fun _ _ => rfl) (tables_eq m ok)
    (Phi_first m ok ρ) (Phi_last m ok ρ) _
    (fun r h => ⟨fun c => ⟨(h.1 c).1 (4 : Fin 5),
      (h.1 c).2 main_arg0 (show main_arg0 ∈ Pipeline.restRefs sig spec0 from by decide), (h.1 c).2 main_arg1 (show main_arg1 ∈ Pipeline.restRefs sig spec0 from by decide),
      ((h.1 c).1 (0 : Fin 5)).trans ((dats m ok ρ 0 c).arrAt_in (0 : Fin 5) rfl _), ((h.1 c).1 (1 : Fin 5)).trans ((dats m ok ρ 0 c).arrAt_in (1 : Fin 5) rfl _),
      ((h.1 c).1 (2 : Fin 5)).trans ((dats m ok ρ 0 c).arrAt_in (2 : Fin 5) rfl _), ((h.1 c).1 (3 : Fin 5)).trans ((dats m ok ρ 0 c).arrAt_in (3 : Fin 5) rfl _)⟩, h.2⟩)
end Cert.Kernel2Ideal.Experts

end
-- ==== Proof.Experts.KTables.lean ====
module

public import proofs.«01_k».proof.Proof.Experts.KLaunch

@[expose] public section

set_option maxRecDepth 16384

noncomputable section

namespace Cert.Kernel2.Experts

open Cert.Kernel2 Cert.Kernel2.Gen
open Idealize.ShloMosaic
open Idealize.ShloMosaic.TcCoe

variable [Facts]
variable {F : FTy → Type} [FloatOps F]
variable (m : (ℓ : Loc nD τ sig) → Buf (Elt F) ℓ)

/-- Tables that name one of the sixteen experts for every tile keep every block inside its array. -/
theorem admissible (h : ∀ i : S80.Idx, BitVec.toNat (experts m i) < 16) : ok0 (F := F) (tables m) := by
  unfold ok0
  refine ⟨fun i => ⟨fun a => ?_, .inl rfl⟩, fun i => ⟨fun a => ?_, .inl rfl⟩, fun i => ⟨fun a => ?_, .inl rfl⟩⟩
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 2048 ≤ 2048; decide
    · show (0 + 1) * 512 ≤ 512; decide
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 2048 ≤ 2048; decide
    · show (0 + 1) * 512 ≤ 512; decide
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 512 ≤ 512; decide
    · show (0 + 1) * 2048 ≤ 2048; decide

end Cert.Kernel2.Experts
end
-- ==== Proof.Experts.ITables.lean ====
module

public import proofs.«01_k».proof.Proof.Experts.ILaunch

@[expose] public section

set_option maxRecDepth 16384

noncomputable section

namespace Cert.Kernel2Ideal.Experts

open Cert.Kernel2Ideal Cert.Kernel2Ideal.Gen
open Idealize.ShloMosaic
open Idealize.ShloMosaic.TcCoe

variable [Facts]
variable {F : FTy → Type} [FloatOps F]
variable (m : (ℓ : Loc nD τ sig) → Buf (Elt F) ℓ)

/-- Tables that name one of the sixteen experts for every tile keep every block inside its array. -/
theorem admissible (h : ∀ i : S80.Idx, BitVec.toNat (experts m i) < 16) : ok0 (F := F) (tables m) := by
  unfold ok0
  refine ⟨fun i => ⟨fun a => ?_, .inl rfl⟩, fun i => ⟨fun a => ?_, .inl rfl⟩, fun i => ⟨fun a => ?_, .inl rfl⟩⟩
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 2048 ≤ 2048; decide
    · show (0 + 1) * 512 ≤ 512; decide
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 2048 ≤ 2048; decide
    · show (0 + 1) * 512 ≤ 512; decide
  · have hw := h ((Rect.unit (s := S80) (k0_off1 i) S1.size (k0_off1_inb i)).emb (Shape.Idx.first (s := S1) (by decide)))
    fin_cases a
    · show (0 + 1) * 1 ≤ 4; decide
    · exact (Nat.mul_one _).trans_le hw
    · show (0 + 1) * 512 ≤ 512; decide
    · show (0 + 1) * 2048 ≤ 2048; decide

end Cert.Kernel2Ideal.Experts
end
-- ==== Proof.Experts.Pre.lean ====
module

public import proofs.«01_k».proof.Defs
public import Idealize.ShloMosaic.Lib.Pointwise
public import Idealize.ShloMosaic.Lib.ReduceAll

@[expose] public section

set_option maxRecDepth 16384

noncomputable section

namespace Cert.Tables

open Idealize.ShloMosaic

/-- A conjunction of two truth values holds when both do. -/
theorem and_bit : ∀ a b : BitVec 1, a &&& b = 1#1 → a = 1#1 ∧ b = 1#1 := by decide
/-- A disjunction of two truth values holds when one does. -/
theorem or_bit : ∀ a b : BitVec 1, a ||| b = 1#1 → a = 1#1 ∨ b = 1#1 := by decide
/-- A truth value made of a decision holds when the decision does. -/
theorem bit_of (p : Bool) (h : BitVec.ofBool p = 1#1) : p = true := by cases p <;> simp_all

/-- A word between zero and sixteen, signed, counts below sixteen. -/
theorem word_small (w : BitVec 32) (h0 : BitVec.sle 0#32 w = true) (h1 : BitVec.slt w 16#32 = true) : w.toNat < 16 := by
  have a : (0 : Int) ≤ w.toInt := by simpa [BitVec.sle] using h0
  have b : w.toInt < 16 := by simpa [BitVec.slt] using h1
  rw [BitVec.toInt_eq_toNat_cond] at a b
  split at a <;> omega
/-- A word at least zero, signed, and not zero is above zero. -/
theorem word_pos (w : BitVec 32) (h0 : BitVec.sle 0#32 w = true) (h : w ≠ 0#32) : BitVec.slt 0#32 w = true := by
  have a : (0 : Int) ≤ w.toInt := by simpa [BitVec.sle] using h0
  have b : w.toInt ≠ 0 := fun e => h (BitVec.eq_of_toInt_eq (by simpa using e))
  have : 0 < w.toInt := by omega
  simpa [BitVec.slt] using this

end Cert.Tables

namespace Cert.Pre_experts_in_range

open Idealize.ShloMosaic Facts Cert.Tables

/-- The shape relations the precondition's operations take. -/
theorem facts : Facts := by
  constructor <;> decide

variable [Facts] {F : FTy → Type} [FloatOps F]

/-- The precondition says that every tile's expert is one of the sixteen. -/
theorem read (te tr : IVec S80 32) (x : FVec F S327680x128 .f32) (g u : FVec F S4x16x2048x512 .f32) (d : FVec F S4x16x512x2048 .f32)
    (h : fn (F := F) te tr x g u d = fun _ => 1#1) (i : S80.Idx) : (te i).toNat < 16 := by
  have h0 := congrFun h (fun a => a.elim0)
  dsimp only [fn] at h0
  have hs : Subsingleton S_.Idx := ⟨fun a b => funext fun x => x.elim0⟩
  obtain ⟨ha, hb⟩ := and_bit _ _ (Host.reduce_andi_all _ _ _ _ _ h0 i)
  exact word_small _ (bit_of _ ha) (bit_of _ hb)

end Cert.Pre_experts_in_range

namespace Cert.Pre_tiles_in_order

open Idealize.ShloMosaic Facts Cert.Tables

/-- The shape relations the precondition's operations take. -/
theorem facts : Facts := by
  constructor <;> decide

variable [Facts] {F : FTy → Type} [FloatOps F]

/-- The precondition says that every tile's expert is one of the sixteen, that no tile has fewer than no rows, and that a tile
    with rows whose expert is the tile before's follows a tile with rows. -/
theorem read (te tr : IVec S80 32) (x : FVec F S327680x128 .f32) (g u : FVec F S4x16x2048x512 .f32) (d : FVec F S4x16x512x2048 .f32)
    (h : fn (F := F) te tr x g u d = fun _ => 1#1) :
    (∀ i, (te i).toNat < 16) ∧ (∀ i, BitVec.sle 0#32 (tr i) = true)
      ∧ ∀ i i' : S80.Idx, (i' 0).val + 1 = (i 0).val → te i = te i' → tr i ≠ 0#32 → BitVec.slt 0#32 (tr i') = true := by
  have h0 := congrFun h (fun a => a.elim0)
  dsimp only [fn, fn_part1] at h0
  have hs : Subsingleton S_.Idx := ⟨fun a b => funext fun x => x.elim0⟩
  obtain ⟨h12, h3⟩ := and_bit _ _ h0
  obtain ⟨h1, h2⟩ := and_bit _ _ h12
  refine ⟨fun i => ?_, fun i => bit_of _ (Host.reduce_andi_all _ _ _ _ _ h2 i), fun i i' e he hn => ?_⟩
  · obtain ⟨ha, hb⟩ := and_bit _ _ (Host.reduce_andi_all _ _ _ _ _ h1 i)
    exact word_small _ (bit_of _ ha) (bit_of _ hb)
  · have hi : (i 0).val < 80 := (i 0).isLt
    have hj := Host.reduce_andi_all _ _ _ _ _ h3 (fun a => match a with | ⟨0, _⟩ => (⟨(i' 0).val, by show _ < 79; omega⟩ : Fin 79))
    have e1 : extractStridedSlice S79 ![1] te slices_S80_S79_1 (fun a => match a with | ⟨0, _⟩ => (⟨(i' 0).val, by show _ < 79; omega⟩ : Fin 79)) = te i := by
      refine congrArg te ?_; funext a; apply Fin.ext; fin_cases a; show 1 + (i' 0).val = (i 0).val; omega
    have e2 : extractStridedSlice S79 ![0] te slices_S80_S79_0 (fun a => match a with | ⟨0, _⟩ => (⟨(i' 0).val, by show _ < 79; omega⟩ : Fin 79)) = te i' := by
      refine congrArg te ?_; funext a; apply Fin.ext; fin_cases a; show 0 + (i' 0).val = (i' 0).val; omega
    have e3 : extractStridedSlice S79 ![1] tr slices_S80_S79_1 (fun a => match a with | ⟨0, _⟩ => (⟨(i' 0).val, by show _ < 79; omega⟩ : Fin 79)) = tr i := by
      refine congrArg tr ?_; funext a; apply Fin.ext; fin_cases a; show 1 + (i' 0).val = (i 0).val; omega
    have e4 : extractStridedSlice S79 ![0] tr slices_S80_S79_0 (fun a => match a with | ⟨0, _⟩ => (⟨(i' 0).val, by show _ < 79; omega⟩ : Fin 79)) = tr i' := by
      refine congrArg tr ?_; funext a; apply Fin.ext; fin_cases a; show 0 + (i' 0).val = (i' 0).val; omega
    rcases or_bit _ _ hj with hj | hj
    · rcases or_bit _ _ hj with hj | hj
      · have := bit_of _ hj
        rw [e1, e2, he] at this
        simp at this
      · have := bit_of _ hj
        rw [e3] at this
        exact absurd (beq_iff_eq.mp this) hn
    · have := bit_of _ hj
      rw [e4] at this
      exact this

end Cert.Pre_tiles_in_order
end
-- ==== Proof.Experts.IRows.lean ====
module

public import proofs.«01_k».proof.Proof.Experts.ITables
public import Idealize.ShloMosaic.Lib.Pointwise
public import Idealize.ShloMosaic.Lib.Pipeline.ValueKit
public import Idealize.ShloMosaic.Lib.KernelVsHost

@[expose] public section

set_option maxRecDepth 16384

noncomputable section

namespace Cert.Kernel2Ideal.Experts

open Cert.Kernel2Ideal Cert.Kernel2Ideal.Gen
open Idealize.ShloMosaic
open Idealize.ShloMosaic.TcCoe

variable [Facts]

/-- What the pieces leave at an index, when every piece agrees with `G` and the index lies in one of them. -/
theorem canon_of_pieces {s : Shape} {e : EltTy} (G : s.Idx → Elt Ideal e) : ∀ (L : List (View.Piece (Elt Ideal) s e)),
    (∀ p ∈ L, ∀ j, p.2 j = G (p.1.emb j)) → ∀ y, (∃ p ∈ L, y ∈ p.1.set) → View.canon L y = G y
  | [], _, _, hy => absurd hy (by simp)
  | p :: L, h, y, hy => by
    by_cases hm : y ∈ p.1.set
    · have hc := (LoadRect.mem_set _).mp hm
      choose j hj e using hc
      have hy : p.1.emb (fun a => ⟨j a, hj a⟩) = y := funext fun a => Fin.ext (e a).symm
      rw [← hy]
      exact (View.canon_cons_emb p.1 p.2 L _).trans (h p (List.mem_cons_self ..) _)
    · rw [View.canon_cons_of_not_mem p L hm]
      refine canon_of_pieces G L (fun q hq => h q (List.mem_cons_of_mem _ hq)) y ?_
      obtain ⟨q, hq, hyq⟩ := hy
      rcases List.mem_cons.mp hq with rfl | hq
      · exact absurd hyq hm
      · exact ⟨q, hq, hyq⟩

/-- A tile's rows as the kernel works on them: token `r`, dimension `d`, zero beyond the tile's `n` rows. -/
def rowsAt (n : BitVec 32) (xs : S4096x128.Idx → EReal) (r : Fin 256) (d : Fin 2048) : EReal :=
  Scalar.select (IntOp.cmpi .slt (BitVec.ofNat 32 r.val) n) (xs (ix2 ⟨16 * r.val + d.val / 128, by omega⟩ ⟨d.val % 128, by omega⟩)) 0

/-- One stored piece of the tile's rows agrees with `rowsAt`. -/
theorem rows_piece (n : BitVec 32) (xs : S4096x128.Idx → EReal) (s : ℕ) (hs : s < 16) (inb) (inb')
    (j : S256x128.Idx) :
    Scalar.select (IntOp.cmpi .slt (BitVec.ofNat 32 (j 0).val) n) (xs ((⟨![s, 0], S256x128.size, ![16, 1], inb⟩ : LoadRect S4096x128).idx j)) 0
      = (fun y : S256x2048.Idx => rowsAt n xs (y 0) (y 1)) ((Rect.unit (s := S256x2048) ![0, s * 128] S256x128.size inb').emb j) := by
  have j0 : (j 0).val < 256 := (j 0).isLt
  have j1 : (j 1).val < 128 := (j 1).isLt
  show _ = rowsAt n xs (⟨0 + 1 * (j 0).val, by omega⟩ : Fin 256) (⟨s * 128 + 1 * (j 1).val, by omega⟩ : Fin 2048)
  unfold rowsAt
  have e0 : (0 + 1 * (j 0).val) = (j 0).val := by omega
  refine congrArg₂ (fun a b => Scalar.select (IntOp.cmpi .slt (BitVec.ofNat 32 a) n) b (0 : EReal)) e0.symm (congrArg xs ?_)
  funext a; apply Fin.ext; fin_cases a
  · show s + 16 * (j 0).val = 16 * (0 + 1 * (j 0).val) + (s * 128 + 1 * (j 1).val) / 128; omega
  · show 0 + 1 * (j 1).val = (s * 128 + 1 * (j 1).val) % 128; omega

/-- The tile's rows as the kernel reads them back. -/
theorem lhs_at (n : BitVec 32) (xs : S4096x128.Idx → EReal) (r : Fin 256) (d : Fin 2048) :
    lhsOf (F := Ideal) n xs (ix2 r d) = rowsAt n xs r d := by
  unfold lhsOf
  rw [View.readCov_eq_canon']
  have hi : (Rect.unit (s := S256x2048) ![0, 0] S256x2048.size inb_S256x2048_S256x2048_0_0).toLoadRect.idx (ix2 r d) = ix2 r d :=
    idx_full (s := S256x2048) _ (by decide) _ _
  refine (congrArg (View.canon (lhsPieces (F := Ideal) n xs)) hi).trans ?_
  refine canon_of_pieces (fun y : S256x2048.Idx => rowsAt n xs (y 0) (y 1)) (lhsPieces (F := Ideal) n xs) ?_ (ix2 r d) ?_
  · intro p hp
    unfold lhsPieces at hp
    simp only [List.mem_cons, List.not_mem_nil, or_false] at hp
    rcases hp with rfl | rfl | rfl | rfl | rfl | rfl | rfl | rfl | rfl | rfl | rfl | rfl | rfl | rfl | rfl | rfl
    · intro j
      refine Eq.trans ?_ (rows_piece n xs 15 (by decide) inb_S4096x128_S256x128_15_0_s_16_1 inb_S256x2048_S256x128_0_1920 j)
      obtain ⟨a, b, rfl⟩ : ∃ a b, j = ix2 a b := ⟨j 0, j 1, by idx_ext⟩
      pointwise [k0_pay28, k0_pay10]
    · intro j
      refine Eq.trans ?_ (rows_piece n xs 14 (by decide) inb_S4096x128_S256x128_14_0_s_16_1 inb_S256x2048_S256x128_0_1792 j)
      obtain ⟨a, b, rfl⟩ : ∃ a b, j = ix2 a b := ⟨j 0, j 1, by idx_ext⟩
      pointwise [k0_pay27, k0_pay10]
    · intro j
      refine Eq.trans ?_ (rows_piece n xs 13 (by decide) inb_S4096x128_S256x128_13_0_s_16_1 inb_S256x2048_S256x128_0_1664 j)
      obtain ⟨a, b, rfl⟩ : ∃ a b, j = ix2 a b := ⟨j 0, j 1, by idx_ext⟩
      pointwise [k0_pay26, k0_pay25, k0_pay10]
    · intro j
      refine Eq.trans ?_ (rows_piece n xs 12 (by decide) inb_S4096x128_S256x128_12_0_s_16_1 inb_S256x2048_S256x128_0_1536 j)
      obtain ⟨a, b, rfl⟩ : ∃ a b, j = ix2 a b := ⟨j 0, j 1, by idx_ext⟩
      pointwise [k0_pay24, k0_pay10]
    · intro j
      refine Eq.trans ?_ (rows_piece n xs 11 (by decide) inb_S4096x128_S256x128_11_0_s_16_1 inb_S256x2048_S256x128_0_1408 j)
      obtain ⟨a, b, rfl⟩ : ∃ a b, j = ix2 a b := ⟨j 0, j 1, by idx_ext⟩
      pointwise [k0_pay23, k0_pay10]
    · intro j
      refine Eq.trans ?_ (rows_piece n xs 10 (by decide) inb_S4096x128_S256x128_10_0_s_16_1 inb_S256x2048_S256x128_0_1280 j)
      obtain ⟨a, b, rfl⟩ : ∃ a b, j = ix2 a b := ⟨j 0, j 1, by idx_ext⟩
      pointwise [k0_pay22, k0_pay10]
    · intro j
      refine Eq.trans ?_ (rows_piece n xs 9 (by decide) inb_S4096x128_S256x128_9_0_s_16_1 inb_S256x2048_S256x128_0_1152 j)
      obtain ⟨a, b, rfl⟩ : ∃ a b, j = ix2 a b := ⟨j 0, j 1, by idx_ext⟩
      pointwise [k0_pay21, k0_pay10]
    · intro j
      refine Eq.trans ?_ (rows_piece n xs 8 (by decide) inb_S4096x128_S256x128_8_0_s_16_1 inb_S256x2048_S256x128_0_1024 j)
      obtain ⟨a, b, rfl⟩ : ∃ a b, j = ix2 a b := ⟨j 0, j 1, by idx_ext⟩
      pointwise [k0_pay20, k0_pay10]
    · intro j
      refine Eq.trans ?_ (rows_piece n xs 7 (by decide) inb_S4096x128_S256x128_7_0_s_16_1 inb_S256x2048_S256x128_0_896 j)
      obtain ⟨a, b, rfl⟩ : ∃ a b, j = ix2 a b := ⟨j 0, j 1, by idx_ext⟩
      pointwise [k0_pay19, k0_pay10]
    · intro j
      refine Eq.trans ?_ (rows_piece n xs 6 (by decide) inb_S4096x128_S256x128_6_0_s_16_1 inb_S256x2048_S256x128_0_768 j)
      obtain ⟨a, b, rfl⟩ : ∃ a b, j = ix2 a b := ⟨j 0, j 1, by idx_ext⟩
      pointwise [k0_pay18, k0_pay10]
    · intro j
      refine Eq.trans ?_ (rows_piece n xs 5 (by decide) inb_S4096x128_S256x128_5_0_s_16_1 inb_S256x2048_S256x128_0_640 j)
      obtain ⟨a, b, rfl⟩ : ∃ a b, j = ix2 a b := ⟨j 0, j 1, by idx_ext⟩
      pointwise [k0_pay17, k0_pay10]
    · intro j
      refine Eq.trans ?_ (rows_piece n xs 4 (by decide) inb_S4096x128_S256x128_4_0_s_16_1 inb_S256x2048_S256x128_0_512 j)
      obtain ⟨a, b, rfl⟩ : ∃ a b, j = ix2 a b := ⟨j 0, j 1, by idx_ext⟩
      pointwise [k0_pay16, k0_pay15, k0_pay10]
    · intro j
      refine Eq.trans ?_ (rows_piece n xs 3 (by decide) inb_S4096x128_S256x128_3_0_s_16_1 inb_S256x2048_S256x128_0_384 j)
      obtain ⟨a, b, rfl⟩ : ∃ a b, j = ix2 a b := ⟨j 0, j 1, by idx_ext⟩
      pointwise [k0_pay14, k0_pay10]
    · intro j
      refine Eq.trans ?_ (rows_piece n xs 2 (by decide) inb_S4096x128_S256x128_2_0_s_16_1 inb_S256x2048_S256x128_0_256 j)
      obtain ⟨a, b, rfl⟩ : ∃ a b, j = ix2 a b := ⟨j 0, j 1, by idx_ext⟩
      pointwise [k0_pay13, k0_pay10]
    · intro j
      refine Eq.trans ?_ (rows_piece n xs 1 (by decide) inb_S4096x128_S256x128_1_0_s_16_1 inb_S256x2048_S256x128_0_128 j)
      obtain ⟨a, b, rfl⟩ : ∃ a b, j = ix2 a b := ⟨j 0, j 1, by idx_ext⟩
      pointwise [k0_pay12, k0_pay10]
    · intro j
      refine Eq.trans ?_ (rows_piece n xs 0 (by decide) inb_S4096x128_S256x128_0_0_s_16_1 inb_S256x2048_S256x128_0_0 j)
      obtain ⟨a, b, rfl⟩ : ∃ a b, j = ix2 a b := ⟨j 0, j 1, by idx_ext⟩
      pointwise [k0_pay11, k0_pay10]
  · obtain ⟨k, hk⟩ : ∃ k : Fin 16, k.val = d.val / 128 := ⟨⟨d.val / 128, by omega⟩, rfl⟩
    have hm : ∀ p : View.Piece (Elt Ideal) S256x2048 .bf16, p.1.off = ![0, k.val * 128] → p.1.size = ![256, 128] → p.1.stride = ![1, 1] →
        (ix2 r d : S256x2048.Idx) ∈ p.1.set := fun p ho hs ht => by
      refine (LoadRect.mem_set _).mpr fun a => ⟨![r.val, d.val % 128] a, ?_, ?_⟩
      · rw [hs]; fin_cases a
        · show r.val < 256; omega
        · show d.val % 128 < 128; omega
      · rw [ho, ht]; fin_cases a
        · show r.val = 0 + 1 * r.val; omega
        · show d.val = k.val * 128 + 1 * (d.val % 128); omega
    have hp : ∃ p ∈ lhsPieces (F := Ideal) n xs, p.1.off = ![0, k.val * 128] ∧ p.1.size = ![256, 128] ∧ p.1.stride = ![1, 1] := by
      clear hm hk
      unfold lhsPieces
      fin_cases k
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self ..))))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_of_mem _ (List.mem_cons_self ..)))))), rfl, rfl, by funext a; fin_cases a <;> rfl⟩
      · exact ⟨_, List.mem_cons_of_mem _ (List.mem_cons_of_mem _ (List.mem_cons_of_mem _ (List.mem_cons_of_mem _ (List.mem_cons_of_mem _ (List.mem_cons_self ..))))), rfl, rfl, by funext a; fin_cases a <;> rfl⟩
      · exact ⟨_, List.mem_cons_of_mem _ (List.mem_cons_of_mem _ (List.mem_cons_of_mem _ (List.mem_cons_of_mem _ (List.mem_cons_self ..)))), rfl, rfl, by funext a; fin_cases a <;> rfl⟩
      · exact ⟨_, List.mem_cons_of_mem _ (List.mem_cons_of_mem _ (List.mem_cons_of_mem _ (List.mem_cons_self ..))), rfl, rfl, by funext a; fin_cases a <;> rfl⟩
      · exact ⟨_, List.mem_cons_of_mem _ (List.mem_cons_of_mem _ (List.mem_cons_self ..)), rfl, rfl, by funext a; fin_cases a <;> rfl⟩
      · exact ⟨_, List.mem_cons_of_mem _ (List.mem_cons_self ..), rfl, rfl, by funext a; fin_cases a <;> rfl⟩
      · exact ⟨_, List.mem_cons_self .., rfl, rfl, by funext a; fin_cases a <;> rfl⟩
    obtain ⟨p, hp, ho, hs, ht⟩ := hp
    exact ⟨p, hp, hm p ho hs ht⟩

end Cert.Kernel2Ideal.Experts
end
-- ==== Proof.Experts.IOut.lean ====
module

public import proofs.«01_k».proof.Proof.Experts.IRows
public import Idealize.ShloMosaic.Lib.Pointwise
public import Idealize.ShloMosaic.Lib.Pipeline.ValueKit
public import Idealize.ShloMosaic.Lib.KernelVsHost

@[expose] public section

set_option maxRecDepth 16384

noncomputable section

namespace Cert.Kernel2Ideal.Experts

open Cert.Kernel2Ideal Cert.Kernel2Ideal.Gen
open Idealize.ShloMosaic
open Idealize.ShloMosaic.TcCoe

variable [Facts]

/-- The hidden value of a token at hidden unit `f`, from the token, the gate's and the up weights. -/
def hidden (x : Fin 2048 → EReal) (g u : Fin 2048 → Fin 512 → EReal) (f : Fin 512) : EReal :=
  (∑ d, x d * g d f) * Ideal.logistic (∑ d, x d * g d f) * ∑ d, x d * u d f

/-- An expert's output for a token at one dimension, from the token and the weights. -/
def expertOut (x : Fin 2048 → EReal) (g u : Fin 2048 → Fin 512 → EReal) (dn : Fin 512 → EReal) : EReal :=
  ∑ f, hidden x g u f * dn f

/-- A load of a whole scratch buffer reads it. -/
theorem load_gate (x : S2048x512.Idx → EReal) :
    View.readAt (Elt Ideal) gateM.view (Rect.unit ![0, 0] S2048x512.size inb_S2048x512_S2048x512_0_0).toLoadRect x = x := by
  funext y; exact congrArg x (idx_full (s := S2048x512) _ (by decide) _ y)
theorem load_up (x : S2048x512.Idx → EReal) :
    View.readAt (Elt Ideal) upM.view (Rect.unit ![0, 0] S2048x512.size inb_S2048x512_S2048x512_0_0).toLoadRect x = x := by
  funext y; exact congrArg x (idx_full (s := S2048x512) _ (by decide) _ y)

/-- A load of 512 columns of the down weights reads the weights at the column the load begins at, further on. -/
theorem load_down (x : S512x2048.Idx → EReal) (c : ℕ) (inb) (f e : Fin 512) (k : Fin 2048) (hk : k.val = c + e.val) :
    View.readAt (Elt Ideal) downM.view (Rect.unit (s := S512x2048) ![0, c] S512x512.size inb).toLoadRect x (ix2 f e) = x (ix2 f k) := by
  refine congrArg x ?_
  funext a; apply Fin.ext; fin_cases a
  · show 0 + 1 * f.val = f.val; omega
  · show c + 1 * e.val = k.val; omega

/-- What the output block of a tile with rows holds: token `y 0 / 16`, dimension `y 0 % 16 * 128 + y 1`. -/
def outG (n : BitVec 32) (xs : S4096x128.Idx → EReal) (g u : S2048x512.Idx → EReal) (dn : S512x2048.Idx → EReal) (y : S4096x128.Idx) : EReal :=
  expertOut (rowsAt n xs ⟨(y 0).val / 16, by have : (y 0).val < 4096 := (y 0).isLt; omega⟩) (fun d f => g (ix2 d f)) (fun d f => u (ix2 d f))
    (fun f => dn (ix2 f ⟨(y 0).val % 16 * 128 + (y 1).val, by have : (y 1).val < 128 := (y 1).isLt; omega⟩))

/-- One stored piece of the output agrees with `outG`. -/
theorem out_piece (n : BitVec 32) (xs : S4096x128.Idx → EReal) (g u : S2048x512.Idx → EReal) (dn : S512x2048.Idx → EReal) (s : ℕ) (hs : s < 16)
    (inb) (pos) (r : Fin 256) (l : Fin 128) :
    expertOut (fun d => lhsOf (F := Ideal) n xs (ix2 r d)) (fun d f => g (ix2 d f)) (fun d f => u (ix2 d f)) (fun f => dn (ix2 f ⟨s * 128 + l.val, by omega⟩))
      = outG n xs g u dn ((⟨⟨![s, 0], S256x128.size, ![16, 1], inb⟩, pos⟩ : Rect S4096x128).emb (ix2 r l)) := by
  unfold outG
  have e0 : (((⟨⟨![s, 0], S256x128.size, ![16, 1], inb⟩, pos⟩ : Rect S4096x128).emb (ix2 r l)) 0).val = s + 16 * r.val := rfl
  have e1 : (((⟨⟨![s, 0], S256x128.size, ![16, 1], inb⟩, pos⟩ : Rect S4096x128).emb (ix2 r l)) 1).val = 0 + 1 * l.val := rfl
  generalize ((⟨⟨![s, 0], S256x128.size, ![16, 1], inb⟩, pos⟩ : Rect S4096x128).emb (ix2 r l)) = y at e0 e1 ⊢
  have hx : (fun d => lhsOf (F := Ideal) n xs (ix2 r d)) = rowsAt n xs ⟨(y 0).val / 16, by have : (y 0).val < 4096 := (y 0).isLt; omega⟩ := by
    funext d; rw [lhs_at]; congr 1; apply Fin.ext; show r.val = (y 0).val / 16; omega
  rw [hx]
  refine congrArg _ (funext fun f => congrArg dn (congrArg (ix2 f) (Fin.ext ?_)))
  show s * 128 + l.val = (y 0).val % 16 * 128 + (y 1).val
  omega

/-- What a tile with rows leaves in the output block. -/
theorem out_at (n : BitVec 32) (xs : S4096x128.Idx → EReal) (g u : S2048x512.Idx → EReal) (dn : S512x2048.Idx → EReal) (y : S4096x128.Idx) :
    View.canon (outPieces (F := Ideal) n xs g u dn) y = outG n xs g u dn y := by
  refine canon_of_pieces (outG n xs g u dn) (outPieces (F := Ideal) n xs g u dn) ?_ y (out_cover (F := Ideal) n xs g u dn y)
  intro p hp
  unfold outPieces at hp
  rw [load_gate, load_up] at hp
  simp only [List.mem_cons, List.not_mem_nil, or_false] at hp
  rcases hp with rfl | rfl | rfl | rfl | rfl | rfl | rfl | rfl | rfl | rfl | rfl | rfl | rfl | rfl | rfl | rfl
  · intro j
    obtain ⟨r, l, rfl⟩ : ∃ a b, j = ix2 a b := ⟨j 0, j 1, by idx_ext⟩
    refine Eq.trans ?_ (out_piece n xs g u dn 15 (by decide) inb_S4096x128_S256x128_15_0_s_16_1 spos_16_1 r l)
    unfold expertOut hidden
    generalize lhsOf (F := Ideal) n xs = A
    pointwise [k0_pay9, k0_pay5, k0_pay29]
    refine Finset.sum_congr rfl fun f _ => congrArg _ (load_down dn 1536 _ f _ _ ?_)
    dsimp only <;> omega
  · intro j
    obtain ⟨r, l, rfl⟩ : ∃ a b, j = ix2 a b := ⟨j 0, j 1, by idx_ext⟩
    refine Eq.trans ?_ (out_piece n xs g u dn 14 (by decide) inb_S4096x128_S256x128_14_0_s_16_1 spos_16_1 r l)
    unfold expertOut hidden
    generalize lhsOf (F := Ideal) n xs = A
    pointwise [k0_pay8, k0_pay5, k0_pay29]
    refine Finset.sum_congr rfl fun f _ => congrArg _ (load_down dn 1536 _ f _ _ ?_)
    dsimp only <;> omega
  · intro j
    obtain ⟨r, l, rfl⟩ : ∃ a b, j = ix2 a b := ⟨j 0, j 1, by idx_ext⟩
    refine Eq.trans ?_ (out_piece n xs g u dn 13 (by decide) inb_S4096x128_S256x128_13_0_s_16_1 spos_16_1 r l)
    unfold expertOut hidden
    generalize lhsOf (F := Ideal) n xs = A
    pointwise [k0_pay7, k0_pay5, k0_pay29]
    refine Finset.sum_congr rfl fun f _ => congrArg _ (load_down dn 1536 _ f _ _ ?_)
    dsimp only <;> omega
  · intro j
    obtain ⟨r, l, rfl⟩ : ∃ a b, j = ix2 a b := ⟨j 0, j 1, by idx_ext⟩
    refine Eq.trans ?_ (out_piece n xs g u dn 12 (by decide) inb_S4096x128_S256x128_12_0_s_16_1 spos_16_1 r l)
    unfold expertOut hidden
    generalize lhsOf (F := Ideal) n xs = A
    pointwise [k0_pay6, k0_pay5, k0_pay29]
    refine Finset.sum_congr rfl fun f _ => congrArg _ (load_down dn 1536 _ f _ _ ?_)
    dsimp only <;> omega
  · intro j
    obtain ⟨r, l, rfl⟩ : ∃ a b, j = ix2 a b := ⟨j 0, j 1, by idx_ext⟩
    refine Eq.trans ?_ (out_piece n xs g u dn 11 (by decide) inb_S4096x128_S256x128_11_0_s_16_1 spos_16_1 r l)
    unfold expertOut hidden
    generalize lhsOf (F := Ideal) n xs = A
    pointwise [k0_pay44, k0_pay40, k0_pay29]
    refine Finset.sum_congr rfl fun f _ => congrArg _ (load_down dn 1024 _ f _ _ ?_)
    dsimp only <;> omega
  · intro j
    obtain ⟨r, l, rfl⟩ : ∃ a b, j = ix2 a b := ⟨j 0, j 1, by idx_ext⟩
    refine Eq.trans ?_ (out_piece n xs g u dn 10 (by decide) inb_S4096x128_S256x128_10_0_s_16_1 spos_16_1 r l)
    unfold expertOut hidden
    generalize lhsOf (F := Ideal) n xs = A
    pointwise [k0_pay43, k0_pay40, k0_pay29]
    refine Finset.sum_congr rfl fun f _ => congrArg _ (load_down dn 1024 _ f _ _ ?_)
    dsimp only <;> omega
  · intro j
    obtain ⟨r, l, rfl⟩ : ∃ a b, j = ix2 a b := ⟨j 0, j 1, by idx_ext⟩
    refine Eq.trans ?_ (out_piece n xs g u dn 9 (by decide) inb_S4096x128_S256x128_9_0_s_16_1 spos_16_1 r l)
    unfold expertOut hidden
    generalize lhsOf (F := Ideal) n xs = A
    pointwise [k0_pay42, k0_pay40, k0_pay29]
    refine Finset.sum_congr rfl fun f _ => congrArg _ (load_down dn 1024 _ f _ _ ?_)
    dsimp only <;> omega
  · intro j
    obtain ⟨r, l, rfl⟩ : ∃ a b, j = ix2 a b := ⟨j 0, j 1, by idx_ext⟩
    refine Eq.trans ?_ (out_piece n xs g u dn 8 (by decide) inb_S4096x128_S256x128_8_0_s_16_1 spos_16_1 r l)
    unfold expertOut hidden
    generalize lhsOf (F := Ideal) n xs = A
    pointwise [k0_pay41, k0_pay40, k0_pay29]
    refine Finset.sum_congr rfl fun f _ => congrArg _ (load_down dn 1024 _ f _ _ ?_)
    dsimp only <;> omega
  · intro j
    obtain ⟨r, l, rfl⟩ : ∃ a b, j = ix2 a b := ⟨j 0, j 1, by idx_ext⟩
    refine Eq.trans ?_ (out_piece n xs g u dn 7 (by decide) inb_S4096x128_S256x128_7_0_s_16_1 spos_16_1 r l)
    unfold expertOut hidden
    generalize lhsOf (F := Ideal) n xs = A
    pointwise [k0_pay39, k0_pay35, k0_pay29]
    refine Finset.sum_congr rfl fun f _ => congrArg _ (load_down dn 512 _ f _ _ ?_)
    dsimp only <;> omega
  · intro j
    obtain ⟨r, l, rfl⟩ : ∃ a b, j = ix2 a b := ⟨j 0, j 1, by idx_ext⟩
    refine Eq.trans ?_ (out_piece n xs g u dn 6 (by decide) inb_S4096x128_S256x128_6_0_s_16_1 spos_16_1 r l)
    unfold expertOut hidden
    generalize lhsOf (F := Ideal) n xs = A
    pointwise [k0_pay38, k0_pay35, k0_pay29]
    refine Finset.sum_congr rfl fun f _ => congrArg _ (load_down dn 512 _ f _ _ ?_)
    dsimp only <;> omega
  · intro j
    obtain ⟨r, l, rfl⟩ : ∃ a b, j = ix2 a b := ⟨j 0, j 1, by idx_ext⟩
    refine Eq.trans ?_ (out_piece n xs g u dn 5 (by decide) inb_S4096x128_S256x128_5_0_s_16_1 spos_16_1 r l)
    unfold expertOut hidden
    generalize lhsOf (F := Ideal) n xs = A
    pointwise [k0_pay37, k0_pay35, k0_pay29]
    refine Finset.sum_congr rfl fun f _ => congrArg _ (load_down dn 512 _ f _ _ ?_)
    dsimp only <;> omega
  · intro j
    obtain ⟨r, l, rfl⟩ : ∃ a b, j = ix2 a b := ⟨j 0, j 1, by idx_ext⟩
    refine Eq.trans ?_ (out_piece n xs g u dn 4 (by decide) inb_S4096x128_S256x128_4_0_s_16_1 spos_16_1 r l)
    unfold expertOut hidden
    generalize lhsOf (F := Ideal) n xs = A
    pointwise [k0_pay36, k0_pay35, k0_pay29]
    refine Finset.sum_congr rfl fun f _ => congrArg _ (load_down dn 512 _ f _ _ ?_)
    dsimp only <;> omega
  · intro j
    obtain ⟨r, l, rfl⟩ : ∃ a b, j = ix2 a b := ⟨j 0, j 1, by idx_ext⟩
    refine Eq.trans ?_ (out_piece n xs g u dn 3 (by decide) inb_S4096x128_S256x128_3_0_s_16_1 spos_16_1 r l)
    unfold expertOut hidden
    generalize lhsOf (F := Ideal) n xs = A
    pointwise [k0_pay34, k0_pay30, k0_pay29]
    refine Finset.sum_congr rfl fun f _ => congrArg _ (load_down dn 0 _ f _ _ ?_)
    dsimp only <;> omega
  · intro j
    obtain ⟨r, l, rfl⟩ : ∃ a b, j = ix2 a b := ⟨j 0, j 1, by idx_ext⟩
    refine Eq.trans ?_ (out_piece n xs g u dn 2 (by decide) inb_S4096x128_S256x128_2_0_s_16_1 spos_16_1 r l)
    unfold expertOut hidden
    generalize lhsOf (F := Ideal) n xs = A
    pointwise [k0_pay33, k0_pay30, k0_pay29]
    refine Finset.sum_congr rfl fun f _ => congrArg _ (load_down dn 0 _ f _ _ ?_)
    dsimp only <;> omega
  · intro j
    obtain ⟨r, l, rfl⟩ : ∃ a b, j = ix2 a b := ⟨j 0, j 1, by idx_ext⟩
    refine Eq.trans ?_ (out_piece n xs g u dn 1 (by decide) inb_S4096x128_S256x128_1_0_s_16_1 spos_16_1 r l)
    unfold expertOut hidden
    generalize lhsOf (F := Ideal) n xs = A
    pointwise [k0_pay32, k0_pay30, k0_pay29]
    refine Finset.sum_congr rfl fun f _ => congrArg _ (load_down dn 0 _ f _ _ ?_)
    dsimp only <;> omega
  · intro j
    obtain ⟨r, l, rfl⟩ : ∃ a b, j = ix2 a b := ⟨j 0, j 1, by idx_ext⟩
    refine Eq.trans ?_ (out_piece n xs g u dn 0 (by decide) inb_S4096x128_S256x128_0_0_s_16_1 spos_16_1 r l)
    unfold expertOut hidden
    generalize lhsOf (F := Ideal) n xs = A
    pointwise [k0_pay31, k0_pay30, k0_pay29]
    refine Finset.sum_congr rfl fun f _ => congrArg _ (load_down dn 0 _ f _ _ ?_)
    dsimp only <;> omega

/-- A tile of no rows leaves zero everywhere. -/
theorem zero_at (y : S4096x128.Idx) : View.canon (zeroPieces (F := Ideal)) y = 0 := by
  unfold zeroPieces
  refine (congrFun (canon_full (F := Ideal) (s := S4096x128) (e := .f32) ![0, 0] (by decide) inb_S4096x128_S4096x128_0_0 (k0_pay1 (F := Ideal))) y).trans ?_
  obtain ⟨r, l, rfl⟩ : ∃ a b, y = ix2 a b := ⟨y 0, y 1, by idx_ext⟩
  pointwise [k0_pay1]

end Cert.Kernel2Ideal.Experts
end
-- ==== Proof.Experts.IBlocks.lean ====
module

public import proofs.«01_k».proof.Proof.Experts.IOut
public import Idealize.ShloMosaic.Lib.Pointwise
public import Idealize.ShloMosaic.Lib.Pipeline.ValueKit
public import Idealize.ShloMosaic.Lib.KernelVsHost

@[expose] public section

set_option maxRecDepth 16384

noncomputable section

namespace Cert.Kernel2Ideal.Experts

open Cert.Kernel2Ideal Cert.Kernel2Ideal.Gen
open Idealize.ShloMosaic
open Idealize.ShloMosaic.TcCoe

variable [Facts]
variable (m : (ℓ : Loc nD τ sig) → Buf (Elt Ideal) ℓ) (ok : ok0 (F := Ideal) (tables m)) (ρ : Dev nD → PrngReg)

/-- A tile's number among the eighty, as an index of the tables. -/
def tile (t : Fin (cfgA m ok).N) : S80.Idx := ix1 ⟨t.val, lt_of_lt_of_eq t.isLt N_0⟩

/-- A point's one coordinate is its number, -/
theorem coord : ∀ t : Fin grid0.N, (grid0.coords t 0).val = t.val := by decide +kernel
/-- and the offset at which it reads the tables is its number too. -/
theorem off1 : ∀ t : Fin grid0.N, k0_off1 (grid0.coords t) 0 = t.val := by decide +kernel
theorem off2 : ∀ t : Fin grid0.N, k0_off2 (grid0.coords t) 0 = t.val := by decide +kernel
theorem off3 : ∀ t : Fin grid0.N, k0_off3 (grid0.coords t) 0 = t.val - 1 := by decide +kernel

/-- The tile's number of rows, as the body reads it, -/
theorem rows_word (t : Fin (cfgA m ok).N) : rowsWord (crd m ok t) (rows m) = rows m (tile m ok t) := by
  refine congrArg (rows m) ?_
  funext a; apply Fin.ext; fin_cases a
  exact (congrArg (· + 1 * 0) (off1 t)).trans (by simp [tile])
/-- its expert, -/
theorem expert_word (t : Fin (cfgA m ok).N) : expertWord (crd m ok t) (experts m) = experts m (tile m ok t) := by
  refine congrArg (experts m) ?_
  funext a; apply Fin.ext; fin_cases a
  exact (congrArg (· + 1 * 0) (off2 t)).trans (by simp [tile])
/-- and the expert of the tile before. -/
theorem expert_before (t t' : Fin (cfgA m ok).N) (e : t'.val + 1 = t.val) : expertBefore (crd m ok t) (experts m) = experts m (tile m ok t') := by
  refine congrArg (experts m) ?_
  funext a; apply Fin.ext; fin_cases a
  exact (congrArg (· + 1 * 0) (off3 t)).trans (by show t.val - 1 + 1 * 0 = t'.val; omega)

/-- The block of the gathered rows at a tile. -/
theorem block_rows (c : Dev nD) (t : Fin (cfgA m ok).N) (y : S4096x128.Idx) (z : S327680x128.Idx) (h0 : (z 0).val = t.val * 4096 + (y 0).val) (h1 : (z 1).val = (y 1).val) :
    iblk m ok ρ c (0 : Fin 5) t y = m ((c.tc : Thread nD τ).loc main_arg2) z := by
  unfold iblk
  refine congrArg (m ((c.tc : Thread nD τ).loc main_arg2)) ?_
  have hi : ∀ t : Fin grid0.N, cc0_transform_0 (grid0.coords t) = ![t.val, 0] := by decide +kernel
  funext a; apply Fin.ext; fin_cases a
  · show cc0_transform_0 (grid0.coords t) 0 * 4096 + 1 * (y 0).val = (z 0).val
    rw [hi t, h0]; show t.val * 4096 + 1 * (y 0).val = _; omega
  · show cc0_transform_0 (grid0.coords t) 1 * 128 + 1 * (y 1).val = (z 1).val
    rw [hi t, h1]; show 0 * 128 + 1 * (y 1).val = _; omega

/-- The block of the gate's weights at a tile: its expert's. -/
theorem block_gate (c : Dev nD) (t : Fin (cfgA m ok).N) (y : S1x1x2048x512.Idx) (z : S4x16x2048x512.Idx) (h0 : (z 0).val = 0)
    (h1 : (z 1).val = BitVec.toNat (experts m (tile m ok t))) (h2 : (z 2).val = (y 2).val) (h3 : (z 3).val = (y 3).val) :
    iblk m ok ρ c (1 : Fin 5) t y = m ((c.tc : Thread nD τ).loc main_arg3) z := by
  unfold iblk
  refine congrArg (m ((c.tc : Thread nD τ).loc main_arg3)) ?_
  have y0 : (y 0).val = 0 := by have : (y 0).val < 1 := (y 0).isLt; omega
  have y1 : (y 1).val = 0 := by have : (y 1).val < 1 := (y 1).isLt; omega
  funext a; apply Fin.ext; fin_cases a
  · show 0 * 1 + 1 * (y 0).val = (z 0).val; omega
  · have e := congrArg BitVec.toNat (expert_word m ok t)
    show BitVec.toNat (expertWord (crd m ok t) (experts m)) * 1 + 1 * (y 1).val = (z 1).val; omega
  · show 0 * 2048 + 1 * (y 2).val = (z 2).val; omega
  · show 0 * 512 + 1 * (y 3).val = (z 3).val; omega

/-- The block of the up weights at a tile: its expert's. -/
theorem block_up (c : Dev nD) (t : Fin (cfgA m ok).N) (y : S1x1x2048x512.Idx) (z : S4x16x2048x512.Idx) (h0 : (z 0).val = 0)
    (h1 : (z 1).val = BitVec.toNat (experts m (tile m ok t))) (h2 : (z 2).val = (y 2).val) (h3 : (z 3).val = (y 3).val) :
    iblk m ok ρ c (2 : Fin 5) t y = m ((c.tc : Thread nD τ).loc main_arg4) z := by
  unfold iblk
  refine congrArg (m ((c.tc : Thread nD τ).loc main_arg4)) ?_
  have y0 : (y 0).val = 0 := by have : (y 0).val < 1 := (y 0).isLt; omega
  have y1 : (y 1).val = 0 := by have : (y 1).val < 1 := (y 1).isLt; omega
  funext a; apply Fin.ext; fin_cases a
  · show 0 * 1 + 1 * (y 0).val = (z 0).val; omega
  · have e := congrArg BitVec.toNat (expert_word m ok t)
    show BitVec.toNat (expertWord (crd m ok t) (experts m)) * 1 + 1 * (y 1).val = (z 1).val; omega
  · show 0 * 2048 + 1 * (y 2).val = (z 2).val; omega
  · show 0 * 512 + 1 * (y 3).val = (z 3).val; omega

/-- The block of the down weights at a tile: its expert's. -/
theorem block_down (c : Dev nD) (t : Fin (cfgA m ok).N) (y : S1x1x512x2048.Idx) (z : S4x16x512x2048.Idx) (h0 : (z 0).val = 0)
    (h1 : (z 1).val = BitVec.toNat (experts m (tile m ok t))) (h2 : (z 2).val = (y 2).val) (h3 : (z 3).val = (y 3).val) :
    iblk m ok ρ c (3 : Fin 5) t y = m ((c.tc : Thread nD τ).loc main_arg5) z := by
  unfold iblk
  refine congrArg (m ((c.tc : Thread nD τ).loc main_arg5)) ?_
  have y0 : (y 0).val = 0 := by have : (y 0).val < 1 := (y 0).isLt; omega
  have y1 : (y 1).val = 0 := by have : (y 1).val < 1 := (y 1).isLt; omega
  funext a; apply Fin.ext; fin_cases a
  · show 0 * 1 + 1 * (y 0).val = (z 0).val; omega
  · have e := congrArg BitVec.toNat (expert_word m ok t)
    show BitVec.toNat (expertWord (crd m ok t) (experts m)) * 1 + 1 * (y 1).val = (z 1).val; omega
  · show 0 * 512 + 1 * (y 2).val = (z 2).val; omega
  · show 0 * 2048 + 1 * (y 3).val = (z 3).val; omega

end Cert.Kernel2Ideal.Experts
end
-- ==== Proof.Experts.IValue.lean ====
module

public import proofs.«01_k».proof.Proof.Experts.IBlocks
public import proofs.«01_k».proof.Proof.Experts.Pre
public import Idealize.ShloMosaic.Lib.Pointwise
public import Idealize.ShloMosaic.Lib.Pipeline.ValueKit
public import Idealize.ShloMosaic.Lib.KernelVsHost

@[expose] public section

set_option maxRecDepth 16384

noncomputable section

namespace Cert.Kernel2Ideal.Experts

open Cert.Kernel2Ideal Cert.Kernel2Ideal.Gen
open Idealize.ShloMosaic
open Idealize.ShloMosaic.TcCoe Idealize.SL.Sem
open Idealize.ShloMosaic.Pipeline (Dat)

variable [Facts]
variable (m : (ℓ : Loc nD τ sig) → Buf (Elt Ideal) ℓ) (ok : ok0 (F := Ideal) (tables m)) (ρ : Dev nD → PrngReg)

/-- Whether the weights are loaded, of the three truth values the body computes. -/
theorem loads_bit : ∀ a b c : BitVec 1, (Scalar.cmpi .ne (Scalar.extui (Scalar.andi a (Scalar.ori b c)) : BitVec 32) 0#32 = 1#1) ↔ a = 1#1 ∧ (b = 1#1 ∨ c = 1#1) := by
  decide

/-- Two tiles of one expert have the same weights. -/
theorem holds_same (h16 : ∀ i : S80.Idx, BitVec.toNat (experts m i) < 16) (c : Dev nD) (t t' : Fin (cfgA m ok).N)
    (e : experts m (tile m ok t) = experts m (tile m ok t')) (gate up : S2048x512.Idx → EReal) (down : S512x2048.Idx → EReal)
    (H : Holds m ok ρ c t' gate up down) : Holds m ok ρ c t gate up down := by
  have hn : BitVec.toNat (experts m (tile m ok t')) = BitVec.toNat (experts m (tile m ok t)) := congrArg BitVec.toNat e.symm
  have e1 : iblk m ok ρ c (1 : Fin 5) t' = iblk m ok ρ c (1 : Fin 5) t := funext fun y =>
    (block_gate m ok ρ c t' y (ix4 0 ⟨_, h16 (tile m ok t)⟩ (y 2) (y 3)) rfl hn.symm rfl rfl).trans
      (block_gate m ok ρ c t y (ix4 0 ⟨_, h16 (tile m ok t)⟩ (y 2) (y 3)) rfl rfl rfl rfl).symm
  have e2 : iblk m ok ρ c (2 : Fin 5) t' = iblk m ok ρ c (2 : Fin 5) t := funext fun y =>
    (block_up m ok ρ c t' y (ix4 0 ⟨_, h16 (tile m ok t)⟩ (y 2) (y 3)) rfl hn.symm rfl rfl).trans
      (block_up m ok ρ c t y (ix4 0 ⟨_, h16 (tile m ok t)⟩ (y 2) (y 3)) rfl rfl rfl rfl).symm
  have e3 : iblk m ok ρ c (3 : Fin 5) t' = iblk m ok ρ c (3 : Fin 5) t := funext fun y =>
    (block_down m ok ρ c t' y (ix4 0 ⟨_, h16 (tile m ok t)⟩ (y 2) (y 3)) rfl hn.symm rfl rfl).trans
      (block_down m ok ρ c t y (ix4 0 ⟨_, h16 (tile m ok t)⟩ (y 2) (y 3)) rfl rfl rfl rfl).symm
  exact ⟨H.gate_eq.trans (congrArg k0_pay2 e1), H.up_eq.trans (congrArg k0_pay3 e2), H.down_eq.trans (congrArg k0_pay4 e3)⟩

/-- The precondition puts the tables in order. -/
theorem good (h16 : ∀ i : S80.Idx, BitVec.toNat (experts m i) < 16) (hr : ∀ i : S80.Idx, BitVec.sle 0#32 (rows m i) = true)
    (hk : ∀ i i' : S80.Idx, (i' 0).val + 1 = (i 0).val → experts m i = experts m i' → rows m i ≠ 0#32 → BitVec.slt 0#32 (rows m i') = true) :
    Good m ok ρ where
  live t := by
    rw [rows_word]
    by_cases h : rows m (tile m ok t) = 0#32
    · exact .inl ((cond1_iff _).mpr h)
    · exact .inr ((cond3_iff _).mpr (Cert.Tables.word_pos _ (hr _) h))
  first t h0 h3 := by
    have hc : ((crd m ok t) 0).val = 0 := (coord t).trans h0
    refine (loads_bit _ _ _).mpr ⟨congrArg BitVec.ofBool ((cond3_iff _).mp h3), .inl ?_⟩
    rw [hc]; decide
  kept t t' e h3 hl := by
    have hs := (cond3_iff _).mp h3
    have he : experts m (tile m ok t) = experts m (tile m ok t') := by
      by_contra hne
      refine hl ((loads_bit _ _ _).mpr ⟨congrArg BitVec.ofBool hs, .inr ?_⟩)
      rw [expert_word, expert_before m ok t t' e]
      exact congrArg BitVec.ofBool (bne_iff_ne.mpr hne)
    refine ⟨?_, fun c gate up down H => holds_same m ok ρ h16 c t t' he gate up down H⟩
    rw [rows_word] at hs ⊢
    refine (cond3_iff _).mpr (hk (tile m ok t) (tile m ok t') e he fun h0 => ?_)
    rw [h0] at hs
    exact absurd hs (by decide)

/-- The kernel's result at an index, from its arguments: token `z 0 / 16` of the gathered rows, tile by tile of 256, through its
    tile's expert; dimension `z 0 % 16 * 128 + z 1`. -/
def R (te tr : S80.Idx → BitVec 32) (xs : S327680x128.Idx → EReal) (g u : S4x16x2048x512.Idx → EReal) (dn : S4x16x512x2048.Idx → EReal)
    (k : Fin 20480) (e : Fin 2048) : EReal :=
  expertOut (fun d => Scalar.select (IntOp.cmpi .slt (BitVec.ofNat 32 (k.val % 256)) (tr (ix1 ⟨k.val / 256, by omega⟩)))
      (xs (ix2 ⟨16 * k.val + d.val / 128, by omega⟩ ⟨d.val % 128, by omega⟩)) 0)
    (fun d f => g (ix4 0 ⟨(te (ix1 ⟨k.val / 256, by omega⟩)).toNat % 16, by omega⟩ d f))
    (fun d f => u (ix4 0 ⟨(te (ix1 ⟨k.val / 256, by omega⟩)).toNat % 16, by omega⟩ d f))
    (fun f => dn (ix4 0 ⟨(te (ix1 ⟨k.val / 256, by omega⟩)).toNat % 16, by omega⟩ f e))

/-- A token of zeros has an output of zero. -/
theorem expertOut_zero (g u : Fin 2048 → Fin 512 → EReal) (dn : Fin 512 → EReal) : expertOut (fun _ => 0) g u dn = 0 := by
  unfold expertOut hidden
  simp

/-- Equal tokens and weights give equal outputs. -/
theorem expertOut_congr {x x' : Fin 2048 → EReal} {g g' u u' : Fin 2048 → Fin 512 → EReal} {dn dn' : Fin 512 → EReal} (hx : ∀ d, x d = x' d)
    (hg : ∀ d f, g d f = g' d f) (hu : ∀ d f, u d f = u' d f) (hd : ∀ f, dn f = dn' f) : expertOut x g u dn = expertOut x' g' u' dn' := by
  obtain rfl : x = x' := funext hx
  obtain rfl : g = g' := funext fun d => funext (hg d)
  obtain rfl : u = u' := funext fun d => funext (hu d)
  obtain rfl : dn = dn' := funext hd
  rfl

theorem pay2_at (x : S1x1x2048x512.Idx → EReal) (d : Fin 2048) (f : Fin 512) : k0_pay2 (F := Ideal) x (ix2 d f) = x (ix4 0 0 d f) := by
  pointwise [k0_pay2]
theorem pay3_at (x : S1x1x2048x512.Idx → EReal) (d : Fin 2048) (f : Fin 512) : k0_pay3 (F := Ideal) x (ix2 d f) = x (ix4 0 0 d f) := by
  pointwise [k0_pay3]
theorem pay4_at (x : S1x1x512x2048.Idx → EReal) (f : Fin 512) (d : Fin 2048) : k0_pay4 (F := Ideal) x (ix2 f d) = x (ix4 0 0 f d) := by
  pointwise [k0_pay4]

/-- What a point leaves at an index of the output block is the result there. -/
theorem out_point (h16 : ∀ i : S80.Idx, BitVec.toNat (experts m i) < 16) (c : Dev nD) (t : Fin (cfgA m ok).N) (y : S4096x128.Idx) (k : Fin 20480) (e : Fin 2048)
    (h0 : k.val = t.val * 256 + (y 0).val / 16) (h1 : e.val = (y 0).val % 16 * 128 + (y 1).val) :
    outAt m ok ρ c t y = R (experts m) (rows m) (m ((c.tc : Thread nD τ).loc main_arg2)) (m ((c.tc : Thread nD τ).loc main_arg3))
      (m ((c.tc : Thread nD τ).loc main_arg4)) (m ((c.tc : Thread nD τ).loc main_arg5)) k e := by
  have y0 : (y 0).val < 4096 := (y 0).isLt
  have y1 : (y 1).val < 128 := (y 1).isLt
  have ht : tile m ok t = ix1 ⟨k.val / 256, by omega⟩ := by
    unfold tile; congr 1; apply Fin.ext; show t.val = k.val / 256; omega
  have hw := h16 (tile m ok t)
  unfold outAt R
  rw [rows_word m ok t]
  simp only [← ht]
  split
  · next hz =>
    rw [zero_at, (cond1_iff _).mp hz]
    refine (Eq.trans (congrArg (fun x => expertOut x _ _ _) (funext fun d => ?_)) (expertOut_zero _ _ _)).symm
    have : IntOp.cmpi .slt (BitVec.ofNat 32 (k.val % 256)) 0#32 = 0#1 :=
      (by decide +kernel : ∀ a : Fin 256, IntOp.cmpi .slt (BitVec.ofNat 32 a.val) 0#32 = 0#1) ⟨k.val % 256, by omega⟩
    rw [this]; rfl
  · rw [out_at]
    unfold outG
    have hx : rowsAt (rows m (tile m ok t)) (iblk m ok ρ c (0 : Fin 5) t) ⟨(y 0).val / 16, by omega⟩
        = fun d => Scalar.select (α := EReal) (IntOp.cmpi .slt (BitVec.ofNat 32 (k.val % 256)) (rows m (tile m ok t)))
          (m ((c.tc : Thread nD τ).loc main_arg2) (ix2 ⟨16 * k.val + d.val / 128, by omega⟩ ⟨d.val % 128, by omega⟩)) 0 := funext fun d => by
      unfold rowsAt
      refine congrArg₂ (fun a b => Scalar.select (IntOp.cmpi .slt (BitVec.ofNat 32 a) (rows m (tile m ok t))) b (0 : EReal)) ?_ ?_
      · show (y 0).val / 16 = k.val % 256; omega
      · refine block_rows m ok ρ c t _ _ ?_ rfl
        show 16 * k.val + d.val / 128 = t.val * 4096 + (16 * ((y 0).val / 16) + d.val / 128); omega
    have hg : ∀ d f, k0_pay2 (F := Ideal) (iblk m ok ρ c (1 : Fin 5) t) (ix2 d f)
        = m ((c.tc : Thread nD τ).loc main_arg3) (ix4 0 ⟨BitVec.toNat (experts m (tile m ok t)) % 16, by omega⟩ d f) := fun d f =>
      (pay2_at _ d f).trans (block_gate m ok ρ c t _ _ rfl (Nat.mod_eq_of_lt hw) rfl rfl)
    have hu : ∀ d f, k0_pay3 (F := Ideal) (iblk m ok ρ c (2 : Fin 5) t) (ix2 d f)
        = m ((c.tc : Thread nD τ).loc main_arg4) (ix4 0 ⟨BitVec.toNat (experts m (tile m ok t)) % 16, by omega⟩ d f) := fun d f =>
      (pay3_at _ d f).trans (block_up m ok ρ c t _ _ rfl (Nat.mod_eq_of_lt hw) rfl rfl)
    have hd : ∀ f, k0_pay4 (F := Ideal) (iblk m ok ρ c (3 : Fin 5) t) (ix2 f ⟨(y 0).val % 16 * 128 + (y 1).val, by omega⟩)
        = m ((c.tc : Thread nD τ).loc main_arg5) (ix4 0 ⟨BitVec.toNat (experts m (tile m ok t)) % 16, by omega⟩ f e) := fun f =>
      (pay4_at _ f _).trans (block_down m ok ρ c t _ _ rfl (Nat.mod_eq_of_lt hw) rfl h1)
    exact expertOut_congr (fun d => congrFun hx d) hg hu hd

/-- The kernel's result array. -/
def result (te tr : S80.Idx → BitVec 32) (xs : S327680x128.Idx → EReal) (g u : S4x16x2048x512.Idx → EReal) (dn : S4x16x512x2048.Idx → EReal)
    (z : S327680x128.Idx) : EReal :=
  R te tr xs g u dn ⟨(z 0).val / 16, by have : (z 0).val < 327680 := (z 0).isLt; omega⟩
    ⟨(z 0).val % 16 * 128 + (z 1).val, by have : (z 1).val < 128 := (z 1).isLt; omega⟩

/-- The output's block at a point. -/
theorem index_out : ∀ t : Fin grid0.N, cc0_transform_4 (grid0.coords t) = ![t.val, 0] := by decide +kernel
/-- Every point's block is written back. -/
theorem flushes : ∀ t : Fin grid0.N, Pipeline.Window.flushOf grid0 true cc0_transform_4 t = true := by decide +kernel
/-- The blocks cover the output array. -/
theorem covers : ((cfgA m ok).win (4 : Fin 5)).Covers := by
  refine ⟨fun a => ?_, fun β => ?_⟩
  · fin_cases a
    · show 0 < 4096; decide
    · show 0 < 128; decide
  · have b0 : (β (0 : Fin 2)).val < 80 := lt_of_lt_of_eq (β (0 : Fin 2)).isLt (by unfold Pipeline.Window.nblk; show (327680 + 4096 - 1) / 4096 = 80; decide +kernel)
    have b1 : (β (1 : Fin 2)).val < 1 := lt_of_lt_of_eq (β (1 : Fin 2)).isLt (by unfold Pipeline.Window.nblk; show (128 + 128 - 1) / 128 = 1; decide +kernel)
    have hN : (β (0 : Fin 2)).val < grid0.N := lt_of_lt_of_eq b0 N_0.symm
    refine ⟨⟨(β (0 : Fin 2)).val, hN⟩, flushes _, fun a => ⟨?_, .inl rfl⟩⟩
    have hi := index_out ⟨(β (0 : Fin 2)).val, hN⟩
    fin_cases a
    · exact congrFun hi 0
    · exact (congrFun hi 1).trans (by show 0 = (β (1 : Fin 2)).val; omega)

/-- The output array after the run. -/
theorem final (h16 : ∀ i : S80.Idx, BitVec.toNat (experts m i) < 16) (c : Dev nD) :
    (dats m ok ρ 0 c).arrAt (4 : Fin 5) (cfgA m ok).N = result (experts m) (rows m) (m ((c.tc : Thread nD τ).loc main_arg2))
      (m ((c.tc : Thread nD τ).loc main_arg3)) (m ((c.tc : Thread nD τ).loc main_arg4)) (m ((c.tc : Thread nD τ).loc main_arg5)) := by
  refine (dats m ok ρ 0 c).arrAt_eq_of_covers (4 : Fin 5) _ (covers m ok) fun t _ y => ?_
  have y0 : (y 0).val < 4096 := (y 0).isLt
  have y1 : (y 1).val < 128 := (y 1).isLt
  have e0 : ((((cfgA m ok).win (4 : Fin 5)).blk t).view.emb y 0).val = t.val * 4096 + (y 0).val := by
    show cc0_transform_4 (grid0.coords t) 0 * 4096 + 1 * (y 0).val = _
    rw [index_out t]; show t.val * 4096 + 1 * (y 0).val = _; omega
  have e1 : ((((cfgA m ok).win (4 : Fin 5)).blk t).view.emb y 1).val = (y 1).val := by
    show cc0_transform_4 (grid0.coords t) 1 * 128 + 1 * (y 1).val = _
    rw [index_out t]; show 0 * 128 + 1 * (y 1).val = _; omega
  generalize (((cfgA m ok).win (4 : Fin 5)).blk t).view.emb y = z at e0 e1
  refine out_point m ok ρ h16 c t y _ _ ?_ ?_
  · show (z 0).val / 16 = t.val * 256 + (y 0).val / 16; omega
  · show (z 0).val % 16 * 128 + (z 1).val = (y 0).val % 16 * 128 + (y 1).val; omega

/-- From a memory whose tables are in order the kernel ends with the result and with its arguments as they were. -/
theorem run_result (h16 : ∀ i : S80.Idx, BitVec.toNat (experts m i) < 16) (hG : Good m ok ρ) :
    θ_run (defs (F := Ideal)) (onTc (τ := τ) (main (F := Ideal))) ⟨m, fun _ => 0, ρ⟩ (fun r => ∀ c : Dev nD,
      r.2.mem ((c.tc : Thread nD τ).loc main_v0) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => by
    have e := (h.1 c).1.trans (final m ok ρ h16 c)
    have hc : c = 0 := Subsingleton.elim c 0
    refine ⟨?_, (h.1 c).2⟩
    rw [e, hc]) (run_out m ok ρ hG)

end Cert.Kernel2Ideal.Experts
end
-- ==== Proof.Experts.Ref.lean ====
module

public import proofs.«01_k».proof.Proof.Gen.Reference2Ideal.Run
public import Idealize.ShloMosaic.Lib.Pointwise
public import Idealize.ShloMosaic.Lib.KernelVsHost
public import Idealize.ShloMosaic.Lib.Routing.Words
public import Idealize.ShloMosaic.Lib.Pipeline.ValueKit

@[expose] public section

set_option maxRecDepth 16384

noncomputable section

namespace Cert.Reference2Ideal.Stages

open Cert.Reference2Ideal Cert.Reference2Ideal.Gen Idealize.ShloMosaic Idealize.ShloMosaic.TcCoe Idealize.SL.Sem
open Cert.Reference2Ideal.Value

/-! The reference in stages, and what each stage holds at an index. -/

/-- The number of the tile a token lies in. -/
def FD  : IVec S20480 32 :=
  (select (andi (cmpi .ne (signi (iotaInDim S20480 32 0)) (broadcastInDim S20480 ![] bcast_S_S20480 (signi (id (constantI S_ 32 256#32))))) (cmpi .ne (Host.remsi (iotaInDim S20480 32 0) (broadcastInDim S20480 ![] bcast_S_S20480 (id (constantI S_ 32 256#32)))) (broadcastInDim S20480 ![] bcast_S_S20480 (constantI S_ 32 0#32)))) (subi (Host.divsi (iotaInDim S20480 32 0) (broadcastInDim S20480 ![] bcast_S_S20480 (id (constantI S_ 32 256#32)))) (broadcastInDim S20480 ![] bcast_S_S20480 (constantI S_ 32 1#32))) (Host.divsi (iotaInDim S20480 32 0) (broadcastInDim S20480 ![] bcast_S_S20480 (id (constantI S_ 32 256#32)))))

/-- The same, counted from the end where it is negative. -/
def WRAP  : IVec S20480 32 :=
  (select (cmpi .slt FD (broadcastInDim S20480 ![] bcast_S_S20480 (constantI S_ 32 0#32))) (addi FD (broadcastInDim S20480 ![] bcast_S_S20480 (constantI S_ 32 80#32))) FD)

/-- The number of the token within its tile. -/
def REM  : IVec S20480 32 :=
  (select (andi (cmpi .ne (cmpi .slt (Host.remsi (iotaInDim S20480 32 0) (broadcastInDim S20480 ![] bcast_S_S20480 (select (cmpi .eq (id (constantI S_ 32 256#32)) (constantI S_ 32 0#32)) (constantI S_ 32 1#32) (id (constantI S_ 32 256#32))))) (broadcastInDim S20480 ![] bcast_S_S20480 (constantI S_ 32 0#32))) (broadcastInDim S20480 ![] bcast_S_S20480 (cmpi .slt (select (cmpi .eq (id (constantI S_ 32 256#32)) (constantI S_ 32 0#32)) (constantI S_ 32 1#32) (id (constantI S_ 32 256#32))) (constantI S_ 32 0#32)))) (cmpi .ne (Host.remsi (iotaInDim S20480 32 0) (broadcastInDim S20480 ![] bcast_S_S20480 (select (cmpi .eq (id (constantI S_ 32 256#32)) (constantI S_ 32 0#32)) (constantI S_ 32 1#32) (id (constantI S_ 32 256#32))))) (broadcastInDim S20480 ![] bcast_S_S20480 (constantI S_ 32 0#32)))) (addi (Host.remsi (iotaInDim S20480 32 0) (broadcastInDim S20480 ![] bcast_S_S20480 (select (cmpi .eq (id (constantI S_ 32 256#32)) (constantI S_ 32 0#32)) (constantI S_ 32 1#32) (id (constantI S_ 32 256#32))))) (broadcastInDim S20480 ![] bcast_S_S20480 (select (cmpi .eq (id (constantI S_ 32 256#32)) (constantI S_ 32 0#32)) (constantI S_ 32 1#32) (id (constantI S_ 32 256#32))))) (Host.remsi (iotaInDim S20480 32 0) (broadcastInDim S20480 ![] bcast_S_S20480 (select (cmpi .eq (id (constantI S_ 32 256#32)) (constantI S_ 32 0#32)) (constantI S_ 32 1#32) (id (constantI S_ 32 256#32))))))

/-- A table read at every token's tile. -/
def TAKE (x : IVec S80 32) : IVec S20480 32 :=
  Host.gather gather_S80_S20480x1_S20480_n_0_n_n_0_1_1 x (broadcastInDim S20480x1 ![0] bcast_S20480_S20480x1_0 WRAP)

/-- One where the expert is the token's and the token is one of its tile's rows, zero elsewhere. -/
def COMB (te : IVec S80 32) (tr : IVec S80 32) : FVec Ideal S20480x16 .f32 :=
  (mulf (uitofp .f32 (cmpi .eq (broadcastInDim S20480x16 ![0, 1] bcast_S20480x1_S20480x16_0_1 (broadcastInDim S20480x1 ![0] bcast_S20480_S20480x1_0 (TAKE te))) (broadcastInDim S20480x16 ![0, 1] bcast_S1x16_S20480x16_0_1 (iotaInDim S1x16 32 1)))) (broadcastInDim S20480x16 ![0, 1] bcast_S20480x1_S20480x16_0_1 (uitofp .f32 (broadcastInDim S20480x1 ![0] bcast_S20480_S20480x1_0 (cmpi .slt REM (TAKE tr))))))

/-- Every token through every expert's gate or up weights. -/
def PROJ (xs : FVec Ideal S327680x128 .f32) (w : FVec Ideal S4x16x2048x512 .f32) : FVec Ideal S16x20480x512 .f32 :=
  (transpose S16x20480x512 [0, 2, 1] (Host.dotGeneral dot_S16x2048x512_S20480x2048_S16x512x20480_1_1_02_0_n_n none (shapeCast _ (extractStridedSlice S1x16x2048x512 ![0, 0, 0, 0] w slices_S4x16x2048x512_S1x16x2048x512_0_0_0_0) shapeCasts_S1x16x2048x512_S16x2048x512) (shapeCast _ xs shapeCasts_S327680x128_S20480x2048)) transposes_S16x512x20480_S16x20480x512_0_2_1)

/-- Each value times its logistic. -/
def SILU (p : FVec Ideal S16x20480x512 .f32) : FVec Ideal S16x20480x512 .f32 :=
  (mulf p (Host.divf (broadcastInDim S16x20480x512 ![] bcast_S_S16x20480x512 (constant S_ .f32 0x3F800000#32)) (addf (broadcastInDim S16x20480x512 ![] bcast_S_S16x20480x512 (constant S_ .f32 0x3F800000#32)) (Host.exp (Host.negf p)))))

/-- The hidden values, kept for the token's own expert. -/
def HID (p : FVec Ideal S16x20480x512 .f32) (u : FVec Ideal S16x20480x512 .f32) (w : FVec Ideal S20480x16 .f32) : FVec Ideal S16x20480x512 .f32 :=
  (mulf (mulf (SILU p) u) (broadcastInDim S16x20480x512 ![0, 1, 2] bcast_S16x20480x1_S16x20480x512_0_1_2 (broadcastInDim S16x20480x1 ![0, 1] bcast_S16x20480_S16x20480x1_0_1 (transpose S16x20480 [1, 0] w transposes_S20480x16_S16x20480_1_0))))

/-- The experts' outputs summed, in the kernel's layout. -/
def OUT (h : FVec Ideal S16x20480x512 .f32) (dn : FVec Ideal S4x16x512x2048 .f32) : FVec Ideal S327680x128 .f32 :=
  shapeCast _ (Host.dotGeneral dot_S16x20480x512_S16x512x2048_S20480x2048_02_01_1_2_n_n none h (shapeCast _ (extractStridedSlice S1x16x512x2048 ![0, 0, 0, 0] dn slices_S4x16x512x2048_S1x16x512x2048_0_0_0_0) shapeCasts_S1x16x512x2048_S16x512x2048)) shapeCasts_S20480x2048_S327680x128

/-- The reference's result is its stages one after another. -/
theorem res_stages (m : (ℓ : Loc nD τ sig) → Buf (Elt Ideal) ℓ) (c : Dev nD) :
    res_main_v42 m c = OUT (HID (PROJ (m ((c.tc : Thread nD τ).loc main_arg2)) (m ((c.tc : Thread nD τ).loc main_arg3))) (PROJ (m ((c.tc : Thread nD τ).loc main_arg2)) (m ((c.tc : Thread nD τ).loc main_arg4))) (COMB (m ((c.tc : Thread nD τ).loc main_arg0)) (m ((c.tc : Thread nD τ).loc main_arg1)))) (m ((c.tc : Thread nD τ).loc main_arg5)) := rfl

/-- A word under 2^31 isn't negative. -/
theorem not_negative {n : Nat} (h : n < 2 ^ 31) : IntOp.cmpi CmpIPredicate.slt (BitVec.ofNat 32 n) 0#32 = 0#1 := by
  have hn : (BitVec.ofNat 32 n).toNat = n := by rw [BitVec.toNat_ofNat]; exact Nat.mod_eq_of_lt (by omega)
  have e : (BitVec.ofNat 32 n).toInt = n := by rw [BitVec.toInt_eq_toNat_cond, hn]; split <;> omega
  show BitVec.ofBool (BitVec.slt (BitVec.ofNat 32 n) 0#32) = 0#1
  rw [show BitVec.slt (BitVec.ofNat 32 n) 0#32 = false from by
    simp only [BitVec.slt, e, decide_eq_false_iff_not]; show ¬((n : Int) < 0); omega]
  rfl

/-- The tile's number. -/
theorem FD_at (k : Fin 20480) : FD (ix1 k) = BitVec.ofNat 32 (k.val / 256) := by
  have hq := Routing.divsi_word .host (a := k.val) (b := 256) (by omega) (by omega) (by omega)
  have hr := Routing.remsi_word .host (a := k.val) (b := 256) (by omega) (by omega) (by omega)
  pointwise [FD]
  simp only [id, constantI]
  rw [hq, hr]
  by_cases h0 : k.val % 256 = 0
  · rw [h0, show IntOp.cmpi CmpIPredicate.ne (BitVec.ofNat 32 0) 0#32 = 0#1 from by decide]
    rw [show ∀ b : BitVec 1, IntOp.andi b 0#1 = 0#1 from by decide]
    rfl
  · have hn : (BitVec.ofNat 32 k.val).toNat = k.val := by rw [BitVec.toNat_ofNat]; exact Nat.mod_eq_of_lt (by omega)
    have hz : BitVec.ofNat 32 k.val ≠ 0 := fun h => by
      have h' : (BitVec.ofNat 32 k.val).toNat = 0 := by rw [h]; rfl
      omega
    have hm : (BitVec.ofNat 32 k.val).msb ≠ true := by
      rw [BitVec.msb_eq_decide, hn]; simp only [ne_eq, decide_eq_true_eq]; omega
    have hs : signi (iotaInDim S20480 32 0) (ix1 k) = (1 : BitVec 32) := by
      show (if BitVec.ofNat 32 k.val = 0 then (0 : BitVec 32) else if (BitVec.ofNat 32 k.val).msb = true then -1 else 1) = 1
      rw [if_neg hz, if_neg hm]
    show Scalar.select (IntOp.andi (IntOp.cmpi CmpIPredicate.ne (signi (iotaInDim S20480 32 0) (ix1 k)) 1#32) _) _ _ = _
    rw [hs, show IntOp.cmpi CmpIPredicate.ne (1 : BitVec 32) 1#32 = 0#1 from by decide, show ∀ b : BitVec 1, IntOp.andi 0#1 b = 0#1 from by decide]
    rfl

/-- The tile's number isn't negative, so it's read as it is. -/
theorem WRAP_at (k : Fin 20480) : WRAP (ix1 k) = BitVec.ofNat 32 (k.val / 256) := by
  pointwise [WRAP]
  rw [FD_at, not_negative (by omega)]
  rfl

/-- The number within the tile. -/
theorem REM_at (k : Fin 20480) : REM (ix1 k) = BitVec.ofNat 32 (k.val % 256) := by
  have hr := Routing.remsi_word .host (a := k.val) (b := 256) (by omega) (by omega) (by omega)
  pointwise [REM]
  simp only [id, constantI]
  rw [show Scalar.select (IntOp.cmpi CmpIPredicate.eq (256#32 : BitVec 32) 0#32) (1#32) (256#32) = 256#32 from by decide, hr,
    not_negative (by omega), show IntOp.cmpi CmpIPredicate.ne 0#1 (IntOp.cmpi CmpIPredicate.slt (256#32 : BitVec 32) 0#32) = 0#1 from by decide,
    show ∀ b : BitVec 1, IntOp.andi 0#1 b = 0#1 from by decide]
  rfl

/-- A gather from a table at one start index a token is the table at that start index, kept within the table. -/
theorem gather_at (x : IVec S80 32) (idx : IVec S20480x1 32) (k : Fin 20480) :
    Host.gather gather_S80_S20480x1_S20480_n_0_n_n_0_1_1 x idx (ix1 k) = x (ix1 ⟨min (idx (ix2 k 0)).toInt.toNat 79, by omega⟩) := by
  unfold Host.gather
  refine congrArg x (funext fun a => ?_)
  obtain rfl : a = 0 := Subsingleton.elim _ _
  refine Fin.ext ?_
  show GatherDims.start _ (ix1 k) idx 0 + GatherDims.batchCoord _ (ix1 k) 0 + GatherDims.offCoord _ (ix1 k) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S80_S20480x1_S20480_n_0_n_n_0_1_1.startIndexMap from List.mem_singleton.mpr rfl)]
  have hi : gather_S80_S20480x1_S20480_n_0_n_n_0_1_1.siIdx (ix1 k) ⟨List.idxOf (0 : Fin 1) gather_S80_S20480x1_S20480_n_0_n_n_0_1_1.startIndexMap,
      List.idxOf_lt_length_iff.2 (List.mem_singleton.mpr rfl)⟩ = ix2 k 0 := by
    funext b
    refine Fin.ext ?_
    match b with
    | ⟨0, _⟩ => rfl
    | ⟨1, _⟩ => rfl
  rw [hi]
  rfl

/-- A table read at a token's tile. -/
theorem TAKE_at (x : IVec S80 32) (k : Fin 20480) : TAKE x (ix1 k) = x (ix1 ⟨k.val / 256, by omega⟩) := by
  have e : (broadcastInDim S20480x1 ![0] bcast_S20480_S20480x1_0 WRAP) (ix2 k (0 : Fin 1)) = BitVec.ofNat 32 (k.val / 256) := by
    pointwise
    exact WRAP_at k
  have hn : (BitVec.ofNat 32 (k.val / 256)).toNat = k.val / 256 := by rw [BitVec.toNat_ofNat]; exact Nat.mod_eq_of_lt (by omega)
  have hi : (BitVec.ofNat 32 (k.val / 256)).toInt = ((k.val / 256 : Nat) : Int) := by rw [BitVec.toInt_eq_toNat_cond, hn]; split <;> omega
  unfold TAKE
  rw [gather_at]
  refine congrArg x (congrArg ix1 (Fin.ext ?_))
  show min (BitVec.toInt _).toNat 79 = k.val / 256
  rw [e, hi]
  omega

/-- A truth value as a number. -/
theorem bit_number (b : BitVec 1) : (FloatOps.uitofp FTy.f32 b : Ideal .f32) = if b = 1#1 then (1 : EReal) else 0 := by
  show (((b.toNat : ℝ)) : EReal) = _
  rcases (by decide +revert : b = 0#1 ∨ b = 1#1) with rfl | rfl <;> simp

/-- The combining weight of a token and an expert. -/
theorem COMB_at (te tr : IVec S80 32) (k : Fin 20480) (e : Fin 16) : COMB te tr (ix2 k e) =
    (if te (ix1 ⟨k.val / 256, by omega⟩) = BitVec.ofNat 32 e.val then (1 : EReal) else 0)
      * (if IntOp.cmpi CmpIPredicate.slt (BitVec.ofNat 32 (k.val % 256)) (tr (ix1 ⟨k.val / 256, by omega⟩)) = 1#1 then (1 : EReal) else 0) := by
  have h : COMB te tr (ix2 k e) = FloatOps.uitofp FTy.f32 (IntOp.cmpi CmpIPredicate.eq (TAKE te (ix1 k)) (BitVec.ofNat 32 e.val)) *
      FloatOps.uitofp FTy.f32 (IntOp.cmpi CmpIPredicate.slt (REM (ix1 k)) (TAKE tr (ix1 k))) := by
    pointwise [COMB]
  rw [h, bit_number, bit_number, TAKE_at, TAKE_at, REM_at]
  refine congrArg (· * _) (if_congr ?_ rfl rfl)
  show BitVec.ofBool (_ == _) = 1#1 ↔ _
  rw [← beq_iff_eq (a := te _)]
  generalize (te _ == _) = b
  cases b <;> decide

/-- A token through an expert's weights. -/
theorem PROJ_at (xs : FVec Ideal S327680x128 .f32) (w : FVec Ideal S4x16x2048x512 .f32) (e : Fin 16) (k : Fin 20480) (f : Fin 512) :
    PROJ xs w (ix3 e k f) = ∑ d : Fin 2048, w (ix4 0 e d f) * xs (ix2 ⟨k.val * 16 + d.val / 128, by omega⟩ ⟨d.val % 128, by omega⟩) := by
  pointwise [PROJ]

/-- The hidden value of an expert and a token. -/
theorem HID_at (p u : FVec Ideal S16x20480x512 .f32) (w : FVec Ideal S20480x16 .f32) (e : Fin 16) (k : Fin 20480) (f : Fin 512) :
    HID p u w (ix3 e k f) = p (ix3 e k f) * Ideal.logistic (p (ix3 e k f)) * u (ix3 e k f) * w (ix2 k e) := by
  have h : SILU p (ix3 e k f) = p (ix3 e k f) * Ideal.logistic (p (ix3 e k f)) := by
    have h' : SILU p (ix3 e k f) = p (ix3 e k f) * Ideal.div 1 (1 + Ideal.exp (-p (ix3 e k f))) := by
      pointwise [SILU]
    rw [h', Ideal.logistic]
  have h' : HID p u w (ix3 e k f) = SILU p (ix3 e k f) * u (ix3 e k f) * w (ix2 k e) := by
    pointwise [HID]
  rw [h', h]

/-- The result at an index, from the hidden values. -/
theorem OUT_at (h : FVec Ideal S16x20480x512 .f32) (dn : FVec Ideal S4x16x512x2048 .f32) (z : Fin 327680) (l : Fin 128) :
    OUT h dn (ix2 z l) = ∑ e : Fin 16, ∑ f : Fin 512, h (ix3 e ⟨z.val / 16, by omega⟩ f) * dn (ix4 0 e f ⟨z.val % 16 * 128 + l.val, by omega⟩) := by
  pointwise [OUT]

end Cert.Reference2Ideal.Stages
end
-- ==== Proof.Experts.Agree.lean ====
module

public import proofs.«01_k».proof.Proof.Experts.IValue
public import proofs.«01_k».proof.Proof.Experts.Ref

@[expose] public section

set_option maxRecDepth 16384

noncomputable section

namespace Cert.Agree

open Idealize.ShloMosaic Idealize.ShloMosaic.TcCoe Idealize.SL.Sem
open Cert.Kernel2Ideal (S80 S327680x128 S4x16x2048x512 S4x16x512x2048)
open Cert.Kernel2Ideal.Experts Cert.Reference2Ideal.Stages

/-- One expert's share of the sum, when the token is another's. -/
theorem share_other (te tr : IVec S80 32) (k : Fin 20480) (e : Fin 16) (a b c : EReal)
    (h : te (ix1 ⟨k.val / 256, by omega⟩) ≠ BitVec.ofNat 32 e.val) : a * COMB te tr (ix2 k e) * b = 0 := by
  rw [COMB_at, if_neg h, zero_mul, mul_zero, zero_mul]

/-- A word that names an expert is the expert's number. -/
theorem expert_word (w : BitVec 32) (h : w.toNat < 16) (e : Fin 16) : w = BitVec.ofNat 32 e.val ↔ e = ⟨w.toNat % 16, by omega⟩ := by
  constructor
  · rintro rfl
    refine Fin.ext ?_
    show e.val = (BitVec.ofNat 32 e.val).toNat % 16
    rw [BitVec.toNat_ofNat]
    omega
  · rintro rfl
    refine BitVec.eq_of_toNat_eq ?_
    rw [BitVec.toNat_ofNat]
    show w.toNat = w.toNat % 16 % 2 ^ 32
    omega

/-- The reference's sum over all experts is the kernel's one expert. -/
theorem out_result (te tr : IVec S80 32) (xs : FVec Ideal S327680x128 .f32) (g u : FVec Ideal S4x16x2048x512 .f32)
    (dn : FVec Ideal S4x16x512x2048 .f32) (h16 : ∀ i : S80.Idx, (te i).toNat < 16) :
    OUT (HID (PROJ xs g) (PROJ xs u) (COMB te tr)) dn = result te tr xs g u dn := by
  funext i
  obtain ⟨z, l, rfl⟩ : ∃ (z : Fin 327680) (l : Fin 128), i = ix2 z l := ⟨i 0, i 1, by idx_ext⟩
  rw [OUT_at]
  show _ = R te tr xs g u dn ⟨z.val / 16, by omega⟩ ⟨z.val % 16 * 128 + l.val, by omega⟩
  generalize hk : (⟨z.val / 16, by omega⟩ : Fin 20480) = k
  generalize (⟨z.val % 16 * 128 + l.val, by omega⟩ : Fin 2048) = j
  have hw := expert_word (te (ix1 ⟨k.val / 256, by omega⟩)) (h16 _)
  rw [Finset.sum_eq_single (⟨(te (ix1 ⟨k.val / 256, by omega⟩)).toNat % 16, by omega⟩ : Fin 16)
    (fun e _ he => Finset.sum_eq_zero fun f _ => by rw [HID_at]; exact share_other te tr k e _ _ 0 (fun h => he ((hw e).mp h)))
    (fun h => absurd (Finset.mem_univ _) h)]
  unfold R expertOut
  generalize hE : (⟨(te (ix1 ⟨k.val / 256, by omega⟩)).toNat % 16, by omega⟩ : Fin 16) = e at hw ⊢
  have hc := COMB_at te tr k e
  rw [if_pos ((hw e).mpr rfl), one_mul] at hc
  by_cases hv : IntOp.cmpi CmpIPredicate.slt (BitVec.ofNat 32 (k.val % 256)) (tr (ix1 ⟨k.val / 256, by omega⟩)) = 1#1
  · rw [if_pos hv] at hc
    refine Finset.sum_congr rfl fun f _ => congrArg (· * _) ?_
    have hs : ∀ w : FVec Ideal S4x16x2048x512 .f32, PROJ xs w (ix3 e k f)
        = ∑ d : Fin 2048, Scalar.select (α := EReal) (IntOp.cmpi CmpIPredicate.slt (BitVec.ofNat 32 (k.val % 256)) (tr (ix1 ⟨k.val / 256, by omega⟩)))
            (xs (ix2 ⟨16 * k.val + d.val / 128, by omega⟩ ⟨d.val % 128, by omega⟩)) 0 * w (ix4 0 e d f) := fun w => by
      rw [PROJ_at]
      refine Finset.sum_congr rfl fun d _ => ?_
      rw [hv, mul_comm]
      refine congrArg (· * _) (congrArg xs ?_)
      idx_ext
    rw [HID_at, hc, mul_one, hs g, hs u]
    rfl
  · rw [if_neg hv] at hc
    have h0 : IntOp.cmpi CmpIPredicate.slt (BitVec.ofNat 32 (k.val % 256)) (tr (ix1 ⟨k.val / 256, by omega⟩)) = 0#1 := by
      revert hv
      generalize IntOp.cmpi CmpIPredicate.slt (BitVec.ofNat 32 (k.val % 256)) (tr (ix1 ⟨k.val / 256, by omega⟩)) = b
      revert b
      decide
    rw [h0]
    refine (Finset.sum_eq_zero fun f _ => by rw [HID_at, hc, mul_zero, zero_mul]).trans ?_
    exact (expertOut_zero (fun d f => g (ix4 0 e d f)) (fun d f => u (ix4 0 e d f)) (fun f => dn (ix4 0 e f j))).symm

end Cert.Agree
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Inproj.Agree
public import proofs.«01_k».proof.Proof.Attn.Agree
public import proofs.«01_k».proof.Proof.Attn.Pre
public import proofs.«01_k».proof.Proof.Experts.KLaunch
public import proofs.«01_k».proof.Proof.Experts.ILaunch
public import proofs.«01_k».proof.Proof.Experts.KTables
public import proofs.«01_k».proof.Proof.Experts.ITables
public import proofs.«01_k».proof.Proof.Experts.Pre
public import proofs.«01_k».proof.Proof.Experts.Agree
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention's kernel and its reference end with equal results, when queries and keys are finite. -/
theorem algebraic_attention : Cert.algebraic_KernelIdeal_ReferenceIdeal_pre_finite_queries_keys
    (hKernelIdeal := Cert.KernelIdeal.Gen.facts) (hReferenceIdeal := Cert.ReferenceIdeal.Gen.facts)
    (hPre_finite_queries_keys := Cert.Pre_finite_queries_keys.facts) := by
  pair_intro
  · run_from Cert.KernelIdeal.Value.run_blocks m g
  · run_from Cert.ReferenceIdeal.Value.run m' g'
    obtain ⟨a0, a1, a2, a3⟩ := hagree c
    obtain ⟨hq, hk⟩ := @Cert.Pre_finite_queries_keys.read Cert.Pre_finite_queries_keys.facts _ _ _ _ (hpre c)
    rw [Cert.ReferenceIdeal.Value.res_stages, a0, a1, a2, a3]
    exact (Cert.Agree.result_eq _ _ _ _ hq hk).trans (Cert.KernelIdeal.Value.final m c).symm

/-- The attention's reference runs, leaves its arguments as they were and holds no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The experts' kernel runs and leaves its arguments as they were, when every tile's expert is one of the sixteen. -/
theorem frame_experts : Cert.quiescent_Kernel2 (hKernel2 := Cert.Kernel2.Gen.facts)
    (hPre_experts_in_range := Cert.Pre_experts_in_range.facts) := fun m ρ h =>
  Cert.Kernel2.Experts.run_any m (Cert.Kernel2.Experts.admissible m fun i =>
    @Cert.Pre_experts_in_range.read Cert.Pre_experts_in_range.facts _ _ _ _ _ _ _ _ (h 0) i) ρ

/-- The same of the kernel over the extended reals. -/
theorem frame_experts_ideal : Cert.quiescent_Kernel2Ideal (hKernel2Ideal := Cert.Kernel2Ideal.Gen.facts)
    (hPre_experts_in_range := Cert.Pre_experts_in_range.facts) := fun m ρ h =>
  Cert.Kernel2Ideal.Experts.run_any m (Cert.Kernel2Ideal.Experts.admissible m fun i =>
    @Cert.Pre_experts_in_range.read Cert.Pre_experts_in_range.facts _ _ _ _ _ _ _ _ (h 0) i) ρ

/-- The same where, besides, the tiles' row counts are in order. -/
theorem frame_experts_order : Cert.quiescent_Kernel2Ideal_pre_tiles_in_order (hKernel2Ideal := Cert.Kernel2Ideal.Gen.facts)
    (hPre_tiles_in_order := Cert.Pre_tiles_in_order.facts) := fun m ρ h =>
  Cert.Kernel2Ideal.Experts.run_any m (Cert.Kernel2Ideal.Experts.admissible m
    (@Cert.Pre_tiles_in_order.read Cert.Pre_tiles_in_order.facts _ _ _ _ _ _ _ _ (h 0)).1) ρ

/-- The experts' reference runs, leaves its arguments as they were and holds no semaphore. -/
theorem frame_reference_experts : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- The experts' kernel and its reference end with equal results, when every tile's expert is one of the sixteen and the tiles' row
    counts are in order. -/
theorem algebraic_experts : Cert.algebraic_Kernel2Ideal_Reference2Ideal_pre_tiles_in_order
    (hKernel2Ideal := Cert.Kernel2Ideal.Gen.facts) (hReference2Ideal := Cert.Reference2Ideal.Gen.facts)
    (hPre_tiles_in_order := Cert.Pre_tiles_in_order.facts) := by
  pair_intro
  · run_from Cert.Kernel2Ideal.Experts.run_result m (Cert.Kernel2Ideal.Experts.admissible m (@Cert.Pre_tiles_in_order.read Cert.Pre_tiles_in_order.facts _ _ _ _ _ _ _ _ (hpre 0)).1) g
      (@Cert.Pre_tiles_in_order.read Cert.Pre_tiles_in_order.facts _ _ _ _ _ _ _ _ (hpre 0)).1
      (Cert.Kernel2Ideal.Experts.good m _ g (@Cert.Pre_tiles_in_order.read Cert.Pre_tiles_in_order.facts _ _ _ _ _ _ _ _ (hpre 0)).1
        (@Cert.Pre_tiles_in_order.read Cert.Pre_tiles_in_order.facts _ _ _ _ _ _ _ _ (hpre 0)).2.1
        (@Cert.Pre_tiles_in_order.read Cert.Pre_tiles_in_order.facts _ _ _ _ _ _ _ _ (hpre 0)).2.2)
  · run_from Cert.Reference2Ideal.Value.run m' g'
    obtain ⟨a0, a1, a2, a3, a4, a5⟩ := hagree c
    rw [Cert.Reference2Ideal.Stages.res_stages, a0, a1, a2, a3, a4, a5]
    exact Cert.Agree.out_result _ _ _ _ _ _ (@Cert.Pre_tiles_in_order.read Cert.Pre_tiles_in_order.facts _ _ _ _ _ _ _ _ (hpre c)).1

/-- The input projection's reference runs, leaves its arguments as they were and holds no semaphore. -/
theorem frame_reference_inproj : Cert.quiescent_Reference3Ideal (hReference3Ideal := Cert.Reference3Ideal.Gen.facts) := fun m ρ _ =>
  (θ_run Cert.Reference3Ideal.defs _ _).mono (fun r h => ⟨fun c => (h c).2.2.2.2, sem_eq_zero_of_no_sems (by decide) r.2⟩)
    (Cert.Reference3Ideal.Value.run m ρ)

/-- The input projection's kernel and its reference end with equal results, for any arguments. -/
theorem algebraic_inproj : Cert.algebraic_Kernel3Ideal_Reference3Ideal
    (hKernel3Ideal := Cert.Kernel3Ideal.Gen.facts) (hReference3Ideal := Cert.Reference3Ideal.Gen.facts) := by
  pair_intro
  · run_from Cert.Kernel3Ideal.Value.run_result m g
  · run_from Cert.Reference3Ideal.Stages.run_stages m' g'
    · exact Cert.Agree.Inproj.queries _ _ _ _ _
    · exact Cert.Agree.Inproj.keys _ _ _ _ _
    · exact Cert.Agree.Inproj.values _ _
    · exact Cert.Agree.Inproj.states _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_finite_queries_keys.facts, Cert.Pre_experts_in_range.facts, Cert.Pre_tiles_in_order.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  frame_experts, frame_experts_ideal, frame_experts_order, frame_reference_experts,
  fun m ρ _ => frame_reference_experts m ρ trivial,
  fun m ρ _ => Cert.Kernel3.Gen.frame m ρ,
  fun m ρ _ => Cert.Kernel3Ideal.Gen.frame m ρ,
  frame_reference_inproj,
  trivial, algebraic_attention, trivial, algebraic_experts, trivial, algebraic_inproj⟩

end Cert.Proof

end
